-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_decays_finite [hPre_decays_finite : Cert.Pre_decays_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_decays_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_decays_finite [hPre_decays_finite : Cert.Pre_decays_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_decays_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4)) (m ((c.tc : Thread Cert.Reference8Ideal.nD Cert.Reference8Ideal.τ).loc Cert.Reference8Ideal.main_arg5)) (m ((c.tc : Thread Cert.Reference8Ideal.nD Cert.Reference8Ideal.τ).loc Cert.Reference8Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Kernel8Ideal_pre_decays_finite [hKernel8Ideal : Cert.Kernel8Ideal.Facts] [hPre_decays_finite : Cert.Pre_decays_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_decays_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Reference8Ideal_pre_decays_finite [hReference8Ideal : Cert.Reference8Ideal.Facts] [hPre_decays_finite : Cert.Pre_decays_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_decays_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v36)) (v1 : (c : Dev Cert.Kernel4Ideal.nD) → Buf (Elt Ideal) ((c.tc : Thread Cert.Kernel4Ideal.nD Cert.Kernel4Ideal.τ).loc Cert.Kernel4Ideal.main_v23)) (v2 : (c : Dev Cert.Kernel4Ideal.nD) → Buf (Elt Ideal) ((c.tc : Thread Cert.Kernel4Ideal.nD Cert.Kernel4Ideal.τ).loc Cert.Kernel4Ideal.main_v24)) (v3 : (c : Dev Cert.Kernel4Ideal.nD) → Buf (Elt Ideal) ((c.tc : Thread Cert.Kernel4Ideal.nD Cert.Kernel4Ideal.τ).loc Cert.Kernel4Ideal.main_v25)) (v4 : (c : Dev Cert.Kernel4Ideal.nD) → Buf (Elt Ideal) ((c.tc : Thread Cert.Kernel4Ideal.nD Cert.Kernel4Ideal.τ).loc Cert.Kernel4Ideal.main_v26)) (v5 : (c : Dev Cert.Kernel4Ideal.nD) → Buf (Elt Ideal) ((c.tc : Thread Cert.Kernel4Ideal.nD Cert.Kernel4Ideal.τ).loc Cert.Kernel4Ideal.main_v27)) (v6 : (c : Dev Cert.Kernel4Ideal.nD) → Buf (Elt Ideal) ((c.tc : Thread Cert.Kernel4Ideal.nD Cert.Kernel4Ideal.τ).loc Cert.Kernel4Ideal.main_v28)) (v7 : (c : Dev Cert.Kernel4Ideal.nD) → Buf (Elt Ideal) ((c.tc : Thread Cert.Kernel4Ideal.nD Cert.Kernel4Ideal.τ).loc Cert.Kernel4Ideal.main_v29)) (v8 : (c : Dev Cert.Kernel4Ideal.nD) → Buf (Elt Ideal) ((c.tc : Thread Cert.Kernel4Ideal.nD Cert.Kernel4Ideal.τ).loc Cert.Kernel4Ideal.main_v30)) (v9 : (c : Dev Cert.Kernel4Ideal.nD) → Buf (Elt Ideal) ((c.tc : Thread Cert.Kernel4Ideal.nD Cert.Kernel4Ideal.τ).loc Cert.Kernel4Ideal.main_v31)) (v10 : (c : Dev Cert.Kernel4Ideal.nD) → Buf (Elt Ideal) ((c.tc : Thread Cert.Kernel4Ideal.nD Cert.Kernel4Ideal.τ).loc Cert.Kernel4Ideal.main_v32)) (v11 : (c : Dev Cert.Kernel4Ideal.nD) → Buf (Elt Ideal) ((c.tc : Thread Cert.Kernel4Ideal.nD Cert.Kernel4Ideal.τ).loc Cert.Kernel4Ideal.main_v33)) (v12 : (c : Dev Cert.Kernel4Ideal.nD) → Buf (Elt Ideal) ((c.tc : Thread Cert.Kernel4Ideal.nD Cert.Kernel4Ideal.τ).loc Cert.Kernel4Ideal.main_v34)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v36) = v0 c
          ∧ r.2.mem ((c.tc : Thread Cert.Kernel4Ideal.nD Cert.Kernel4Ideal.τ).loc Cert.Kernel4Ideal.main_v23) = v1 c
          ∧ r.2.mem ((c.tc : Thread Cert.Kernel4Ideal.nD Cert.Kernel4Ideal.τ).loc Cert.Kernel4Ideal.main_v24) = v2 c
          ∧ r.2.mem ((c.tc : Thread Cert.Kernel4Ideal.nD Cert.Kernel4Ideal.τ).loc Cert.Kernel4Ideal.main_v25) = v3 c
          ∧ r.2.mem ((c.tc : Thread Cert.Kernel4Ideal.nD Cert.Kernel4Ideal.τ).loc Cert.Kernel4Ideal.main_v26) = v4 c
          ∧ r.2.mem ((c.tc : Thread Cert.Kernel4Ideal.nD Cert.Kernel4Ideal.τ).loc Cert.Kernel4Ideal.main_v27) = v5 c
          ∧ r.2.mem ((c.tc : Thread Cert.Kernel4Ideal.nD Cert.Kernel4Ideal.τ).loc Cert.Kernel4Ideal.main_v28) = v6 c
          ∧ r.2.mem ((c.tc : Thread Cert.Kernel4Ideal.nD Cert.Kernel4Ideal.τ).loc Cert.Kernel4Ideal.main_v29) = v7 c
          ∧ r.2.mem ((c.tc : Thread Cert.Kernel4Ideal.nD Cert.Kernel4Ideal.τ).loc Cert.Kernel4Ideal.main_v30) = v8 c
          ∧ r.2.mem ((c.tc : Thread Cert.Kernel4Ideal.nD Cert.Kernel4Ideal.τ).loc Cert.Kernel4Ideal.main_v31) = v9 c
          ∧ r.2.mem ((c.tc : Thread Cert.Kernel4Ideal.nD Cert.Kernel4Ideal.τ).loc Cert.Kernel4Ideal.main_v32) = v10 c
          ∧ r.2.mem ((c.tc : Thread Cert.Kernel4Ideal.nD Cert.Kernel4Ideal.τ).loc Cert.Kernel4Ideal.main_v33) = v11 c
          ∧ r.2.mem ((c.tc : Thread Cert.Kernel4Ideal.nD Cert.Kernel4Ideal.τ).loc Cert.Kernel4Ideal.main_v34) = v12 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_v15) = v2 c
          ∧ r.2.mem ((c.tc : Thread Cert.Reference4Ideal.nD Cert.Reference4Ideal.τ).loc Cert.Reference4Ideal.main_v16) = v3 c
          ∧ r.2.mem ((c.tc : Thread Cert.Reference4Ideal.nD Cert.Reference4Ideal.τ).loc Cert.Reference4Ideal.main_v18) = v4 c
          ∧ r.2.mem ((c.tc : Thread Cert.Reference4Ideal.nD Cert.Reference4Ideal.τ).loc Cert.Reference4Ideal.main_v19) = v5 c
          ∧ r.2.mem ((c.tc : Thread Cert.Reference4Ideal.nD Cert.Reference4Ideal.τ).loc Cert.Reference4Ideal.main_v20) = v6 c
          ∧ r.2.mem ((c.tc : Thread Cert.Reference4Ideal.nD Cert.Reference4Ideal.τ).loc Cert.Reference4Ideal.main_v21) = v7 c
          ∧ r.2.mem ((c.tc : Thread Cert.Reference4Ideal.nD Cert.Reference4Ideal.τ).loc Cert.Reference4Ideal.main_v22) = v8 c
          ∧ r.2.mem ((c.tc : Thread Cert.Reference4Ideal.nD Cert.Reference4Ideal.τ).loc Cert.Reference4Ideal.main_v23) = v9 c
          ∧ r.2.mem ((c.tc : Thread Cert.Reference4Ideal.nD Cert.Reference4Ideal.τ).loc Cert.Reference4Ideal.main_v24) = v10 c
          ∧ r.2.mem ((c.tc : Thread Cert.Reference4Ideal.nD Cert.Reference4Ideal.τ).loc Cert.Reference4Ideal.main_v25) = v11 c
          ∧ r.2.mem ((c.tc : Thread Cert.Reference4Ideal.nD Cert.Reference4Ideal.τ).loc Cert.Reference4Ideal.main_v26) = v12 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v36)) (v1 : (c : Dev Cert.Kernel5Ideal.nD) → Buf (Elt Ideal) ((c.tc : Thread Cert.Kernel5Ideal.nD Cert.Kernel5Ideal.τ).loc Cert.Kernel5Ideal.main_v23)) (v2 : (c : Dev Cert.Kernel5Ideal.nD) → Buf (Elt Ideal) ((c.tc : Thread Cert.Kernel5Ideal.nD Cert.Kernel5Ideal.τ).loc Cert.Kernel5Ideal.main_v24)) (v3 : (c : Dev Cert.Kernel5Ideal.nD) → Buf (Elt Ideal) ((c.tc : Thread Cert.Kernel5Ideal.nD Cert.Kernel5Ideal.τ).loc Cert.Kernel5Ideal.main_v25)) (v4 : (c : Dev Cert.Kernel5Ideal.nD) → Buf (Elt Ideal) ((c.tc : Thread Cert.Kernel5Ideal.nD Cert.Kernel5Ideal.τ).loc Cert.Kernel5Ideal.main_v26)) (v5 : (c : Dev Cert.Kernel5Ideal.nD) → Buf (Elt Ideal) ((c.tc : Thread Cert.Kernel5Ideal.nD Cert.Kernel5Ideal.τ).loc Cert.Kernel5Ideal.main_v27)) (v6 : (c : Dev Cert.Kernel5Ideal.nD) → Buf (Elt Ideal) ((c.tc : Thread Cert.Kernel5Ideal.nD Cert.Kernel5Ideal.τ).loc Cert.Kernel5Ideal.main_v28)) (v7 : (c : Dev Cert.Kernel5Ideal.nD) → Buf (Elt Ideal) ((c.tc : Thread Cert.Kernel5Ideal.nD Cert.Kernel5Ideal.τ).loc Cert.Kernel5Ideal.main_v29)) (v8 : (c : Dev Cert.Kernel5Ideal.nD) → Buf (Elt Ideal) ((c.tc : Thread Cert.Kernel5Ideal.nD Cert.Kernel5Ideal.τ).loc Cert.Kernel5Ideal.main_v30)) (v9 : (c : Dev Cert.Kernel5Ideal.nD) → Buf (Elt Ideal) ((c.tc : Thread Cert.Kernel5Ideal.nD Cert.Kernel5Ideal.τ).loc Cert.Kernel5Ideal.main_v31)) (v10 : (c : Dev Cert.Kernel5Ideal.nD) → Buf (Elt Ideal) ((c.tc : Thread Cert.Kernel5Ideal.nD Cert.Kernel5Ideal.τ).loc Cert.Kernel5Ideal.main_v32)) (v11 : (c : Dev Cert.Kernel5Ideal.nD) → Buf (Elt Ideal) ((c.tc : Thread Cert.Kernel5Ideal.nD Cert.Kernel5Ideal.τ).loc Cert.Kernel5Ideal.main_v33)) (v12 : (c : Dev Cert.Kernel5Ideal.nD) → Buf (Elt Ideal) ((c.tc : Thread Cert.Kernel5Ideal.nD Cert.Kernel5Ideal.τ).loc Cert.Kernel5Ideal.main_v34)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v36) = v0 c
          ∧ r.2.mem ((c.tc : Thread Cert.Kernel5Ideal.nD Cert.Kernel5Ideal.τ).loc Cert.Kernel5Ideal.main_v23) = v1 c
          ∧ r.2.mem ((c.tc : Thread Cert.Kernel5Ideal.nD Cert.Kernel5Ideal.τ).loc Cert.Kernel5Ideal.main_v24) = v2 c
          ∧ r.2.mem ((c.tc : Thread Cert.Kernel5Ideal.nD Cert.Kernel5Ideal.τ).loc Cert.Kernel5Ideal.main_v25) = v3 c
          ∧ r.2.mem ((c.tc : Thread Cert.Kernel5Ideal.nD Cert.Kernel5Ideal.τ).loc Cert.Kernel5Ideal.main_v26) = v4 c
          ∧ r.2.mem ((c.tc : Thread Cert.Kernel5Ideal.nD Cert.Kernel5Ideal.τ).loc Cert.Kernel5Ideal.main_v27) = v5 c
          ∧ r.2.mem ((c.tc : Thread Cert.Kernel5Ideal.nD Cert.Kernel5Ideal.τ).loc Cert.Kernel5Ideal.main_v28) = v6 c
          ∧ r.2.mem ((c.tc : Thread Cert.Kernel5Ideal.nD Cert.Kernel5Ideal.τ).loc Cert.Kernel5Ideal.main_v29) = v7 c
          ∧ r.2.mem ((c.tc : Thread Cert.Kernel5Ideal.nD Cert.Kernel5Ideal.τ).loc Cert.Kernel5Ideal.main_v30) = v8 c
          ∧ r.2.mem ((c.tc : Thread Cert.Kernel5Ideal.nD Cert.Kernel5Ideal.τ).loc Cert.Kernel5Ideal.main_v31) = v9 c
          ∧ r.2.mem ((c.tc : Thread Cert.Kernel5Ideal.nD Cert.Kernel5Ideal.τ).loc Cert.Kernel5Ideal.main_v32) = v10 c
          ∧ r.2.mem ((c.tc : Thread Cert.Kernel5Ideal.nD Cert.Kernel5Ideal.τ).loc Cert.Kernel5Ideal.main_v33) = v11 c
          ∧ r.2.mem ((c.tc : Thread Cert.Kernel5Ideal.nD Cert.Kernel5Ideal.τ).loc Cert.Kernel5Ideal.main_v34) = v12 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_v14) = v2 c
          ∧ r.2.mem ((c.tc : Thread Cert.Reference5Ideal.nD Cert.Reference5Ideal.τ).loc Cert.Reference5Ideal.main_v15) = v3 c
          ∧ r.2.mem ((c.tc : Thread Cert.Reference5Ideal.nD Cert.Reference5Ideal.τ).loc Cert.Reference5Ideal.main_v17) = v4 c
          ∧ r.2.mem ((c.tc : Thread Cert.Reference5Ideal.nD Cert.Reference5Ideal.τ).loc Cert.Reference5Ideal.main_v18) = v5 c
          ∧ r.2.mem ((c.tc : Thread Cert.Reference5Ideal.nD Cert.Reference5Ideal.τ).loc Cert.Reference5Ideal.main_v19) = v6 c
          ∧ r.2.mem ((c.tc : Thread Cert.Reference5Ideal.nD Cert.Reference5Ideal.τ).loc Cert.Reference5Ideal.main_v20) = v7 c
          ∧ r.2.mem ((c.tc : Thread Cert.Reference5Ideal.nD Cert.Reference5Ideal.τ).loc Cert.Reference5Ideal.main_v21) = v8 c
          ∧ r.2.mem ((c.tc : Thread Cert.Reference5Ideal.nD Cert.Reference5Ideal.τ).loc Cert.Reference5Ideal.main_v22) = v9 c
          ∧ r.2.mem ((c.tc : Thread Cert.Reference5Ideal.nD Cert.Reference5Ideal.τ).loc Cert.Reference5Ideal.main_v23) = v10 c
          ∧ r.2.mem ((c.tc : Thread Cert.Reference5Ideal.nD Cert.Reference5Ideal.τ).loc Cert.Reference5Ideal.main_v24) = v11 c
          ∧ r.2.mem ((c.tc : Thread Cert.Reference5Ideal.nD Cert.Reference5Ideal.τ).loc Cert.Reference5Ideal.main_v25) = v12 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v5_0)) (v1 : (c : Dev Cert.Kernel6Ideal.nD) → Buf (Elt Ideal) ((c.tc : Thread Cert.Kernel6Ideal.nD Cert.Kernel6Ideal.τ).loc Cert.Kernel6Ideal.main_v5_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5_0) = v0 c
          ∧ r.2.mem ((c.tc : Thread Cert.Kernel6Ideal.nD Cert.Kernel6Ideal.τ).loc Cert.Kernel6Ideal.main_v5_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v16) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v16) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal_pre_decays_finite [hKernel8Ideal : Cert.Kernel8Ideal.Facts] [hReference8Ideal : Cert.Reference8Ideal.Facts] [hPre_decays_finite : Cert.Pre_decays_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_decays_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v18)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v18) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v25) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_decays_finite : Cert.Pre_decays_finite.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_decays_finite (hKernel8Ideal := hKernel8Ideal) (hPre_decays_finite := hPre_decays_finite)
    ∧ quiescent_Reference8Ideal (hReference8Ideal := hReference8Ideal)
    ∧ quiescent_Reference8Ideal_pre_decays_finite (hReference8Ideal := hReference8Ideal) (hPre_decays_finite := hPre_decays_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_decays_finite (hKernel8Ideal := hKernel8Ideal) (hReference8Ideal := hReference8Ideal) (hPre_decays_finite := hPre_decays_finite)
-- ==== Pre_decays_finite.lean ====
abbrev S16x16x256 : Shape := ⟨3, ![16, 16, 256]⟩
abbrev S16x16x512 : Shape := ⟨3, ![16, 16, 512]⟩
abbrev S128 : Shape := ⟨1, ![128]⟩
abbrev S16x4x64x128 : Shape := ⟨4, ![16, 4, 64, 128]⟩
abbrev S_ : Shape := ⟨0, ![]⟩

class Facts : Prop where
  bcast_S_S16x16x256 : S_.BroadcastsInDim S16x16x256 (![] : Fin 0 → Fin S16x16x256.rank)
  reducesTo_S16x16x256_S_d0_1_2 : S16x16x256.ReducesTo [0, 1, 2] S_
  h_S_ : 0 < S_.numel

variable [Facts]

def fn {F : FTy → Type} [FloatOps F] (main_arg0 : FVec F S16x16x256 .f32) (main_arg1 : FVec F S16x16x256 .f32) (main_arg2 : FVec F S16x16x512 .bf16) (main_arg3 : FVec F S16x16x256 .f32) (main_arg4 : FVec F S16x16x512 .f32) (main_arg5 : FVec F S128 .f32) (main_arg6 : FVec F S16x4x64x128 .f32) : IVec S_ 1 :=
  let main_v0 : FVec F S16x16x256 .f32 := Host.absf main_arg3
  let main_cst : FVec F S_ .f32 := constant S_ .f32 0x7F800000#32
  let main_v1 : FVec F S16x16x256 .f32 := broadcastInDim S16x16x256 ![] bcast_S_S16x16x256 main_cst
  let main_v2 : IVec S16x16x256 1 := cmpf .olt main_v0 main_v1
  let main_c : IVec S_ 1 := constantI S_ 1 1#1
  let main_v3 : IVec S_ 1 := (fun x v => Host.reduce IntOp.andi x v reducesTo_S16x16x256_S_d0_1_2 h_S_) main_v2 main_c
  main_v3
-- ==== Kernel.lean ====
abbrev S4x8192x1024 : Shape := ⟨3, ![4, 8192, 1024]⟩
abbrev S4x16x8192 : Shape := ⟨3, ![4, 16, 8192]⟩
abbrev S4x8192x256 : Shape := ⟨3, ![4, 8192, 256]⟩
abbrev S4x16x8x128 : Shape := ⟨4, ![4, 16, 8, 128]⟩
abbrev S1x256x1024 : Shape := ⟨3, ![1, 256, 1024]⟩
abbrev S1x16x256 : Shape := ⟨3, ![1, 16, 256]⟩
abbrev S1x8192x256 : Shape := ⟨3, ![1, 8192, 256]⟩
abbrev S1x16x8x128 : Shape := ⟨4, ![1, 16, 8, 128]⟩
abbrev S8192x256 : Shape := ⟨2, ![8192, 256]⟩
abbrev S32x256x256 : Shape := ⟨3, ![32, 256, 256]⟩
abbrev S2x128x1024 : Shape := ⟨3, ![2, 128, 1024]⟩
abbrev S2x1x1024 : Shape := ⟨3, ![2, 1, 1024]⟩
abbrev S1x256 : Shape := ⟨2, ![1, 256]⟩
abbrev S1x256x128 : Shape := ⟨3, ![1, 256, 128]⟩
abbrev S256x128 : Shape := ⟨2, ![256, 128]⟩
abbrev S2048x128 : Shape := ⟨2, ![2048, 128]⟩
abbrev S256x2048 : Shape := ⟨2, ![256, 2048]⟩
abbrev S256x256 : Shape := ⟨2, ![256, 256]⟩
abbrev S1x1x256 : Shape := ⟨3, ![1, 1, 256]⟩
abbrev S8x256 : Shape := ⟨2, ![8, 256]⟩
abbrev S1x8x256 : Shape := ⟨3, ![1, 8, 256]⟩
abbrev S256x1 : Shape := ⟨2, ![256, 1]⟩
abbrev S1x256x256 : Shape := ⟨3, ![1, 256, 256]⟩
abbrev S32x8x256 : Shape := ⟨3, ![32, 8, 256]⟩
abbrev S256 : Shape := ⟨1, ![256]⟩
abbrev S224x256 : Shape := ⟨2, ![224, 256]⟩
abbrev S1x224x256 : Shape := ⟨3, ![1, 224, 256]⟩
abbrev S28x8x256 : Shape := ⟨3, ![28, 8, 256]⟩
abbrev S192x256 : Shape := ⟨2, ![192, 256]⟩
abbrev S1x192x256 : Shape := ⟨3, ![1, 192, 256]⟩
abbrev S24x8x256 : Shape := ⟨3, ![24, 8, 256]⟩
abbrev S160x256 : Shape := ⟨2, ![160, 256]⟩
abbrev S1x160x256 : Shape := ⟨3, ![1, 160, 256]⟩
abbrev S20x8x256 : Shape := ⟨3, ![20, 8, 256]⟩
abbrev S128x256 : Shape := ⟨2, ![128, 256]⟩
abbrev S1x128x256 : Shape := ⟨3, ![1, 128, 256]⟩
abbrev S16x8x256 : Shape := ⟨3, ![16, 8, 256]⟩
abbrev S96x256 : Shape := ⟨2, ![96, 256]⟩
abbrev S1x96x256 : Shape := ⟨3, ![1, 96, 256]⟩
abbrev S12x8x256 : Shape := ⟨3, ![12, 8, 256]⟩
abbrev S64x256 : Shape := ⟨2, ![64, 256]⟩
abbrev S1x64x256 : Shape := ⟨3, ![1, 64, 256]⟩
abbrev S8x8x256 : Shape := ⟨3, ![8, 8, 256]⟩
abbrev S32x256 : Shape := ⟨2, ![32, 256]⟩
abbrev S1x32x256 : Shape := ⟨3, ![1, 32, 256]⟩
abbrev S4x8x256 : Shape := ⟨3, ![4, 8, 256]⟩
abbrev S1 : Shape := ⟨1, ![1]⟩
abbrev S1x1x1 : Shape := ⟨3, ![1, 1, 1]⟩
abbrev S2048x1 : Shape := ⟨2, ![2048, 1]⟩
abbrev S2048x256 : Shape := ⟨2, ![2048, 256]⟩
abbrev S256x8x256 : Shape := ⟨3, ![256, 8, 256]⟩
abbrev S512x1 : Shape := ⟨2, ![512, 1]⟩
abbrev S512x256 : Shape := ⟨2, ![512, 256]⟩
abbrev S64x8x256 : Shape := ⟨3, ![64, 8, 256]⟩
abbrev S1024x128 : Shape := ⟨2, ![1024, 128]⟩
abbrev S16x8x128 : Shape := ⟨3, ![16, 8, 128]⟩
abbrev S1x1x1x1 : Shape := ⟨4, ![1, 1, 1, 1]⟩
abbrev S8x128 : Shape := ⟨2, ![8, 128]⟩
abbrev S8x1024 : Shape := ⟨2, ![8, 1024]⟩
abbrev S1x1024 : Shape := ⟨2, ![1, 1024]⟩
abbrev S1x1x1024 : Shape := ⟨3, ![1, 1, 1024]⟩
abbrev S1x2048x128 : Shape := ⟨3, ![1, 2048, 128]⟩
abbrev S2048x1024 : Shape := ⟨2, ![2048, 1024]⟩
abbrev S1024 : Shape := ⟨1, ![1024]⟩
abbrev S1x128x1024 : Shape := ⟨3, ![1, 128, 1024]⟩
abbrev S128x1024 : Shape := ⟨2, ![128, 1024]⟩
abbrev S1x512x128 : Shape := ⟨3, ![1, 512, 128]⟩
abbrev S512x128 : Shape := ⟨2, ![512, 128]⟩
abbrev S512x1024 : Shape := ⟨2, ![512, 1024]⟩

abbrev nBuf : Space → Nat
  | .hbm => 8
  | .vmem => 21
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .bf16⟩
  | .hbm, ⟨2, _⟩ => ⟨S4x16x8192, .f32⟩
  | .hbm, ⟨3, _⟩ => ⟨S4x8192x256, .bf16⟩
  | .hbm, ⟨4, _⟩ => ⟨S4x8192x256, .bf16⟩
  | .hbm, ⟨5, _⟩ => ⟨S4x8192x256, .bf16⟩
  | .hbm, ⟨6, _⟩ => ⟨S4x16x8x128, .f32⟩
  | .hbm, ⟨7, _⟩ => ⟨S4x8192x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x16x256, .f32⟩
  | .local _ .vmem, ⟨5, _⟩ => ⟨S1x16x256, .f32⟩
  | .local _ .vmem, ⟨6, _⟩ => ⟨S1x8192x256, .bf16⟩
  | .local _ .vmem, ⟨7, _⟩ => ⟨S1x8192x256, .bf16⟩
  | .local _ .vmem, ⟨8, _⟩ => ⟨S1x8192x256, .bf16⟩
  | .local _ .vmem, ⟨9, _⟩ => ⟨S1x8192x256, .bf16⟩
  | .local _ .vmem, ⟨10, _⟩ => ⟨S1x8192x256, .bf16⟩
  | .local _ .vmem, ⟨11, _⟩ => ⟨S1x8192x256, .bf16⟩
  | .local _ .vmem, ⟨12, _⟩ => ⟨S1x16x8x128, .f32⟩
  | .local _ .vmem, ⟨13, _⟩ => ⟨S1x16x8x128, .f32⟩
  | .local _ .vmem, ⟨14, _⟩ => ⟨S1x256x1024, .bf16⟩
  | .local _ .vmem, ⟨15, _⟩ => ⟨S1x256x1024, .bf16⟩
  | .local _ .vmem, ⟨16, _⟩ => ⟨S8192x256, .i32⟩
  | .local _ .vmem, ⟨17, _⟩ => ⟨S32x256x256, .i32⟩
  | .local _ .vmem, ⟨18, _⟩ => ⟨S2x128x1024, .f32⟩
  | .local _ .vmem, ⟨19, _⟩ => ⟨S2x1x1024, .f32⟩
  | .local _ .vmem, ⟨20, _⟩ => ⟨S2x1x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![4, 32], ![false, false]⟩

@[reducible] def k0_t1_loop (i : grid0.Coords) : Scf.Loop 32 :=
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_48 : BitVec 32 := 1#32
  ⟨c0_i32_46, v101, c1_i32_48⟩
def k0_mult1 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  v284
def k0_mult2 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c0_i32_160 : BitVec 32 := 0#32
  let v286 : BitVec 32 := Scalar.addi v285 c0_i32_160
  v286
def k0_off1 (i : grid0.Coords) (k0_t1 : Fin (k0_t1_loop i).trips) (c0_i32_160 : BitVec 32) : Fin 3 → Nat :=
  let c0_161 : Index := 0#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let v288 : Index := Scalar.indexCast v287
  let c0_162 : Index := 0#32
  ![0, v288.toNat, 0]
def k0_off2 (i : grid0.Coords) (k0_t1 : Fin (k0_t1_loop i).trips) (c0_i32_160 : BitVec 32) : Fin 3 → Nat :=
  let c0_164 : Index := 0#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let v292 : Index := Scalar.indexCast v287
  let c128_165 : Index := 128#32
  ![0, v292.toNat, 128]
def k0_off3 (i : grid0.Coords) (k0_t1 : Fin (k0_t1_loop i).trips) (c0_i32_160 : BitVec 32) : Fin 2 → Nat :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let v431 : Index := Scalar.indexCast v287
  let c0_218 : Index := 0#32
  ![v431.toNat, 0]
def k0_mult3 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c0_i32_160 : BitVec 32 := 0#32
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  v1205
def k0_off4 (i : grid0.Coords) (k0_t1 : Fin (k0_t1_loop i).trips) (c0_i32_160 : BitVec 32) : Fin 3 → Nat :=
  let c0_458 : Index := 0#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1207 : Index := Scalar.indexCast v1206
  let c0_459 : Index := 0#32
  ![0, v1207.toNat, 0]
def k0_off5 (i : grid0.Coords) (k0_t1 : Fin (k0_t1_loop i).trips) (c0_i32_160 : BitVec 32) : Fin 3 → Nat :=
  let c1_460 : Index := 1#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1211 : Index := Scalar.indexCast v1206
  let c0_461 : Index := 0#32
  ![1, v1211.toNat, 0]
def k0_off6 (i : grid0.Coords) (k0_t1 : Fin (k0_t1_loop i).trips) (c0_i32_160 : BitVec 32) : Fin 3 → Nat :=
  let c2_462 : Index := 2#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1215 : Index := Scalar.indexCast v1206
  let c0_463 : Index := 0#32
  ![2, v1215.toNat, 0]
def k0_off7 (i : grid0.Coords) (k0_t1 : Fin (k0_t1_loop i).trips) (c0_i32_160 : BitVec 32) : Fin 3 → Nat :=
  let c3_464 : Index := 3#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1219 : Index := Scalar.indexCast v1206
  let c0_465 : Index := 0#32
  ![3, v1219.toNat, 0]
def k0_off8 (i : grid0.Coords) (k0_t1 : Fin (k0_t1_loop i).trips) (c0_i32_160 : BitVec 32) : Fin 3 → Nat :=
  let c4_466 : Index := 4#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1223 : Index := Scalar.indexCast v1206
  let c0_467 : Index := 0#32
  ![4, v1223.toNat, 0]
def k0_off9 (i : grid0.Coords) (k0_t1 : Fin (k0_t1_loop i).trips) (c0_i32_160 : BitVec 32) : Fin 3 → Nat :=
  let c5_468 : Index := 5#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1227 : Index := Scalar.indexCast v1206
  let c0_469 : Index := 0#32
  ![5, v1227.toNat, 0]
def k0_off10 (i : grid0.Coords) (k0_t1 : Fin (k0_t1_loop i).trips) (c0_i32_160 : BitVec 32) : Fin 3 → Nat :=
  let c6_470 : Index := 6#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1231 : Index := Scalar.indexCast v1206
  let c0_471 : Index := 0#32
  ![6, v1231.toNat, 0]
def k0_off11 (i : grid0.Coords) (k0_t1 : Fin (k0_t1_loop i).trips) (c0_i32_160 : BitVec 32) : Fin 3 → Nat :=
  let c7_472 : Index := 7#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1235 : Index := Scalar.indexCast v1206
  let c0_473 : Index := 0#32
  ![7, v1235.toNat, 0]
def k0_off12 (i : grid0.Coords) (k0_t1 : Fin (k0_t1_loop i).trips) (c0_i32_160 : BitVec 32) : Fin 3 → Nat :=
  let c8_474 : Index := 8#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1239 : Index := Scalar.indexCast v1206
  let c0_475 : Index := 0#32
  ![8, v1239.toNat, 0]
def k0_off13 (i : grid0.Coords) (k0_t1 : Fin (k0_t1_loop i).trips) (c0_i32_160 : BitVec 32) : Fin 3 → Nat :=
  let c9_476 : Index := 9#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1243 : Index := Scalar.indexCast v1206
  let c0_477 : Index := 0#32
  ![9, v1243.toNat, 0]
def k0_off14 (i : grid0.Coords) (k0_t1 : Fin (k0_t1_loop i).trips) (c0_i32_160 : BitVec 32) : Fin 3 → Nat :=
  let c10_478 : Index := 10#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1247 : Index := Scalar.indexCast v1206
  let c0_479 : Index := 0#32
  ![10, v1247.toNat, 0]
def k0_off15 (i : grid0.Coords) (k0_t1 : Fin (k0_t1_loop i).trips) (c0_i32_160 : BitVec 32) : Fin 3 → Nat :=
  let c11_480 : Index := 11#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1251 : Index := Scalar.indexCast v1206
  let c0_481 : Index := 0#32
  ![11, v1251.toNat, 0]
def k0_off16 (i : grid0.Coords) (k0_t1 : Fin (k0_t1_loop i).trips) (c0_i32_160 : BitVec 32) : Fin 3 → Nat :=
  let c12_482 : Index := 12#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1255 : Index := Scalar.indexCast v1206
  let c0_483 : Index := 0#32
  ![12, v1255.toNat, 0]
def k0_off17 (i : grid0.Coords) (k0_t1 : Fin (k0_t1_loop i).trips) (c0_i32_160 : BitVec 32) : Fin 3 → Nat :=
  let c13_484 : Index := 13#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1259 : Index := Scalar.indexCast v1206
  let c0_485 : Index := 0#32
  ![13, v1259.toNat, 0]
def k0_off18 (i : grid0.Coords) (k0_t1 : Fin (k0_t1_loop i).trips) (c0_i32_160 : BitVec 32) : Fin 3 → Nat :=
  let c14_486 : Index := 14#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1263 : Index := Scalar.indexCast v1206
  let c0_487 : Index := 0#32
  ![14, v1263.toNat, 0]
def k0_off19 (i : grid0.Coords) (k0_t1 : Fin (k0_t1_loop i).trips) (c0_i32_160 : BitVec 32) : Fin 3 → Nat :=
  let c15_488 : Index := 15#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1267 : Index := Scalar.indexCast v1206
  let c0_489 : Index := 0#32
  ![15, v1267.toNat, 0]
def k0_off20 (i : grid0.Coords) (k0_t1 : Fin (k0_t1_loop i).trips) (c0_i32_160 : BitVec 32) : Fin 3 → Nat :=
  let c16 : Index := 16#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1271 : Index := Scalar.indexCast v1206
  let c0_490 : Index := 0#32
  ![16, v1271.toNat, 0]
def k0_off21 (i : grid0.Coords) (k0_t1 : Fin (k0_t1_loop i).trips) (c0_i32_160 : BitVec 32) : Fin 3 → Nat :=
  let c17 : Index := 17#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1275 : Index := Scalar.indexCast v1206
  let c0_491 : Index := 0#32
  ![17, v1275.toNat, 0]
def k0_off22 (i : grid0.Coords) (k0_t1 : Fin (k0_t1_loop i).trips) (c0_i32_160 : BitVec 32) : Fin 3 → Nat :=
  let c18 : Index := 18#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1279 : Index := Scalar.indexCast v1206
  let c0_492 : Index := 0#32
  ![18, v1279.toNat, 0]
def k0_off23 (i : grid0.Coords) (k0_t1 : Fin (k0_t1_loop i).trips) (c0_i32_160 : BitVec 32) : Fin 3 → Nat :=
  let c19 : Index := 19#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1283 : Index := Scalar.indexCast v1206
  let c0_493 : Index := 0#32
  ![19, v1283.toNat, 0]
def k0_off24 (i : grid0.Coords) (k0_t1 : Fin (k0_t1_loop i).trips) (c0_i32_160 : BitVec 32) : Fin 3 → Nat :=
  let c20 : Index := 20#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1287 : Index := Scalar.indexCast v1206
  let c0_494 : Index := 0#32
  ![20, v1287.toNat, 0]
def k0_off25 (i : grid0.Coords) (k0_t1 : Fin (k0_t1_loop i).trips) (c0_i32_160 : BitVec 32) : Fin 3 → Nat :=
  let c21 : Index := 21#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1291 : Index := Scalar.indexCast v1206
  let c0_495 : Index := 0#32
  ![21, v1291.toNat, 0]
def k0_off26 (i : grid0.Coords) (k0_t1 : Fin (k0_t1_loop i).trips) (c0_i32_160 : BitVec 32) : Fin 3 → Nat :=
  let c22 : Index := 22#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1295 : Index := Scalar.indexCast v1206
  let c0_496 : Index := 0#32
  ![22, v1295.toNat, 0]
def k0_off27 (i : grid0.Coords) (k0_t1 : Fin (k0_t1_loop i).trips) (c0_i32_160 : BitVec 32) : Fin 3 → Nat :=
  let c23 : Index := 23#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1299 : Index := Scalar.indexCast v1206
  let c0_497 : Index := 0#32
  ![23, v1299.toNat, 0]
def k0_off28 (i : grid0.Coords) (k0_t1 : Fin (k0_t1_loop i).trips) (c0_i32_160 : BitVec 32) : Fin 3 → Nat :=
  let c24 : Index := 24#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1303 : Index := Scalar.indexCast v1206
  let c0_498 : Index := 0#32
  ![24, v1303.toNat, 0]
def k0_off29 (i : grid0.Coords) (k0_t1 : Fin (k0_t1_loop i).trips) (c0_i32_160 : BitVec 32) : Fin 3 → Nat :=
  let c25 : Index := 25#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1307 : Index := Scalar.indexCast v1206
  let c0_499 : Index := 0#32
  ![25, v1307.toNat, 0]
def k0_off30 (i : grid0.Coords) (k0_t1 : Fin (k0_t1_loop i).trips) (c0_i32_160 : BitVec 32) : Fin 3 → Nat :=
  let c26 : Index := 26#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1311 : Index := Scalar.indexCast v1206
  let c0_500 : Index := 0#32
  ![26, v1311.toNat, 0]
def k0_off31 (i : grid0.Coords) (k0_t1 : Fin (k0_t1_loop i).trips) (c0_i32_160 : BitVec 32) : Fin 3 → Nat :=
  let c27 : Index := 27#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1315 : Index := Scalar.indexCast v1206
  let c0_501 : Index := 0#32
  ![27, v1315.toNat, 0]
def k0_off32 (i : grid0.Coords) (k0_t1 : Fin (k0_t1_loop i).trips) (c0_i32_160 : BitVec 32) : Fin 3 → Nat :=
  let c28 : Index := 28#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1319 : Index := Scalar.indexCast v1206
  let c0_502 : Index := 0#32
  ![28, v1319.toNat, 0]
def k0_off33 (i : grid0.Coords) (k0_t1 : Fin (k0_t1_loop i).trips) (c0_i32_160 : BitVec 32) : Fin 3 → Nat :=
  let c29 : Index := 29#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1323 : Index := Scalar.indexCast v1206
  let c0_503 : Index := 0#32
  ![29, v1323.toNat, 0]
def k0_off34 (i : grid0.Coords) (k0_t1 : Fin (k0_t1_loop i).trips) (c0_i32_160 : BitVec 32) : Fin 3 → Nat :=
  let c30 : Index := 30#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1327 : Index := Scalar.indexCast v1206
  let c0_504 : Index := 0#32
  ![30, v1327.toNat, 0]
def k0_off35 (i : grid0.Coords) (k0_t1 : Fin (k0_t1_loop i).trips) (c0_i32_160 : BitVec 32) : Fin 3 → Nat :=
  let c31 : Index := 31#32
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1331 : Index := Scalar.indexCast v1206
  let c0_505 : Index := 0#32
  ![31, v1331.toNat, 0]
def k0_mult4 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c256_i32_506 : BitVec 32 := 256#32
  let v1335 : BitVec 32 := Scalar.addi v285 c256_i32_506
  v1335
def k0_mult5 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c256_i32_506 : BitVec 32 := 256#32
  let v1335 : BitVec 32 := Scalar.addi v285 c256_i32_506
  let v1336 : BitVec 32 := v1335
  let c0_i32_823 : BitVec 32 := 0#32
  let v2239 : BitVec 1 := Scalar.cmpi .sgt v1336 c0_i32_823
  let v2240 : BitVec 32 := Scalar.extui v2239
  let c0_i32_824 : BitVec 32 := 0#32
  let v2241 : BitVec 1 := Scalar.cmpi .slt v1336 c0_i32_824
  let v2242 : BitVec 32 := Scalar.extui v2241
  let v2243 : BitVec 32 := Scalar.subi v2240 v2242
  let c32_i32_822 : BitVec 32 := 32#32
  let c0_i32_825 : BitVec 32 := 0#32
  let v2244 : BitVec 1 := Scalar.cmpi .sgt c32_i32_822 c0_i32_825
  let v2245 : BitVec 32 := Scalar.extui v2244
  let c0_i32_826 : BitVec 32 := 0#32
  let v2246 : BitVec 1 := Scalar.cmpi .slt c32_i32_822 c0_i32_826
  let v2247 : BitVec 32 := Scalar.extui v2246
  let v2248 : BitVec 32 := Scalar.subi v2245 v2247
  let v2249 : BitVec 1 := Scalar.cmpi .ne v2243 v2248
  let v2250 : BitVec 32 := Scalar.remsi v1336 c32_i32_822
  let c0_i32_827 : BitVec 32 := 0#32
  let v2251 : BitVec 1 := Scalar.cmpi .ne v2250 c0_i32_827
  let v2252 : BitVec 1 := Scalar.andi v2249 v2251
  let v2238 : BitVec 32 := Scalar.divsi v1336 c32_i32_822
  let c1_i32_828 : BitVec 32 := 1#32
  let v2253 : BitVec 32 := Scalar.subi v2238 c1_i32_828
  let v2254 : BitVec 32 := Scalar.select v2252 v2253 v2238
  v2254
def k0_mult6 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c512_i32_893 : BitVec 32 := 512#32
  let v2384 : BitVec 32 := Scalar.addi v285 c512_i32_893
  v2384
def k0_mult7 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c512_i32_893 : BitVec 32 := 512#32
  let v2384 : BitVec 32 := Scalar.addi v285 c512_i32_893
  let v2385 : BitVec 32 := v2384
  let c0_i32_1210 : BitVec 32 := 0#32
  let v3288 : BitVec 1 := Scalar.cmpi .sgt v2385 c0_i32_1210
  let v3289 : BitVec 32 := Scalar.extui v3288
  let c0_i32_1211 : BitVec 32 := 0#32
  let v3290 : BitVec 1 := Scalar.cmpi .slt v2385 c0_i32_1211
  let v3291 : BitVec 32 := Scalar.extui v3290
  let v3292 : BitVec 32 := Scalar.subi v3289 v3291
  let c32_i32_1209 : BitVec 32 := 32#32
  let c0_i32_1212 : BitVec 32 := 0#32
  let v3293 : BitVec 1 := Scalar.cmpi .sgt c32_i32_1209 c0_i32_1212
  let v3294 : BitVec 32 := Scalar.extui v3293
  let c0_i32_1213 : BitVec 32 := 0#32
  let v3295 : BitVec 1 := Scalar.cmpi .slt c32_i32_1209 c0_i32_1213
  let v3296 : BitVec 32 := Scalar.extui v3295
  let v3297 : BitVec 32 := Scalar.subi v3294 v3296
  let v3298 : BitVec 1 := Scalar.cmpi .ne v3292 v3297
  let v3299 : BitVec 32 := Scalar.remsi v2385 c32_i32_1209
  let c0_i32_1214 : BitVec 32 := 0#32
  let v3300 : BitVec 1 := Scalar.cmpi .ne v3299 c0_i32_1214
  let v3301 : BitVec 1 := Scalar.andi v3298 v3300
  let v3287 : BitVec 32 := Scalar.divsi v2385 c32_i32_1209
  let c1_i32_1215 : BitVec 32 := 1#32
  let v3302 : BitVec 32 := Scalar.subi v3287 c1_i32_1215
  let v3303 : BitVec 32 := Scalar.select v3301 v3302 v3287
  v3303
def k0_mult8 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c768_i32 : BitVec 32 := 768#32
  let v3433 : BitVec 32 := Scalar.addi v285 c768_i32
  v3433
def k0_mult9 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c768_i32 : BitVec 32 := 768#32
  let v3433 : BitVec 32 := Scalar.addi v285 c768_i32
  let v3434 : BitVec 32 := v3433
  let c0_i32_1596 : BitVec 32 := 0#32
  let v4337 : BitVec 1 := Scalar.cmpi .sgt v3434 c0_i32_1596
  let v4338 : BitVec 32 := Scalar.extui v4337
  let c0_i32_1597 : BitVec 32 := 0#32
  let v4339 : BitVec 1 := Scalar.cmpi .slt v3434 c0_i32_1597
  let v4340 : BitVec 32 := Scalar.extui v4339
  let v4341 : BitVec 32 := Scalar.subi v4338 v4340
  let c32_i32_1595 : BitVec 32 := 32#32
  let c0_i32_1598 : BitVec 32 := 0#32
  let v4342 : BitVec 1 := Scalar.cmpi .sgt c32_i32_1595 c0_i32_1598
  let v4343 : BitVec 32 := Scalar.extui v4342
  let c0_i32_1599 : BitVec 32 := 0#32
  let v4344 : BitVec 1 := Scalar.cmpi .slt c32_i32_1595 c0_i32_1599
  let v4345 : BitVec 32 := Scalar.extui v4344
  let v4346 : BitVec 32 := Scalar.subi v4343 v4345
  let v4347 : BitVec 1 := Scalar.cmpi .ne v4341 v4346
  let v4348 : BitVec 32 := Scalar.remsi v3434 c32_i32_1595
  let c0_i32_1600 : BitVec 32 := 0#32
  let v4349 : BitVec 1 := Scalar.cmpi .ne v4348 c0_i32_1600
  let v4350 : BitVec 1 := Scalar.andi v4347 v4349
  let v4336 : BitVec 32 := Scalar.divsi v3434 c32_i32_1595
  let c1_i32_1601 : BitVec 32 := 1#32
  let v4351 : BitVec 32 := Scalar.subi v4336 c1_i32_1601
  let v4352 : BitVec 32 := Scalar.select v4350 v4351 v4336
  v4352
def k0_mult10 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c1024_i32 : BitVec 32 := 1024#32
  let v4482 : BitVec 32 := Scalar.addi v285 c1024_i32
  v4482
def k0_mult11 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c1024_i32 : BitVec 32 := 1024#32
  let v4482 : BitVec 32 := Scalar.addi v285 c1024_i32
  let v4483 : BitVec 32 := v4482
  let c0_i32_1982 : BitVec 32 := 0#32
  let v5386 : BitVec 1 := Scalar.cmpi .sgt v4483 c0_i32_1982
  let v5387 : BitVec 32 := Scalar.extui v5386
  let c0_i32_1983 : BitVec 32 := 0#32
  let v5388 : BitVec 1 := Scalar.cmpi .slt v4483 c0_i32_1983
  let v5389 : BitVec 32 := Scalar.extui v5388
  let v5390 : BitVec 32 := Scalar.subi v5387 v5389
  let c32_i32_1981 : BitVec 32 := 32#32
  let c0_i32_1984 : BitVec 32 := 0#32
  let v5391 : BitVec 1 := Scalar.cmpi .sgt c32_i32_1981 c0_i32_1984
  let v5392 : BitVec 32 := Scalar.extui v5391
  let c0_i32_1985 : BitVec 32 := 0#32
  let v5393 : BitVec 1 := Scalar.cmpi .slt c32_i32_1981 c0_i32_1985
  let v5394 : BitVec 32 := Scalar.extui v5393
  let v5395 : BitVec 32 := Scalar.subi v5392 v5394
  let v5396 : BitVec 1 := Scalar.cmpi .ne v5390 v5395
  let v5397 : BitVec 32 := Scalar.remsi v4483 c32_i32_1981
  let c0_i32_1986 : BitVec 32 := 0#32
  let v5398 : BitVec 1 := Scalar.cmpi .ne v5397 c0_i32_1986
  let v5399 : BitVec 1 := Scalar.andi v5396 v5398
  let v5385 : BitVec 32 := Scalar.divsi v4483 c32_i32_1981
  let c1_i32_1987 : BitVec 32 := 1#32
  let v5400 : BitVec 32 := Scalar.subi v5385 c1_i32_1987
  let v5401 : BitVec 32 := Scalar.select v5399 v5400 v5385
  v5401
def k0_mult12 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c1280_i32 : BitVec 32 := 1280#32
  let v5531 : BitVec 32 := Scalar.addi v285 c1280_i32
  v5531
def k0_mult13 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c1280_i32 : BitVec 32 := 1280#32
  let v5531 : BitVec 32 := Scalar.addi v285 c1280_i32
  let v5532 : BitVec 32 := v5531
  let c0_i32_2368 : BitVec 32 := 0#32
  let v6435 : BitVec 1 := Scalar.cmpi .sgt v5532 c0_i32_2368
  let v6436 : BitVec 32 := Scalar.extui v6435
  let c0_i32_2369 : BitVec 32 := 0#32
  let v6437 : BitVec 1 := Scalar.cmpi .slt v5532 c0_i32_2369
  let v6438 : BitVec 32 := Scalar.extui v6437
  let v6439 : BitVec 32 := Scalar.subi v6436 v6438
  let c32_i32_2367 : BitVec 32 := 32#32
  let c0_i32_2370 : BitVec 32 := 0#32
  let v6440 : BitVec 1 := Scalar.cmpi .sgt c32_i32_2367 c0_i32_2370
  let v6441 : BitVec 32 := Scalar.extui v6440
  let c0_i32_2371 : BitVec 32 := 0#32
  let v6442 : BitVec 1 := Scalar.cmpi .slt c32_i32_2367 c0_i32_2371
  let v6443 : BitVec 32 := Scalar.extui v6442
  let v6444 : BitVec 32 := Scalar.subi v6441 v6443
  let v6445 : BitVec 1 := Scalar.cmpi .ne v6439 v6444
  let v6446 : BitVec 32 := Scalar.remsi v5532 c32_i32_2367
  let c0_i32_2372 : BitVec 32 := 0#32
  let v6447 : BitVec 1 := Scalar.cmpi .ne v6446 c0_i32_2372
  let v6448 : BitVec 1 := Scalar.andi v6445 v6447
  let v6434 : BitVec 32 := Scalar.divsi v5532 c32_i32_2367
  let c1_i32_2373 : BitVec 32 := 1#32
  let v6449 : BitVec 32 := Scalar.subi v6434 c1_i32_2373
  let v6450 : BitVec 32 := Scalar.select v6448 v6449 v6434
  v6450
def k0_mult14 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c1536_i32 : BitVec 32 := 1536#32
  let v6580 : BitVec 32 := Scalar.addi v285 c1536_i32
  v6580
def k0_mult15 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c1536_i32 : BitVec 32 := 1536#32
  let v6580 : BitVec 32 := Scalar.addi v285 c1536_i32
  let v6581 : BitVec 32 := v6580
  let c0_i32_2754 : BitVec 32 := 0#32
  let v7484 : BitVec 1 := Scalar.cmpi .sgt v6581 c0_i32_2754
  let v7485 : BitVec 32 := Scalar.extui v7484
  let c0_i32_2755 : BitVec 32 := 0#32
  let v7486 : BitVec 1 := Scalar.cmpi .slt v6581 c0_i32_2755
  let v7487 : BitVec 32 := Scalar.extui v7486
  let v7488 : BitVec 32 := Scalar.subi v7485 v7487
  let c32_i32_2753 : BitVec 32 := 32#32
  let c0_i32_2756 : BitVec 32 := 0#32
  let v7489 : BitVec 1 := Scalar.cmpi .sgt c32_i32_2753 c0_i32_2756
  let v7490 : BitVec 32 := Scalar.extui v7489
  let c0_i32_2757 : BitVec 32 := 0#32
  let v7491 : BitVec 1 := Scalar.cmpi .slt c32_i32_2753 c0_i32_2757
  let v7492 : BitVec 32 := Scalar.extui v7491
  let v7493 : BitVec 32 := Scalar.subi v7490 v7492
  let v7494 : BitVec 1 := Scalar.cmpi .ne v7488 v7493
  let v7495 : BitVec 32 := Scalar.remsi v6581 c32_i32_2753
  let c0_i32_2758 : BitVec 32 := 0#32
  let v7496 : BitVec 1 := Scalar.cmpi .ne v7495 c0_i32_2758
  let v7497 : BitVec 1 := Scalar.andi v7494 v7496
  let v7483 : BitVec 32 := Scalar.divsi v6581 c32_i32_2753
  let c1_i32_2759 : BitVec 32 := 1#32
  let v7498 : BitVec 32 := Scalar.subi v7483 c1_i32_2759
  let v7499 : BitVec 32 := Scalar.select v7497 v7498 v7483
  v7499
def k0_mult16 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c1792_i32 : BitVec 32 := 1792#32
  let v7629 : BitVec 32 := Scalar.addi v285 c1792_i32
  v7629
def k0_mult17 (i : grid0.Coords) (k0_t1 : Fin (k0_t1_loop i).trips) : BitVec 32 :=
  let c0_i32_159 : BitVec 32 := 0#32
  let c0_i32_46 : BitVec 32 := 0#32
  let c1_i32_48 : BitVec 32 := 1#32
  let arg15 : BitVec 32 := Scf.iv c0_i32_46 c1_i32_48 k0_t1
  let c2048_i32_158 : BitVec 32 := 2048#32
  let v283 : BitVec 32 := Scalar.muli arg15 c2048_i32_158
  let v284 : BitVec 32 := Scalar.addi c0_i32_159 v283
  let v285 : BitVec 32 := v284
  let c1792_i32 : BitVec 32 := 1792#32
  let v7629 : BitVec 32 := Scalar.addi v285 c1792_i32
  let v7630 : BitVec 32 := v7629
  let c0_i32_3140 : BitVec 32 := 0#32
  let v8533 : BitVec 1 := Scalar.cmpi .sgt v7630 c0_i32_3140
  let v8534 : BitVec 32 := Scalar.extui v8533
  let c0_i32_3141 : BitVec 32 := 0#32
  let v8535 : BitVec 1 := Scalar.cmpi .slt v7630 c0_i32_3141
  let v8536 : BitVec 32 := Scalar.extui v8535
  let v8537 : BitVec 32 := Scalar.subi v8534 v8536
  let c32_i32_3139 : BitVec 32 := 32#32
  let c0_i32_3142 : BitVec 32 := 0#32
  let v8538 : BitVec 1 := Scalar.cmpi .sgt c32_i32_3139 c0_i32_3142
  let v8539 : BitVec 32 := Scalar.extui v8538
  let c0_i32_3143 : BitVec 32 := 0#32
  let v8540 : BitVec 1 := Scalar.cmpi .slt c32_i32_3139 c0_i32_3143
  let v8541 : BitVec 32 := Scalar.extui v8540
  let v8542 : BitVec 32 := Scalar.subi v8539 v8541
  let v8543 : BitVec 1 := Scalar.cmpi .ne v8537 v8542
  let v8544 : BitVec 32 := Scalar.remsi v7630 c32_i32_3139
  let c0_i32_3144 : BitVec 32 := 0#32
  let v8545 : BitVec 1 := Scalar.cmpi .ne v8544 c0_i32_3144
  let v8546 : BitVec 1 := Scalar.andi v8543 v8545
  let v8532 : BitVec 32 := Scalar.divsi v7630 c32_i32_3139
  let c1_i32_3145 : BitVec 32 := 1#32
  let v8547 : BitVec 32 := Scalar.subi v8532 c1_i32_3145
  let v8548 : BitVec 32 := Scalar.select v8546 v8547 v8532
  v8548
@[reducible] def k0_t2_loop (i : grid0.Coords) : Scf.Loop 32 :=
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let v98 : BitVec 32 := Scalar.addi c0_i32_46 v97
  let c1_i32_49 : BitVec 32 := 1#32
  ⟨v101, v98, c1_i32_49⟩
def k0_mult18 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  v284
def k0_mult19 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c0_i32_160 : BitVec 32 := 0#32
  let v286 : BitVec 32 := Scalar.addi v285 c0_i32_160
  v286
def k0_off36 (i : grid0.Coords) (k0_t2 : Fin (k0_t2_loop i).trips) (c0_i32_160 : BitVec 32) : Fin 3 → Nat :=
  let c0_161 : Index := 0#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let v288 : Index := Scalar.indexCast v287
  let c0_162 : Index := 0#32
  ![0, v288.toNat, 0]
def k0_off37 (i : grid0.Coords) (k0_t2 : Fin (k0_t2_loop i).trips) (c0_i32_160 : BitVec 32) : Fin 3 → Nat :=
  let c0_164 : Index := 0#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let v292 : Index := Scalar.indexCast v287
  let c128_165 : Index := 128#32
  ![0, v292.toNat, 128]
def k0_off38 (i : grid0.Coords) (k0_t2 : Fin (k0_t2_loop i).trips) (c0_i32_160 : BitVec 32) : Fin 2 → Nat :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let v431 : Index := Scalar.indexCast v287
  let c0_218 : Index := 0#32
  ![v431.toNat, 0]
def k0_mult20 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c0_i32_160 : BitVec 32 := 0#32
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  v1205
def k0_off39 (i : grid0.Coords) (k0_t2 : Fin (k0_t2_loop i).trips) (c0_i32_160 : BitVec 32) : Fin 3 → Nat :=
  let c0_458 : Index := 0#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1207 : Index := Scalar.indexCast v1206
  let c0_459 : Index := 0#32
  ![0, v1207.toNat, 0]
def k0_off40 (i : grid0.Coords) (k0_t2 : Fin (k0_t2_loop i).trips) (c0_i32_160 : BitVec 32) : Fin 3 → Nat :=
  let c1_460 : Index := 1#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1211 : Index := Scalar.indexCast v1206
  let c0_461 : Index := 0#32
  ![1, v1211.toNat, 0]
def k0_off41 (i : grid0.Coords) (k0_t2 : Fin (k0_t2_loop i).trips) (c0_i32_160 : BitVec 32) : Fin 3 → Nat :=
  let c2_462 : Index := 2#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1215 : Index := Scalar.indexCast v1206
  let c0_463 : Index := 0#32
  ![2, v1215.toNat, 0]
def k0_off42 (i : grid0.Coords) (k0_t2 : Fin (k0_t2_loop i).trips) (c0_i32_160 : BitVec 32) : Fin 3 → Nat :=
  let c3_464 : Index := 3#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1219 : Index := Scalar.indexCast v1206
  let c0_465 : Index := 0#32
  ![3, v1219.toNat, 0]
def k0_off43 (i : grid0.Coords) (k0_t2 : Fin (k0_t2_loop i).trips) (c0_i32_160 : BitVec 32) : Fin 3 → Nat :=
  let c4_466 : Index := 4#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1223 : Index := Scalar.indexCast v1206
  let c0_467 : Index := 0#32
  ![4, v1223.toNat, 0]
def k0_off44 (i : grid0.Coords) (k0_t2 : Fin (k0_t2_loop i).trips) (c0_i32_160 : BitVec 32) : Fin 3 → Nat :=
  let c5_468 : Index := 5#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1227 : Index := Scalar.indexCast v1206
  let c0_469 : Index := 0#32
  ![5, v1227.toNat, 0]
def k0_off45 (i : grid0.Coords) (k0_t2 : Fin (k0_t2_loop i).trips) (c0_i32_160 : BitVec 32) : Fin 3 → Nat :=
  let c6_470 : Index := 6#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1231 : Index := Scalar.indexCast v1206
  let c0_471 : Index := 0#32
  ![6, v1231.toNat, 0]
def k0_off46 (i : grid0.Coords) (k0_t2 : Fin (k0_t2_loop i).trips) (c0_i32_160 : BitVec 32) : Fin 3 → Nat :=
  let c7_472 : Index := 7#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1235 : Index := Scalar.indexCast v1206
  let c0_473 : Index := 0#32
  ![7, v1235.toNat, 0]
def k0_off47 (i : grid0.Coords) (k0_t2 : Fin (k0_t2_loop i).trips) (c0_i32_160 : BitVec 32) : Fin 3 → Nat :=
  let c8_474 : Index := 8#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1239 : Index := Scalar.indexCast v1206
  let c0_475 : Index := 0#32
  ![8, v1239.toNat, 0]
def k0_off48 (i : grid0.Coords) (k0_t2 : Fin (k0_t2_loop i).trips) (c0_i32_160 : BitVec 32) : Fin 3 → Nat :=
  let c9_476 : Index := 9#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1243 : Index := Scalar.indexCast v1206
  let c0_477 : Index := 0#32
  ![9, v1243.toNat, 0]
def k0_off49 (i : grid0.Coords) (k0_t2 : Fin (k0_t2_loop i).trips) (c0_i32_160 : BitVec 32) : Fin 3 → Nat :=
  let c10_478 : Index := 10#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1247 : Index := Scalar.indexCast v1206
  let c0_479 : Index := 0#32
  ![10, v1247.toNat, 0]
def k0_off50 (i : grid0.Coords) (k0_t2 : Fin (k0_t2_loop i).trips) (c0_i32_160 : BitVec 32) : Fin 3 → Nat :=
  let c11_480 : Index := 11#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1251 : Index := Scalar.indexCast v1206
  let c0_481 : Index := 0#32
  ![11, v1251.toNat, 0]
def k0_off51 (i : grid0.Coords) (k0_t2 : Fin (k0_t2_loop i).trips) (c0_i32_160 : BitVec 32) : Fin 3 → Nat :=
  let c12_482 : Index := 12#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1255 : Index := Scalar.indexCast v1206
  let c0_483 : Index := 0#32
  ![12, v1255.toNat, 0]
def k0_off52 (i : grid0.Coords) (k0_t2 : Fin (k0_t2_loop i).trips) (c0_i32_160 : BitVec 32) : Fin 3 → Nat :=
  let c13_484 : Index := 13#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1259 : Index := Scalar.indexCast v1206
  let c0_485 : Index := 0#32
  ![13, v1259.toNat, 0]
def k0_off53 (i : grid0.Coords) (k0_t2 : Fin (k0_t2_loop i).trips) (c0_i32_160 : BitVec 32) : Fin 3 → Nat :=
  let c14_486 : Index := 14#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1263 : Index := Scalar.indexCast v1206
  let c0_487 : Index := 0#32
  ![14, v1263.toNat, 0]
def k0_off54 (i : grid0.Coords) (k0_t2 : Fin (k0_t2_loop i).trips) (c0_i32_160 : BitVec 32) : Fin 3 → Nat :=
  let c15_488 : Index := 15#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1267 : Index := Scalar.indexCast v1206
  let c0_489 : Index := 0#32
  ![15, v1267.toNat, 0]
def k0_off55 (i : grid0.Coords) (k0_t2 : Fin (k0_t2_loop i).trips) (c0_i32_160 : BitVec 32) : Fin 3 → Nat :=
  let c16 : Index := 16#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1271 : Index := Scalar.indexCast v1206
  let c0_490 : Index := 0#32
  ![16, v1271.toNat, 0]
def k0_off56 (i : grid0.Coords) (k0_t2 : Fin (k0_t2_loop i).trips) (c0_i32_160 : BitVec 32) : Fin 3 → Nat :=
  let c17 : Index := 17#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1275 : Index := Scalar.indexCast v1206
  let c0_491 : Index := 0#32
  ![17, v1275.toNat, 0]
def k0_off57 (i : grid0.Coords) (k0_t2 : Fin (k0_t2_loop i).trips) (c0_i32_160 : BitVec 32) : Fin 3 → Nat :=
  let c18 : Index := 18#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1279 : Index := Scalar.indexCast v1206
  let c0_492 : Index := 0#32
  ![18, v1279.toNat, 0]
def k0_off58 (i : grid0.Coords) (k0_t2 : Fin (k0_t2_loop i).trips) (c0_i32_160 : BitVec 32) : Fin 3 → Nat :=
  let c19 : Index := 19#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1283 : Index := Scalar.indexCast v1206
  let c0_493 : Index := 0#32
  ![19, v1283.toNat, 0]
def k0_off59 (i : grid0.Coords) (k0_t2 : Fin (k0_t2_loop i).trips) (c0_i32_160 : BitVec 32) : Fin 3 → Nat :=
  let c20 : Index := 20#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1287 : Index := Scalar.indexCast v1206
  let c0_494 : Index := 0#32
  ![20, v1287.toNat, 0]
def k0_off60 (i : grid0.Coords) (k0_t2 : Fin (k0_t2_loop i).trips) (c0_i32_160 : BitVec 32) : Fin 3 → Nat :=
  let c21 : Index := 21#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1291 : Index := Scalar.indexCast v1206
  let c0_495 : Index := 0#32
  ![21, v1291.toNat, 0]
def k0_off61 (i : grid0.Coords) (k0_t2 : Fin (k0_t2_loop i).trips) (c0_i32_160 : BitVec 32) : Fin 3 → Nat :=
  let c22 : Index := 22#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1295 : Index := Scalar.indexCast v1206
  let c0_496 : Index := 0#32
  ![22, v1295.toNat, 0]
def k0_off62 (i : grid0.Coords) (k0_t2 : Fin (k0_t2_loop i).trips) (c0_i32_160 : BitVec 32) : Fin 3 → Nat :=
  let c23 : Index := 23#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1299 : Index := Scalar.indexCast v1206
  let c0_497 : Index := 0#32
  ![23, v1299.toNat, 0]
def k0_off63 (i : grid0.Coords) (k0_t2 : Fin (k0_t2_loop i).trips) (c0_i32_160 : BitVec 32) : Fin 3 → Nat :=
  let c24 : Index := 24#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1303 : Index := Scalar.indexCast v1206
  let c0_498 : Index := 0#32
  ![24, v1303.toNat, 0]
def k0_off64 (i : grid0.Coords) (k0_t2 : Fin (k0_t2_loop i).trips) (c0_i32_160 : BitVec 32) : Fin 3 → Nat :=
  let c25 : Index := 25#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1307 : Index := Scalar.indexCast v1206
  let c0_499 : Index := 0#32
  ![25, v1307.toNat, 0]
def k0_off65 (i : grid0.Coords) (k0_t2 : Fin (k0_t2_loop i).trips) (c0_i32_160 : BitVec 32) : Fin 3 → Nat :=
  let c26 : Index := 26#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1311 : Index := Scalar.indexCast v1206
  let c0_500 : Index := 0#32
  ![26, v1311.toNat, 0]
def k0_off66 (i : grid0.Coords) (k0_t2 : Fin (k0_t2_loop i).trips) (c0_i32_160 : BitVec 32) : Fin 3 → Nat :=
  let c27 : Index := 27#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1315 : Index := Scalar.indexCast v1206
  let c0_501 : Index := 0#32
  ![27, v1315.toNat, 0]
def k0_off67 (i : grid0.Coords) (k0_t2 : Fin (k0_t2_loop i).trips) (c0_i32_160 : BitVec 32) : Fin 3 → Nat :=
  let c28 : Index := 28#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1319 : Index := Scalar.indexCast v1206
  let c0_502 : Index := 0#32
  ![28, v1319.toNat, 0]
def k0_off68 (i : grid0.Coords) (k0_t2 : Fin (k0_t2_loop i).trips) (c0_i32_160 : BitVec 32) : Fin 3 → Nat :=
  let c29 : Index := 29#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1323 : Index := Scalar.indexCast v1206
  let c0_503 : Index := 0#32
  ![29, v1323.toNat, 0]
def k0_off69 (i : grid0.Coords) (k0_t2 : Fin (k0_t2_loop i).trips) (c0_i32_160 : BitVec 32) : Fin 3 → Nat :=
  let c30 : Index := 30#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1327 : Index := Scalar.indexCast v1206
  let c0_504 : Index := 0#32
  ![30, v1327.toNat, 0]
def k0_off70 (i : grid0.Coords) (k0_t2 : Fin (k0_t2_loop i).trips) (c0_i32_160 : BitVec 32) : Fin 3 → Nat :=
  let c31 : Index := 31#32
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let v286 : BitVec 32 := Scalar.addi v285 c0_i32_160
  let v287 : BitVec 32 := v286
  let c0_i32_452 : BitVec 32 := 0#32
  let v1190 : BitVec 1 := Scalar.cmpi .sgt v287 c0_i32_452
  let v1191 : BitVec 32 := Scalar.extui v1190
  let c0_i32_453 : BitVec 32 := 0#32
  let v1192 : BitVec 1 := Scalar.cmpi .slt v287 c0_i32_453
  let v1193 : BitVec 32 := Scalar.extui v1192
  let v1194 : BitVec 32 := Scalar.subi v1191 v1193
  let c32_i32_451 : BitVec 32 := 32#32
  let c0_i32_454 : BitVec 32 := 0#32
  let v1195 : BitVec 1 := Scalar.cmpi .sgt c32_i32_451 c0_i32_454
  let v1196 : BitVec 32 := Scalar.extui v1195
  let c0_i32_455 : BitVec 32 := 0#32
  let v1197 : BitVec 1 := Scalar.cmpi .slt c32_i32_451 c0_i32_455
  let v1198 : BitVec 32 := Scalar.extui v1197
  let v1199 : BitVec 32 := Scalar.subi v1196 v1198
  let v1200 : BitVec 1 := Scalar.cmpi .ne v1194 v1199
  let v1201 : BitVec 32 := Scalar.remsi v287 c32_i32_451
  let c0_i32_456 : BitVec 32 := 0#32
  let v1202 : BitVec 1 := Scalar.cmpi .ne v1201 c0_i32_456
  let v1203 : BitVec 1 := Scalar.andi v1200 v1202
  let v1189 : BitVec 32 := Scalar.divsi v287 c32_i32_451
  let c1_i32_457 : BitVec 32 := 1#32
  let v1204 : BitVec 32 := Scalar.subi v1189 c1_i32_457
  let v1205 : BitVec 32 := Scalar.select v1203 v1204 v1189
  let v1206 : BitVec 32 := v1205
  let v1331 : Index := Scalar.indexCast v1206
  let c0_505 : Index := 0#32
  ![31, v1331.toNat, 0]
def k0_mult21 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c256_i32_506 : BitVec 32 := 256#32
  let v1335 : BitVec 32 := Scalar.addi v285 c256_i32_506
  v1335
def k0_mult22 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c256_i32_506 : BitVec 32 := 256#32
  let v1335 : BitVec 32 := Scalar.addi v285 c256_i32_506
  let v1336 : BitVec 32 := v1335
  let c0_i32_823 : BitVec 32 := 0#32
  let v2239 : BitVec 1 := Scalar.cmpi .sgt v1336 c0_i32_823
  let v2240 : BitVec 32 := Scalar.extui v2239
  let c0_i32_824 : BitVec 32 := 0#32
  let v2241 : BitVec 1 := Scalar.cmpi .slt v1336 c0_i32_824
  let v2242 : BitVec 32 := Scalar.extui v2241
  let v2243 : BitVec 32 := Scalar.subi v2240 v2242
  let c32_i32_822 : BitVec 32 := 32#32
  let c0_i32_825 : BitVec 32 := 0#32
  let v2244 : BitVec 1 := Scalar.cmpi .sgt c32_i32_822 c0_i32_825
  let v2245 : BitVec 32 := Scalar.extui v2244
  let c0_i32_826 : BitVec 32 := 0#32
  let v2246 : BitVec 1 := Scalar.cmpi .slt c32_i32_822 c0_i32_826
  let v2247 : BitVec 32 := Scalar.extui v2246
  let v2248 : BitVec 32 := Scalar.subi v2245 v2247
  let v2249 : BitVec 1 := Scalar.cmpi .ne v2243 v2248
  let v2250 : BitVec 32 := Scalar.remsi v1336 c32_i32_822
  let c0_i32_827 : BitVec 32 := 0#32
  let v2251 : BitVec 1 := Scalar.cmpi .ne v2250 c0_i32_827
  let v2252 : BitVec 1 := Scalar.andi v2249 v2251
  let v2238 : BitVec 32 := Scalar.divsi v1336 c32_i32_822
  let c1_i32_828 : BitVec 32 := 1#32
  let v2253 : BitVec 32 := Scalar.subi v2238 c1_i32_828
  let v2254 : BitVec 32 := Scalar.select v2252 v2253 v2238
  v2254
def k0_mult23 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c512_i32_893 : BitVec 32 := 512#32
  let v2384 : BitVec 32 := Scalar.addi v285 c512_i32_893
  v2384
def k0_mult24 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c512_i32_893 : BitVec 32 := 512#32
  let v2384 : BitVec 32 := Scalar.addi v285 c512_i32_893
  let v2385 : BitVec 32 := v2384
  let c0_i32_1210 : BitVec 32 := 0#32
  let v3288 : BitVec 1 := Scalar.cmpi .sgt v2385 c0_i32_1210
  let v3289 : BitVec 32 := Scalar.extui v3288
  let c0_i32_1211 : BitVec 32 := 0#32
  let v3290 : BitVec 1 := Scalar.cmpi .slt v2385 c0_i32_1211
  let v3291 : BitVec 32 := Scalar.extui v3290
  let v3292 : BitVec 32 := Scalar.subi v3289 v3291
  let c32_i32_1209 : BitVec 32 := 32#32
  let c0_i32_1212 : BitVec 32 := 0#32
  let v3293 : BitVec 1 := Scalar.cmpi .sgt c32_i32_1209 c0_i32_1212
  let v3294 : BitVec 32 := Scalar.extui v3293
  let c0_i32_1213 : BitVec 32 := 0#32
  let v3295 : BitVec 1 := Scalar.cmpi .slt c32_i32_1209 c0_i32_1213
  let v3296 : BitVec 32 := Scalar.extui v3295
  let v3297 : BitVec 32 := Scalar.subi v3294 v3296
  let v3298 : BitVec 1 := Scalar.cmpi .ne v3292 v3297
  let v3299 : BitVec 32 := Scalar.remsi v2385 c32_i32_1209
  let c0_i32_1214 : BitVec 32 := 0#32
  let v3300 : BitVec 1 := Scalar.cmpi .ne v3299 c0_i32_1214
  let v3301 : BitVec 1 := Scalar.andi v3298 v3300
  let v3287 : BitVec 32 := Scalar.divsi v2385 c32_i32_1209
  let c1_i32_1215 : BitVec 32 := 1#32
  let v3302 : BitVec 32 := Scalar.subi v3287 c1_i32_1215
  let v3303 : BitVec 32 := Scalar.select v3301 v3302 v3287
  v3303
def k0_mult25 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c768_i32 : BitVec 32 := 768#32
  let v3433 : BitVec 32 := Scalar.addi v285 c768_i32
  v3433
def k0_mult26 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c768_i32 : BitVec 32 := 768#32
  let v3433 : BitVec 32 := Scalar.addi v285 c768_i32
  let v3434 : BitVec 32 := v3433
  let c0_i32_1596 : BitVec 32 := 0#32
  let v4337 : BitVec 1 := Scalar.cmpi .sgt v3434 c0_i32_1596
  let v4338 : BitVec 32 := Scalar.extui v4337
  let c0_i32_1597 : BitVec 32 := 0#32
  let v4339 : BitVec 1 := Scalar.cmpi .slt v3434 c0_i32_1597
  let v4340 : BitVec 32 := Scalar.extui v4339
  let v4341 : BitVec 32 := Scalar.subi v4338 v4340
  let c32_i32_1595 : BitVec 32 := 32#32
  let c0_i32_1598 : BitVec 32 := 0#32
  let v4342 : BitVec 1 := Scalar.cmpi .sgt c32_i32_1595 c0_i32_1598
  let v4343 : BitVec 32 := Scalar.extui v4342
  let c0_i32_1599 : BitVec 32 := 0#32
  let v4344 : BitVec 1 := Scalar.cmpi .slt c32_i32_1595 c0_i32_1599
  let v4345 : BitVec 32 := Scalar.extui v4344
  let v4346 : BitVec 32 := Scalar.subi v4343 v4345
  let v4347 : BitVec 1 := Scalar.cmpi .ne v4341 v4346
  let v4348 : BitVec 32 := Scalar.remsi v3434 c32_i32_1595
  let c0_i32_1600 : BitVec 32 := 0#32
  let v4349 : BitVec 1 := Scalar.cmpi .ne v4348 c0_i32_1600
  let v4350 : BitVec 1 := Scalar.andi v4347 v4349
  let v4336 : BitVec 32 := Scalar.divsi v3434 c32_i32_1595
  let c1_i32_1601 : BitVec 32 := 1#32
  let v4351 : BitVec 32 := Scalar.subi v4336 c1_i32_1601
  let v4352 : BitVec 32 := Scalar.select v4350 v4351 v4336
  v4352
def k0_mult27 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c1024_i32 : BitVec 32 := 1024#32
  let v4482 : BitVec 32 := Scalar.addi v285 c1024_i32
  v4482
def k0_mult28 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c1024_i32 : BitVec 32 := 1024#32
  let v4482 : BitVec 32 := Scalar.addi v285 c1024_i32
  let v4483 : BitVec 32 := v4482
  let c0_i32_1982 : BitVec 32 := 0#32
  let v5386 : BitVec 1 := Scalar.cmpi .sgt v4483 c0_i32_1982
  let v5387 : BitVec 32 := Scalar.extui v5386
  let c0_i32_1983 : BitVec 32 := 0#32
  let v5388 : BitVec 1 := Scalar.cmpi .slt v4483 c0_i32_1983
  let v5389 : BitVec 32 := Scalar.extui v5388
  let v5390 : BitVec 32 := Scalar.subi v5387 v5389
  let c32_i32_1981 : BitVec 32 := 32#32
  let c0_i32_1984 : BitVec 32 := 0#32
  let v5391 : BitVec 1 := Scalar.cmpi .sgt c32_i32_1981 c0_i32_1984
  let v5392 : BitVec 32 := Scalar.extui v5391
  let c0_i32_1985 : BitVec 32 := 0#32
  let v5393 : BitVec 1 := Scalar.cmpi .slt c32_i32_1981 c0_i32_1985
  let v5394 : BitVec 32 := Scalar.extui v5393
  let v5395 : BitVec 32 := Scalar.subi v5392 v5394
  let v5396 : BitVec 1 := Scalar.cmpi .ne v5390 v5395
  let v5397 : BitVec 32 := Scalar.remsi v4483 c32_i32_1981
  let c0_i32_1986 : BitVec 32 := 0#32
  let v5398 : BitVec 1 := Scalar.cmpi .ne v5397 c0_i32_1986
  let v5399 : BitVec 1 := Scalar.andi v5396 v5398
  let v5385 : BitVec 32 := Scalar.divsi v4483 c32_i32_1981
  let c1_i32_1987 : BitVec 32 := 1#32
  let v5400 : BitVec 32 := Scalar.subi v5385 c1_i32_1987
  let v5401 : BitVec 32 := Scalar.select v5399 v5400 v5385
  v5401
def k0_mult29 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c1280_i32 : BitVec 32 := 1280#32
  let v5531 : BitVec 32 := Scalar.addi v285 c1280_i32
  v5531
def k0_mult30 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c1280_i32 : BitVec 32 := 1280#32
  let v5531 : BitVec 32 := Scalar.addi v285 c1280_i32
  let v5532 : BitVec 32 := v5531
  let c0_i32_2368 : BitVec 32 := 0#32
  let v6435 : BitVec 1 := Scalar.cmpi .sgt v5532 c0_i32_2368
  let v6436 : BitVec 32 := Scalar.extui v6435
  let c0_i32_2369 : BitVec 32 := 0#32
  let v6437 : BitVec 1 := Scalar.cmpi .slt v5532 c0_i32_2369
  let v6438 : BitVec 32 := Scalar.extui v6437
  let v6439 : BitVec 32 := Scalar.subi v6436 v6438
  let c32_i32_2367 : BitVec 32 := 32#32
  let c0_i32_2370 : BitVec 32 := 0#32
  let v6440 : BitVec 1 := Scalar.cmpi .sgt c32_i32_2367 c0_i32_2370
  let v6441 : BitVec 32 := Scalar.extui v6440
  let c0_i32_2371 : BitVec 32 := 0#32
  let v6442 : BitVec 1 := Scalar.cmpi .slt c32_i32_2367 c0_i32_2371
  let v6443 : BitVec 32 := Scalar.extui v6442
  let v6444 : BitVec 32 := Scalar.subi v6441 v6443
  let v6445 : BitVec 1 := Scalar.cmpi .ne v6439 v6444
  let v6446 : BitVec 32 := Scalar.remsi v5532 c32_i32_2367
  let c0_i32_2372 : BitVec 32 := 0#32
  let v6447 : BitVec 1 := Scalar.cmpi .ne v6446 c0_i32_2372
  let v6448 : BitVec 1 := Scalar.andi v6445 v6447
  let v6434 : BitVec 32 := Scalar.divsi v5532 c32_i32_2367
  let c1_i32_2373 : BitVec 32 := 1#32
  let v6449 : BitVec 32 := Scalar.subi v6434 c1_i32_2373
  let v6450 : BitVec 32 := Scalar.select v6448 v6449 v6434
  v6450
def k0_mult31 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c1536_i32 : BitVec 32 := 1536#32
  let v6580 : BitVec 32 := Scalar.addi v285 c1536_i32
  v6580
def k0_mult32 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c1536_i32 : BitVec 32 := 1536#32
  let v6580 : BitVec 32 := Scalar.addi v285 c1536_i32
  let v6581 : BitVec 32 := v6580
  let c0_i32_2754 : BitVec 32 := 0#32
  let v7484 : BitVec 1 := Scalar.cmpi .sgt v6581 c0_i32_2754
  let v7485 : BitVec 32 := Scalar.extui v7484
  let c0_i32_2755 : BitVec 32 := 0#32
  let v7486 : BitVec 1 := Scalar.cmpi .slt v6581 c0_i32_2755
  let v7487 : BitVec 32 := Scalar.extui v7486
  let v7488 : BitVec 32 := Scalar.subi v7485 v7487
  let c32_i32_2753 : BitVec 32 := 32#32
  let c0_i32_2756 : BitVec 32 := 0#32
  let v7489 : BitVec 1 := Scalar.cmpi .sgt c32_i32_2753 c0_i32_2756
  let v7490 : BitVec 32 := Scalar.extui v7489
  let c0_i32_2757 : BitVec 32 := 0#32
  let v7491 : BitVec 1 := Scalar.cmpi .slt c32_i32_2753 c0_i32_2757
  let v7492 : BitVec 32 := Scalar.extui v7491
  let v7493 : BitVec 32 := Scalar.subi v7490 v7492
  let v7494 : BitVec 1 := Scalar.cmpi .ne v7488 v7493
  let v7495 : BitVec 32 := Scalar.remsi v6581 c32_i32_2753
  let c0_i32_2758 : BitVec 32 := 0#32
  let v7496 : BitVec 1 := Scalar.cmpi .ne v7495 c0_i32_2758
  let v7497 : BitVec 1 := Scalar.andi v7494 v7496
  let v7483 : BitVec 32 := Scalar.divsi v6581 c32_i32_2753
  let c1_i32_2759 : BitVec 32 := 1#32
  let v7498 : BitVec 32 := Scalar.subi v7483 c1_i32_2759
  let v7499 : BitVec 32 := Scalar.select v7497 v7498 v7483
  v7499
def k0_mult33 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c1792_i32 : BitVec 32 := 1792#32
  let v7629 : BitVec 32 := Scalar.addi v285 c1792_i32
  v7629
def k0_mult34 (i : grid0.Coords) (k0_t2 : Fin (k0_t2_loop i).trips) : BitVec 32 :=
  let c0_i32_159 : BitVec 32 := 0#32
  let c0_i32_46 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v97 : BitVec 32 := Scalar.subi v54 c0_i32_46
  let c1_i32_47 : BitVec 32 := 1#32
  let v99 : BitVec 32 := Scalar.divsi v97 c1_i32_47
  let v100 : BitVec 32 := Scalar.muli v99 c1_i32_47
  let v101 : BitVec 32 := Scalar.addi c0_i32_46 v100
  let c1_i32_49 : BitVec 32 := 1#32
  let arg15 : BitVec 32 := Scf.iv v101 c1_i32_49 k0_t2
  let c2048_i32_158 : BitVec 32 := 2048#32
  let v283 : BitVec 32 := Scalar.muli arg15 c2048_i32_158
  let v284 : BitVec 32 := Scalar.addi c0_i32_159 v283
  let v285 : BitVec 32 := v284
  let c1792_i32 : BitVec 32 := 1792#32
  let v7629 : BitVec 32 := Scalar.addi v285 c1792_i32
  let v7630 : BitVec 32 := v7629
  let c0_i32_3140 : BitVec 32 := 0#32
  let v8533 : BitVec 1 := Scalar.cmpi .sgt v7630 c0_i32_3140
  let v8534 : BitVec 32 := Scalar.extui v8533
  let c0_i32_3141 : BitVec 32 := 0#32
  let v8535 : BitVec 1 := Scalar.cmpi .slt v7630 c0_i32_3141
  let v8536 : BitVec 32 := Scalar.extui v8535
  let v8537 : BitVec 32 := Scalar.subi v8534 v8536
  let c32_i32_3139 : BitVec 32 := 32#32
  let c0_i32_3142 : BitVec 32 := 0#32
  let v8538 : BitVec 1 := Scalar.cmpi .sgt c32_i32_3139 c0_i32_3142
  let v8539 : BitVec 32 := Scalar.extui v8538
  let c0_i32_3143 : BitVec 32 := 0#32
  let v8540 : BitVec 1 := Scalar.cmpi .slt c32_i32_3139 c0_i32_3143
  let v8541 : BitVec 32 := Scalar.extui v8540
  let v8542 : BitVec 32 := Scalar.subi v8539 v8541
  let v8543 : BitVec 1 := Scalar.cmpi .ne v8537 v8542
  let v8544 : BitVec 32 := Scalar.remsi v7630 c32_i32_3139
  let c0_i32_3144 : BitVec 32 := 0#32
  let v8545 : BitVec 1 := Scalar.cmpi .ne v8544 c0_i32_3144
  let v8546 : BitVec 1 := Scalar.andi v8543 v8545
  let v8532 : BitVec 32 := Scalar.divsi v7630 c32_i32_3139
  let c1_i32_3145 : BitVec 32 := 1#32
  let v8547 : BitVec 32 := Scalar.subi v8532 c1_i32_3145
  let v8548 : BitVec 32 := Scalar.select v8546 v8547 v8532
  v8548
@[reducible] def k0_t3_loop (i : grid0.Coords) : Scf.Loop 32 :=
  let c0_i32_51 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_53 : BitVec 32 := 1#32
  ⟨c0_i32_51, v106, c1_i32_53⟩
def k0_mult35 (i : grid0.Coords) (k0_t3 : Fin (k0_t3_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  v284
def k0_mult36 (i : grid0.Coords) (k0_t3 : Fin (k0_t3_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let c0_i32_159 : BitVec 32 := 0#32
  let v286 : BitVec 32 := Scalar.addi v285 c0_i32_159
  v286
def k0_off71 (i : grid0.Coords) (k0_t3 : Fin (k0_t3_loop i).trips) (c0_i32_159 : BitVec 32) : Fin 3 → Nat :=
  let c0_160 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let v288 : Index := Scalar.indexCast v287
  let c0_161 : Index := 0#32
  ![0, v288.toNat, 0]
def k0_off72 (i : grid0.Coords) (k0_t3 : Fin (k0_t3_loop i).trips) (c0_i32_159 : BitVec 32) : Fin 3 → Nat :=
  let c0_163 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let v292 : Index := Scalar.indexCast v287
  let c128_164 : Index := 128#32
  ![0, v292.toNat, 128]
def k0_off73 (i : grid0.Coords) (k0_t3 : Fin (k0_t3_loop i).trips) (c0_i32_159 : BitVec 32) : Fin 2 → Nat :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let v439 : Index := Scalar.indexCast v287
  let c0_218 : Index := 0#32
  ![v439.toNat, 0]
def k0_mult37 (i : grid0.Coords) (k0_t3 : Fin (k0_t3_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let c0_i32_159 : BitVec 32 := 0#32
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  v1213
def k0_off74 (i : grid0.Coords) (k0_t3 : Fin (k0_t3_loop i).trips) (c0_i32_159 : BitVec 32) : Fin 3 → Nat :=
  let c0_458 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1215 : Index := Scalar.indexCast v1214
  let c0_459 : Index := 0#32
  ![0, v1215.toNat, 0]
def k0_off75 (i : grid0.Coords) (k0_t3 : Fin (k0_t3_loop i).trips) (c0_i32_159 : BitVec 32) : Fin 3 → Nat :=
  let c1_460 : Index := 1#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1219 : Index := Scalar.indexCast v1214
  let c0_461 : Index := 0#32
  ![1, v1219.toNat, 0]
def k0_off76 (i : grid0.Coords) (k0_t3 : Fin (k0_t3_loop i).trips) (c0_i32_159 : BitVec 32) : Fin 3 → Nat :=
  let c2_462 : Index := 2#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1223 : Index := Scalar.indexCast v1214
  let c0_463 : Index := 0#32
  ![2, v1223.toNat, 0]
def k0_off77 (i : grid0.Coords) (k0_t3 : Fin (k0_t3_loop i).trips) (c0_i32_159 : BitVec 32) : Fin 3 → Nat :=
  let c3_464 : Index := 3#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1227 : Index := Scalar.indexCast v1214
  let c0_465 : Index := 0#32
  ![3, v1227.toNat, 0]
def k0_off78 (i : grid0.Coords) (k0_t3 : Fin (k0_t3_loop i).trips) (c0_i32_159 : BitVec 32) : Fin 3 → Nat :=
  let c4_466 : Index := 4#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1231 : Index := Scalar.indexCast v1214
  let c0_467 : Index := 0#32
  ![4, v1231.toNat, 0]
def k0_off79 (i : grid0.Coords) (k0_t3 : Fin (k0_t3_loop i).trips) (c0_i32_159 : BitVec 32) : Fin 3 → Nat :=
  let c5_468 : Index := 5#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1235 : Index := Scalar.indexCast v1214
  let c0_469 : Index := 0#32
  ![5, v1235.toNat, 0]
def k0_off80 (i : grid0.Coords) (k0_t3 : Fin (k0_t3_loop i).trips) (c0_i32_159 : BitVec 32) : Fin 3 → Nat :=
  let c6_470 : Index := 6#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1239 : Index := Scalar.indexCast v1214
  let c0_471 : Index := 0#32
  ![6, v1239.toNat, 0]
def k0_off81 (i : grid0.Coords) (k0_t3 : Fin (k0_t3_loop i).trips) (c0_i32_159 : BitVec 32) : Fin 3 → Nat :=
  let c7_472 : Index := 7#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1243 : Index := Scalar.indexCast v1214
  let c0_473 : Index := 0#32
  ![7, v1243.toNat, 0]
def k0_off82 (i : grid0.Coords) (k0_t3 : Fin (k0_t3_loop i).trips) (c0_i32_159 : BitVec 32) : Fin 3 → Nat :=
  let c8_474 : Index := 8#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1247 : Index := Scalar.indexCast v1214
  let c0_475 : Index := 0#32
  ![8, v1247.toNat, 0]
def k0_off83 (i : grid0.Coords) (k0_t3 : Fin (k0_t3_loop i).trips) (c0_i32_159 : BitVec 32) : Fin 3 → Nat :=
  let c9_476 : Index := 9#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1251 : Index := Scalar.indexCast v1214
  let c0_477 : Index := 0#32
  ![9, v1251.toNat, 0]
def k0_off84 (i : grid0.Coords) (k0_t3 : Fin (k0_t3_loop i).trips) (c0_i32_159 : BitVec 32) : Fin 3 → Nat :=
  let c10_478 : Index := 10#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1255 : Index := Scalar.indexCast v1214
  let c0_479 : Index := 0#32
  ![10, v1255.toNat, 0]
def k0_off85 (i : grid0.Coords) (k0_t3 : Fin (k0_t3_loop i).trips) (c0_i32_159 : BitVec 32) : Fin 3 → Nat :=
  let c11_480 : Index := 11#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1259 : Index := Scalar.indexCast v1214
  let c0_481 : Index := 0#32
  ![11, v1259.toNat, 0]
def k0_off86 (i : grid0.Coords) (k0_t3 : Fin (k0_t3_loop i).trips) (c0_i32_159 : BitVec 32) : Fin 3 → Nat :=
  let c12_482 : Index := 12#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1263 : Index := Scalar.indexCast v1214
  let c0_483 : Index := 0#32
  ![12, v1263.toNat, 0]
def k0_off87 (i : grid0.Coords) (k0_t3 : Fin (k0_t3_loop i).trips) (c0_i32_159 : BitVec 32) : Fin 3 → Nat :=
  let c13_484 : Index := 13#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1267 : Index := Scalar.indexCast v1214
  let c0_485 : Index := 0#32
  ![13, v1267.toNat, 0]
def k0_off88 (i : grid0.Coords) (k0_t3 : Fin (k0_t3_loop i).trips) (c0_i32_159 : BitVec 32) : Fin 3 → Nat :=
  let c14_486 : Index := 14#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1271 : Index := Scalar.indexCast v1214
  let c0_487 : Index := 0#32
  ![14, v1271.toNat, 0]
def k0_off89 (i : grid0.Coords) (k0_t3 : Fin (k0_t3_loop i).trips) (c0_i32_159 : BitVec 32) : Fin 3 → Nat :=
  let c15_488 : Index := 15#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1275 : Index := Scalar.indexCast v1214
  let c0_489 : Index := 0#32
  ![15, v1275.toNat, 0]
def k0_off90 (i : grid0.Coords) (k0_t3 : Fin (k0_t3_loop i).trips) (c0_i32_159 : BitVec 32) : Fin 3 → Nat :=
  let c16 : Index := 16#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1279 : Index := Scalar.indexCast v1214
  let c0_490 : Index := 0#32
  ![16, v1279.toNat, 0]
def k0_off91 (i : grid0.Coords) (k0_t3 : Fin (k0_t3_loop i).trips) (c0_i32_159 : BitVec 32) : Fin 3 → Nat :=
  let c17 : Index := 17#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1283 : Index := Scalar.indexCast v1214
  let c0_491 : Index := 0#32
  ![17, v1283.toNat, 0]
def k0_off92 (i : grid0.Coords) (k0_t3 : Fin (k0_t3_loop i).trips) (c0_i32_159 : BitVec 32) : Fin 3 → Nat :=
  let c18 : Index := 18#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1287 : Index := Scalar.indexCast v1214
  let c0_492 : Index := 0#32
  ![18, v1287.toNat, 0]
def k0_off93 (i : grid0.Coords) (k0_t3 : Fin (k0_t3_loop i).trips) (c0_i32_159 : BitVec 32) : Fin 3 → Nat :=
  let c19 : Index := 19#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1291 : Index := Scalar.indexCast v1214
  let c0_493 : Index := 0#32
  ![19, v1291.toNat, 0]
def k0_off94 (i : grid0.Coords) (k0_t3 : Fin (k0_t3_loop i).trips) (c0_i32_159 : BitVec 32) : Fin 3 → Nat :=
  let c20 : Index := 20#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1295 : Index := Scalar.indexCast v1214
  let c0_494 : Index := 0#32
  ![20, v1295.toNat, 0]
def k0_off95 (i : grid0.Coords) (k0_t3 : Fin (k0_t3_loop i).trips) (c0_i32_159 : BitVec 32) : Fin 3 → Nat :=
  let c21 : Index := 21#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1299 : Index := Scalar.indexCast v1214
  let c0_495 : Index := 0#32
  ![21, v1299.toNat, 0]
def k0_off96 (i : grid0.Coords) (k0_t3 : Fin (k0_t3_loop i).trips) (c0_i32_159 : BitVec 32) : Fin 3 → Nat :=
  let c22 : Index := 22#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1303 : Index := Scalar.indexCast v1214
  let c0_496 : Index := 0#32
  ![22, v1303.toNat, 0]
def k0_off97 (i : grid0.Coords) (k0_t3 : Fin (k0_t3_loop i).trips) (c0_i32_159 : BitVec 32) : Fin 3 → Nat :=
  let c23 : Index := 23#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1307 : Index := Scalar.indexCast v1214
  let c0_497 : Index := 0#32
  ![23, v1307.toNat, 0]
def k0_off98 (i : grid0.Coords) (k0_t3 : Fin (k0_t3_loop i).trips) (c0_i32_159 : BitVec 32) : Fin 3 → Nat :=
  let c24 : Index := 24#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1311 : Index := Scalar.indexCast v1214
  let c0_498 : Index := 0#32
  ![24, v1311.toNat, 0]
def k0_off99 (i : grid0.Coords) (k0_t3 : Fin (k0_t3_loop i).trips) (c0_i32_159 : BitVec 32) : Fin 3 → Nat :=
  let c25 : Index := 25#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1315 : Index := Scalar.indexCast v1214
  let c0_499 : Index := 0#32
  ![25, v1315.toNat, 0]
def k0_off100 (i : grid0.Coords) (k0_t3 : Fin (k0_t3_loop i).trips) (c0_i32_159 : BitVec 32) : Fin 3 → Nat :=
  let c26 : Index := 26#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1319 : Index := Scalar.indexCast v1214
  let c0_500 : Index := 0#32
  ![26, v1319.toNat, 0]
def k0_off101 (i : grid0.Coords) (k0_t3 : Fin (k0_t3_loop i).trips) (c0_i32_159 : BitVec 32) : Fin 3 → Nat :=
  let c27 : Index := 27#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1323 : Index := Scalar.indexCast v1214
  let c0_501 : Index := 0#32
  ![27, v1323.toNat, 0]
def k0_off102 (i : grid0.Coords) (k0_t3 : Fin (k0_t3_loop i).trips) (c0_i32_159 : BitVec 32) : Fin 3 → Nat :=
  let c28 : Index := 28#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1327 : Index := Scalar.indexCast v1214
  let c0_502 : Index := 0#32
  ![28, v1327.toNat, 0]
def k0_off103 (i : grid0.Coords) (k0_t3 : Fin (k0_t3_loop i).trips) (c0_i32_159 : BitVec 32) : Fin 3 → Nat :=
  let c29 : Index := 29#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1331 : Index := Scalar.indexCast v1214
  let c0_503 : Index := 0#32
  ![29, v1331.toNat, 0]
def k0_off104 (i : grid0.Coords) (k0_t3 : Fin (k0_t3_loop i).trips) (c0_i32_159 : BitVec 32) : Fin 3 → Nat :=
  let c30 : Index := 30#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1335 : Index := Scalar.indexCast v1214
  let c0_504 : Index := 0#32
  ![30, v1335.toNat, 0]
def k0_off105 (i : grid0.Coords) (k0_t3 : Fin (k0_t3_loop i).trips) (c0_i32_159 : BitVec 32) : Fin 3 → Nat :=
  let c31 : Index := 31#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1339 : Index := Scalar.indexCast v1214
  let c0_505 : Index := 0#32
  ![31, v1339.toNat, 0]
def k0_mult38 (i : grid0.Coords) (k0_t3 : Fin (k0_t3_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let c256_i32_506 : BitVec 32 := 256#32
  let v1343 : BitVec 32 := Scalar.addi v285 c256_i32_506
  v1343
def k0_mult39 (i : grid0.Coords) (k0_t3 : Fin (k0_t3_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c1_i32_53 : BitVec 32 := 1#32
  let arg15 : BitVec 32 := Scf.iv c0_i32_51 c1_i32_53 k0_t3
  let c512_i32_158 : BitVec 32 := 512#32
  let v283 : BitVec 32 := Scalar.muli arg15 c512_i32_158
  let v284 : BitVec 32 := Scalar.addi v96 v283
  let v285 : BitVec 32 := v284
  let c256_i32_506 : BitVec 32 := 256#32
  let v1343 : BitVec 32 := Scalar.addi v285 c256_i32_506
  let v1344 : BitVec 32 := v1343
  let c0_i32_824 : BitVec 32 := 0#32
  let v2255 : BitVec 1 := Scalar.cmpi .sgt v1344 c0_i32_824
  let v2256 : BitVec 32 := Scalar.extui v2255
  let c0_i32_825 : BitVec 32 := 0#32
  let v2257 : BitVec 1 := Scalar.cmpi .slt v1344 c0_i32_825
  let v2258 : BitVec 32 := Scalar.extui v2257
  let v2259 : BitVec 32 := Scalar.subi v2256 v2258
  let c32_i32_823 : BitVec 32 := 32#32
  let c0_i32_826 : BitVec 32 := 0#32
  let v2260 : BitVec 1 := Scalar.cmpi .sgt c32_i32_823 c0_i32_826
  let v2261 : BitVec 32 := Scalar.extui v2260
  let c0_i32_827 : BitVec 32 := 0#32
  let v2262 : BitVec 1 := Scalar.cmpi .slt c32_i32_823 c0_i32_827
  let v2263 : BitVec 32 := Scalar.extui v2262
  let v2264 : BitVec 32 := Scalar.subi v2261 v2263
  let v2265 : BitVec 1 := Scalar.cmpi .ne v2259 v2264
  let v2266 : BitVec 32 := Scalar.remsi v1344 c32_i32_823
  let c0_i32_828 : BitVec 32 := 0#32
  let v2267 : BitVec 1 := Scalar.cmpi .ne v2266 c0_i32_828
  let v2268 : BitVec 1 := Scalar.andi v2265 v2267
  let v2254 : BitVec 32 := Scalar.divsi v1344 c32_i32_823
  let c1_i32_829 : BitVec 32 := 1#32
  let v2269 : BitVec 32 := Scalar.subi v2254 c1_i32_829
  let v2270 : BitVec 32 := Scalar.select v2268 v2269 v2254
  v2270
@[reducible] def k0_t4_loop (i : grid0.Coords) : Scf.Loop 32 :=
  let c0_i32_51 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let v103 : BitVec 32 := Scalar.addi c0_i32_51 v102
  let c1_i32_54 : BitVec 32 := 1#32
  ⟨v106, v103, c1_i32_54⟩
def k0_mult40 (i : grid0.Coords) (k0_t4 : Fin (k0_t4_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  v284
def k0_mult41 (i : grid0.Coords) (k0_t4 : Fin (k0_t4_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let c0_i32_159 : BitVec 32 := 0#32
  let v286 : BitVec 32 := Scalar.addi v285 c0_i32_159
  v286
def k0_off106 (i : grid0.Coords) (k0_t4 : Fin (k0_t4_loop i).trips) (c0_i32_159 : BitVec 32) : Fin 3 → Nat :=
  let c0_160 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let v288 : Index := Scalar.indexCast v287
  let c0_161 : Index := 0#32
  ![0, v288.toNat, 0]
def k0_off107 (i : grid0.Coords) (k0_t4 : Fin (k0_t4_loop i).trips) (c0_i32_159 : BitVec 32) : Fin 3 → Nat :=
  let c0_163 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let v292 : Index := Scalar.indexCast v287
  let c128_164 : Index := 128#32
  ![0, v292.toNat, 128]
def k0_off108 (i : grid0.Coords) (k0_t4 : Fin (k0_t4_loop i).trips) (c0_i32_159 : BitVec 32) : Fin 2 → Nat :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let v439 : Index := Scalar.indexCast v287
  let c0_218 : Index := 0#32
  ![v439.toNat, 0]
def k0_mult42 (i : grid0.Coords) (k0_t4 : Fin (k0_t4_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let c0_i32_159 : BitVec 32 := 0#32
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  v1213
def k0_off109 (i : grid0.Coords) (k0_t4 : Fin (k0_t4_loop i).trips) (c0_i32_159 : BitVec 32) : Fin 3 → Nat :=
  let c0_458 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1215 : Index := Scalar.indexCast v1214
  let c0_459 : Index := 0#32
  ![0, v1215.toNat, 0]
def k0_off110 (i : grid0.Coords) (k0_t4 : Fin (k0_t4_loop i).trips) (c0_i32_159 : BitVec 32) : Fin 3 → Nat :=
  let c1_460 : Index := 1#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1219 : Index := Scalar.indexCast v1214
  let c0_461 : Index := 0#32
  ![1, v1219.toNat, 0]
def k0_off111 (i : grid0.Coords) (k0_t4 : Fin (k0_t4_loop i).trips) (c0_i32_159 : BitVec 32) : Fin 3 → Nat :=
  let c2_462 : Index := 2#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1223 : Index := Scalar.indexCast v1214
  let c0_463 : Index := 0#32
  ![2, v1223.toNat, 0]
def k0_off112 (i : grid0.Coords) (k0_t4 : Fin (k0_t4_loop i).trips) (c0_i32_159 : BitVec 32) : Fin 3 → Nat :=
  let c3_464 : Index := 3#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1227 : Index := Scalar.indexCast v1214
  let c0_465 : Index := 0#32
  ![3, v1227.toNat, 0]
def k0_off113 (i : grid0.Coords) (k0_t4 : Fin (k0_t4_loop i).trips) (c0_i32_159 : BitVec 32) : Fin 3 → Nat :=
  let c4_466 : Index := 4#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1231 : Index := Scalar.indexCast v1214
  let c0_467 : Index := 0#32
  ![4, v1231.toNat, 0]
def k0_off114 (i : grid0.Coords) (k0_t4 : Fin (k0_t4_loop i).trips) (c0_i32_159 : BitVec 32) : Fin 3 → Nat :=
  let c5_468 : Index := 5#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1235 : Index := Scalar.indexCast v1214
  let c0_469 : Index := 0#32
  ![5, v1235.toNat, 0]
def k0_off115 (i : grid0.Coords) (k0_t4 : Fin (k0_t4_loop i).trips) (c0_i32_159 : BitVec 32) : Fin 3 → Nat :=
  let c6_470 : Index := 6#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1239 : Index := Scalar.indexCast v1214
  let c0_471 : Index := 0#32
  ![6, v1239.toNat, 0]
def k0_off116 (i : grid0.Coords) (k0_t4 : Fin (k0_t4_loop i).trips) (c0_i32_159 : BitVec 32) : Fin 3 → Nat :=
  let c7_472 : Index := 7#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1243 : Index := Scalar.indexCast v1214
  let c0_473 : Index := 0#32
  ![7, v1243.toNat, 0]
def k0_off117 (i : grid0.Coords) (k0_t4 : Fin (k0_t4_loop i).trips) (c0_i32_159 : BitVec 32) : Fin 3 → Nat :=
  let c8_474 : Index := 8#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1247 : Index := Scalar.indexCast v1214
  let c0_475 : Index := 0#32
  ![8, v1247.toNat, 0]
def k0_off118 (i : grid0.Coords) (k0_t4 : Fin (k0_t4_loop i).trips) (c0_i32_159 : BitVec 32) : Fin 3 → Nat :=
  let c9_476 : Index := 9#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1251 : Index := Scalar.indexCast v1214
  let c0_477 : Index := 0#32
  ![9, v1251.toNat, 0]
def k0_off119 (i : grid0.Coords) (k0_t4 : Fin (k0_t4_loop i).trips) (c0_i32_159 : BitVec 32) : Fin 3 → Nat :=
  let c10_478 : Index := 10#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1255 : Index := Scalar.indexCast v1214
  let c0_479 : Index := 0#32
  ![10, v1255.toNat, 0]
def k0_off120 (i : grid0.Coords) (k0_t4 : Fin (k0_t4_loop i).trips) (c0_i32_159 : BitVec 32) : Fin 3 → Nat :=
  let c11_480 : Index := 11#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1259 : Index := Scalar.indexCast v1214
  let c0_481 : Index := 0#32
  ![11, v1259.toNat, 0]
def k0_off121 (i : grid0.Coords) (k0_t4 : Fin (k0_t4_loop i).trips) (c0_i32_159 : BitVec 32) : Fin 3 → Nat :=
  let c12_482 : Index := 12#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1263 : Index := Scalar.indexCast v1214
  let c0_483 : Index := 0#32
  ![12, v1263.toNat, 0]
def k0_off122 (i : grid0.Coords) (k0_t4 : Fin (k0_t4_loop i).trips) (c0_i32_159 : BitVec 32) : Fin 3 → Nat :=
  let c13_484 : Index := 13#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1267 : Index := Scalar.indexCast v1214
  let c0_485 : Index := 0#32
  ![13, v1267.toNat, 0]
def k0_off123 (i : grid0.Coords) (k0_t4 : Fin (k0_t4_loop i).trips) (c0_i32_159 : BitVec 32) : Fin 3 → Nat :=
  let c14_486 : Index := 14#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1271 : Index := Scalar.indexCast v1214
  let c0_487 : Index := 0#32
  ![14, v1271.toNat, 0]
def k0_off124 (i : grid0.Coords) (k0_t4 : Fin (k0_t4_loop i).trips) (c0_i32_159 : BitVec 32) : Fin 3 → Nat :=
  let c15_488 : Index := 15#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1275 : Index := Scalar.indexCast v1214
  let c0_489 : Index := 0#32
  ![15, v1275.toNat, 0]
def k0_off125 (i : grid0.Coords) (k0_t4 : Fin (k0_t4_loop i).trips) (c0_i32_159 : BitVec 32) : Fin 3 → Nat :=
  let c16 : Index := 16#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1279 : Index := Scalar.indexCast v1214
  let c0_490 : Index := 0#32
  ![16, v1279.toNat, 0]
def k0_off126 (i : grid0.Coords) (k0_t4 : Fin (k0_t4_loop i).trips) (c0_i32_159 : BitVec 32) : Fin 3 → Nat :=
  let c17 : Index := 17#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1283 : Index := Scalar.indexCast v1214
  let c0_491 : Index := 0#32
  ![17, v1283.toNat, 0]
def k0_off127 (i : grid0.Coords) (k0_t4 : Fin (k0_t4_loop i).trips) (c0_i32_159 : BitVec 32) : Fin 3 → Nat :=
  let c18 : Index := 18#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1287 : Index := Scalar.indexCast v1214
  let c0_492 : Index := 0#32
  ![18, v1287.toNat, 0]
def k0_off128 (i : grid0.Coords) (k0_t4 : Fin (k0_t4_loop i).trips) (c0_i32_159 : BitVec 32) : Fin 3 → Nat :=
  let c19 : Index := 19#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1291 : Index := Scalar.indexCast v1214
  let c0_493 : Index := 0#32
  ![19, v1291.toNat, 0]
def k0_off129 (i : grid0.Coords) (k0_t4 : Fin (k0_t4_loop i).trips) (c0_i32_159 : BitVec 32) : Fin 3 → Nat :=
  let c20 : Index := 20#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1295 : Index := Scalar.indexCast v1214
  let c0_494 : Index := 0#32
  ![20, v1295.toNat, 0]
def k0_off130 (i : grid0.Coords) (k0_t4 : Fin (k0_t4_loop i).trips) (c0_i32_159 : BitVec 32) : Fin 3 → Nat :=
  let c21 : Index := 21#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1299 : Index := Scalar.indexCast v1214
  let c0_495 : Index := 0#32
  ![21, v1299.toNat, 0]
def k0_off131 (i : grid0.Coords) (k0_t4 : Fin (k0_t4_loop i).trips) (c0_i32_159 : BitVec 32) : Fin 3 → Nat :=
  let c22 : Index := 22#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1303 : Index := Scalar.indexCast v1214
  let c0_496 : Index := 0#32
  ![22, v1303.toNat, 0]
def k0_off132 (i : grid0.Coords) (k0_t4 : Fin (k0_t4_loop i).trips) (c0_i32_159 : BitVec 32) : Fin 3 → Nat :=
  let c23 : Index := 23#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1307 : Index := Scalar.indexCast v1214
  let c0_497 : Index := 0#32
  ![23, v1307.toNat, 0]
def k0_off133 (i : grid0.Coords) (k0_t4 : Fin (k0_t4_loop i).trips) (c0_i32_159 : BitVec 32) : Fin 3 → Nat :=
  let c24 : Index := 24#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1311 : Index := Scalar.indexCast v1214
  let c0_498 : Index := 0#32
  ![24, v1311.toNat, 0]
def k0_off134 (i : grid0.Coords) (k0_t4 : Fin (k0_t4_loop i).trips) (c0_i32_159 : BitVec 32) : Fin 3 → Nat :=
  let c25 : Index := 25#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1315 : Index := Scalar.indexCast v1214
  let c0_499 : Index := 0#32
  ![25, v1315.toNat, 0]
def k0_off135 (i : grid0.Coords) (k0_t4 : Fin (k0_t4_loop i).trips) (c0_i32_159 : BitVec 32) : Fin 3 → Nat :=
  let c26 : Index := 26#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1319 : Index := Scalar.indexCast v1214
  let c0_500 : Index := 0#32
  ![26, v1319.toNat, 0]
def k0_off136 (i : grid0.Coords) (k0_t4 : Fin (k0_t4_loop i).trips) (c0_i32_159 : BitVec 32) : Fin 3 → Nat :=
  let c27 : Index := 27#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1323 : Index := Scalar.indexCast v1214
  let c0_501 : Index := 0#32
  ![27, v1323.toNat, 0]
def k0_off137 (i : grid0.Coords) (k0_t4 : Fin (k0_t4_loop i).trips) (c0_i32_159 : BitVec 32) : Fin 3 → Nat :=
  let c28 : Index := 28#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1327 : Index := Scalar.indexCast v1214
  let c0_502 : Index := 0#32
  ![28, v1327.toNat, 0]
def k0_off138 (i : grid0.Coords) (k0_t4 : Fin (k0_t4_loop i).trips) (c0_i32_159 : BitVec 32) : Fin 3 → Nat :=
  let c29 : Index := 29#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1331 : Index := Scalar.indexCast v1214
  let c0_503 : Index := 0#32
  ![29, v1331.toNat, 0]
def k0_off139 (i : grid0.Coords) (k0_t4 : Fin (k0_t4_loop i).trips) (c0_i32_159 : BitVec 32) : Fin 3 → Nat :=
  let c30 : Index := 30#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1335 : Index := Scalar.indexCast v1214
  let c0_504 : Index := 0#32
  ![30, v1335.toNat, 0]
def k0_off140 (i : grid0.Coords) (k0_t4 : Fin (k0_t4_loop i).trips) (c0_i32_159 : BitVec 32) : Fin 3 → Nat :=
  let c31 : Index := 31#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let v286 : BitVec 32 := Scalar.addi v285 c0_i32_159
  let v287 : BitVec 32 := v286
  let c0_i32_452 : BitVec 32 := 0#32
  let v1198 : BitVec 1 := Scalar.cmpi .sgt v287 c0_i32_452
  let v1199 : BitVec 32 := Scalar.extui v1198
  let c0_i32_453 : BitVec 32 := 0#32
  let v1200 : BitVec 1 := Scalar.cmpi .slt v287 c0_i32_453
  let v1201 : BitVec 32 := Scalar.extui v1200
  let v1202 : BitVec 32 := Scalar.subi v1199 v1201
  let c32_i32_451 : BitVec 32 := 32#32
  let c0_i32_454 : BitVec 32 := 0#32
  let v1203 : BitVec 1 := Scalar.cmpi .sgt c32_i32_451 c0_i32_454
  let v1204 : BitVec 32 := Scalar.extui v1203
  let c0_i32_455 : BitVec 32 := 0#32
  let v1205 : BitVec 1 := Scalar.cmpi .slt c32_i32_451 c0_i32_455
  let v1206 : BitVec 32 := Scalar.extui v1205
  let v1207 : BitVec 32 := Scalar.subi v1204 v1206
  let v1208 : BitVec 1 := Scalar.cmpi .ne v1202 v1207
  let v1209 : BitVec 32 := Scalar.remsi v287 c32_i32_451
  let c0_i32_456 : BitVec 32 := 0#32
  let v1210 : BitVec 1 := Scalar.cmpi .ne v1209 c0_i32_456
  let v1211 : BitVec 1 := Scalar.andi v1208 v1210
  let v1197 : BitVec 32 := Scalar.divsi v287 c32_i32_451
  let c1_i32_457 : BitVec 32 := 1#32
  let v1212 : BitVec 32 := Scalar.subi v1197 c1_i32_457
  let v1213 : BitVec 32 := Scalar.select v1211 v1212 v1197
  let v1214 : BitVec 32 := v1213
  let v1339 : Index := Scalar.indexCast v1214
  let c0_505 : Index := 0#32
  ![31, v1339.toNat, 0]
def k0_mult43 (i : grid0.Coords) (k0_t4 : Fin (k0_t4_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let c256_i32_506 : BitVec 32 := 256#32
  let v1343 : BitVec 32 := Scalar.addi v285 c256_i32_506
  v1343
def k0_mult44 (i : grid0.Coords) (k0_t4 : Fin (k0_t4_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_44 : BitVec 32 := 2048#32
  let v96 : BitVec 32 := Scalar.muli v54 c2048_i32_44
  let c0_i32_51 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v102 : BitVec 32 := Scalar.subi v75 c0_i32_51
  let c1_i32_52 : BitVec 32 := 1#32
  let v104 : BitVec 32 := Scalar.divsi v102 c1_i32_52
  let v105 : BitVec 32 := Scalar.muli v104 c1_i32_52
  let v106 : BitVec 32 := Scalar.addi c0_i32_51 v105
  let c1_i32_54 : BitVec 32 := 1#32
  let arg15 : BitVec 32 := Scf.iv v106 c1_i32_54 k0_t4
  let c512_i32_158 : BitVec 32 := 512#32
  let v283 : BitVec 32 := Scalar.muli arg15 c512_i32_158
  let v284 : BitVec 32 := Scalar.addi v96 v283
  let v285 : BitVec 32 := v284
  let c256_i32_506 : BitVec 32 := 256#32
  let v1343 : BitVec 32 := Scalar.addi v285 c256_i32_506
  let v1344 : BitVec 32 := v1343
  let c0_i32_824 : BitVec 32 := 0#32
  let v2255 : BitVec 1 := Scalar.cmpi .sgt v1344 c0_i32_824
  let v2256 : BitVec 32 := Scalar.extui v2255
  let c0_i32_825 : BitVec 32 := 0#32
  let v2257 : BitVec 1 := Scalar.cmpi .slt v1344 c0_i32_825
  let v2258 : BitVec 32 := Scalar.extui v2257
  let v2259 : BitVec 32 := Scalar.subi v2256 v2258
  let c32_i32_823 : BitVec 32 := 32#32
  let c0_i32_826 : BitVec 32 := 0#32
  let v2260 : BitVec 1 := Scalar.cmpi .sgt c32_i32_823 c0_i32_826
  let v2261 : BitVec 32 := Scalar.extui v2260
  let c0_i32_827 : BitVec 32 := 0#32
  let v2262 : BitVec 1 := Scalar.cmpi .slt c32_i32_823 c0_i32_827
  let v2263 : BitVec 32 := Scalar.extui v2262
  let v2264 : BitVec 32 := Scalar.subi v2261 v2263
  let v2265 : BitVec 1 := Scalar.cmpi .ne v2259 v2264
  let v2266 : BitVec 32 := Scalar.remsi v1344 c32_i32_823
  let c0_i32_828 : BitVec 32 := 0#32
  let v2267 : BitVec 1 := Scalar.cmpi .ne v2266 c0_i32_828
  let v2268 : BitVec 1 := Scalar.andi v2265 v2267
  let v2254 : BitVec 32 := Scalar.divsi v1344 c32_i32_823
  let c1_i32_829 : BitVec 32 := 1#32
  let v2269 : BitVec 32 := Scalar.subi v2254 c1_i32_829
  let v2270 : BitVec 32 := Scalar.select v2268 v2269 v2254
  v2270
def k0_cond2 (i : grid0.Coords) : BitVec 1 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_26 : BitVec 32 := 2048#32
  let v76 : BitVec 32 := Scalar.muli v54 c2048_i32_26
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let c512_i32_27 : BitVec 32 := 512#32
  let v77 : BitVec 32 := Scalar.muli v75 c512_i32_27
  let v78 : BitVec 32 := Scalar.addi v76 v77
  let c0_i32_55 : BitVec 32 := 0#32
  let v108 : BitVec 1 := Scalar.cmpi .sgt v78 c0_i32_55
  let v109 : BitVec 32 := Scalar.extui v108
  let c0_i32_56 : BitVec 32 := 0#32
  let v110 : BitVec 1 := Scalar.cmpi .slt v78 c0_i32_56
  let v111 : BitVec 32 := Scalar.extui v110
  let v112 : BitVec 32 := Scalar.subi v109 v111
  let c32_i32 : BitVec 32 := 32#32
  let c0_i32_57 : BitVec 32 := 0#32
  let v113 : BitVec 1 := Scalar.cmpi .sgt c32_i32 c0_i32_57
  let v114 : BitVec 32 := Scalar.extui v113
  let c0_i32_58 : BitVec 32 := 0#32
  let v115 : BitVec 1 := Scalar.cmpi .slt c32_i32 c0_i32_58
  let v116 : BitVec 32 := Scalar.extui v115
  let v117 : BitVec 32 := Scalar.subi v114 v116
  let v118 : BitVec 1 := Scalar.cmpi .ne v112 v117
  let v119 : BitVec 32 := Scalar.remsi v78 c32_i32
  let c0_i32_59 : BitVec 32 := 0#32
  let v120 : BitVec 1 := Scalar.cmpi .ne v119 c0_i32_59
  let v121 : BitVec 1 := Scalar.andi v118 v120
  let v107 : BitVec 32 := Scalar.divsi v78 c32_i32
  let c1_i32_60 : BitVec 32 := 1#32
  let v122 : BitVec 32 := Scalar.subi v107 c1_i32_60
  let v123 : BitVec 32 := Scalar.select v121 v122 v107
  let c32_i32_61 : BitVec 32 := 32#32
  let v124 : BitVec 32 := Scalar.addi v123 c32_i32_61
  let c1_i32_62 : BitVec 32 := 1#32
  let v125 : BitVec 32 := Scalar.subi v124 c1_i32_62
  let c0_i32_64 : BitVec 32 := 0#32
  let v127 : BitVec 1 := Scalar.cmpi .sgt v125 c0_i32_64
  let v128 : BitVec 32 := Scalar.extui v127
  let c0_i32_65 : BitVec 32 := 0#32
  let v129 : BitVec 1 := Scalar.cmpi .slt v125 c0_i32_65
  let v130 : BitVec 32 := Scalar.extui v129
  let v131 : BitVec 32 := Scalar.subi v128 v130
  let c32_i32_63 : BitVec 32 := 32#32
  let c0_i32_66 : BitVec 32 := 0#32
  let v132 : BitVec 1 := Scalar.cmpi .sgt c32_i32_63 c0_i32_66
  let v133 : BitVec 32 := Scalar.extui v132
  let c0_i32_67 : BitVec 32 := 0#32
  let v134 : BitVec 1 := Scalar.cmpi .slt c32_i32_63 c0_i32_67
  let v135 : BitVec 32 := Scalar.extui v134
  let v136 : BitVec 32 := Scalar.subi v133 v135
  let v137 : BitVec 1 := Scalar.cmpi .ne v131 v136
  let v138 : BitVec 32 := Scalar.remsi v125 c32_i32_63
  let c0_i32_68 : BitVec 32 := 0#32
  let v139 : BitVec 1 := Scalar.cmpi .ne v138 c0_i32_68
  let v140 : BitVec 1 := Scalar.andi v137 v139
  let v126 : BitVec 32 := Scalar.divsi v125 c32_i32_63
  let c1_i32_69 : BitVec 32 := 1#32
  let v141 : BitVec 32 := Scalar.subi v126 c1_i32_69
  let v142 : BitVec 32 := Scalar.select v140 v141 v126
  let c1_i32_70 : BitVec 32 := 1#32
  let v143 : BitVec 32 := Scalar.subi v142 c1_i32_70
  let c0_i32_71 : BitVec 32 := 0#32
  let v144 : BitVec 32 := Scalar.maxsi v143 c0_i32_71
  let c7_i32 : BitVec 32 := 7#32
  let v145 : BitVec 32 := Scalar.minsi v144 c7_i32
  let c0_i32_72 : BitVec 32 := 0#32
  let v146 : BitVec 1 := Scalar.cmpi .ne v145 c0_i32_72
  v146

def k0_cond3 (i : grid0.Coords) : BitVec 1 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_26 : BitVec 32 := 2048#32
  let v76 : BitVec 32 := Scalar.muli v54 c2048_i32_26
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let c512_i32_27 : BitVec 32 := 512#32
  let v77 : BitVec 32 := Scalar.muli v75 c512_i32_27
  let v78 : BitVec 32 := Scalar.addi v76 v77
  let c0_i32_55 : BitVec 32 := 0#32
  let v108 : BitVec 1 := Scalar.cmpi .sgt v78 c0_i32_55
  let v109 : BitVec 32 := Scalar.extui v108
  let c0_i32_56 : BitVec 32 := 0#32
  let v110 : BitVec 1 := Scalar.cmpi .slt v78 c0_i32_56
  let v111 : BitVec 32 := Scalar.extui v110
  let v112 : BitVec 32 := Scalar.subi v109 v111
  let c32_i32 : BitVec 32 := 32#32
  let c0_i32_57 : BitVec 32 := 0#32
  let v113 : BitVec 1 := Scalar.cmpi .sgt c32_i32 c0_i32_57
  let v114 : BitVec 32 := Scalar.extui v113
  let c0_i32_58 : BitVec 32 := 0#32
  let v115 : BitVec 1 := Scalar.cmpi .slt c32_i32 c0_i32_58
  let v116 : BitVec 32 := Scalar.extui v115
  let v117 : BitVec 32 := Scalar.subi v114 v116
  let v118 : BitVec 1 := Scalar.cmpi .ne v112 v117
  let v119 : BitVec 32 := Scalar.remsi v78 c32_i32
  let c0_i32_59 : BitVec 32 := 0#32
  let v120 : BitVec 1 := Scalar.cmpi .ne v119 c0_i32_59
  let v121 : BitVec 1 := Scalar.andi v118 v120
  let v107 : BitVec 32 := Scalar.divsi v78 c32_i32
  let c1_i32_60 : BitVec 32 := 1#32
  let v122 : BitVec 32 := Scalar.subi v107 c1_i32_60
  let v123 : BitVec 32 := Scalar.select v121 v122 v107
  let c32_i32_61 : BitVec 32 := 32#32
  let v124 : BitVec 32 := Scalar.addi v123 c32_i32_61
  let c1_i32_62 : BitVec 32 := 1#32
  let v125 : BitVec 32 := Scalar.subi v124 c1_i32_62
  let c0_i32_64 : BitVec 32 := 0#32
  let v127 : BitVec 1 := Scalar.cmpi .sgt v125 c0_i32_64
  let v128 : BitVec 32 := Scalar.extui v127
  let c0_i32_65 : BitVec 32 := 0#32
  let v129 : BitVec 1 := Scalar.cmpi .slt v125 c0_i32_65
  let v130 : BitVec 32 := Scalar.extui v129
  let v131 : BitVec 32 := Scalar.subi v128 v130
  let c32_i32_63 : BitVec 32 := 32#32
  let c0_i32_66 : BitVec 32 := 0#32
  let v132 : BitVec 1 := Scalar.cmpi .sgt c32_i32_63 c0_i32_66
  let v133 : BitVec 32 := Scalar.extui v132
  let c0_i32_67 : BitVec 32 := 0#32
  let v134 : BitVec 1 := Scalar.cmpi .slt c32_i32_63 c0_i32_67
  let v135 : BitVec 32 := Scalar.extui v134
  let v136 : BitVec 32 := Scalar.subi v133 v135
  let v137 : BitVec 1 := Scalar.cmpi .ne v131 v136
  let v138 : BitVec 32 := Scalar.remsi v125 c32_i32_63
  let c0_i32_68 : BitVec 32 := 0#32
  let v139 : BitVec 1 := Scalar.cmpi .ne v138 c0_i32_68
  let v140 : BitVec 1 := Scalar.andi v137 v139
  let v126 : BitVec 32 := Scalar.divsi v125 c32_i32_63
  let c1_i32_69 : BitVec 32 := 1#32
  let v141 : BitVec 32 := Scalar.subi v126 c1_i32_69
  let v142 : BitVec 32 := Scalar.select v140 v141 v126
  let c1_i32_70 : BitVec 32 := 1#32
  let v143 : BitVec 32 := Scalar.subi v142 c1_i32_70
  let c0_i32_71 : BitVec 32 := 0#32
  let v144 : BitVec 32 := Scalar.maxsi v143 c0_i32_71
  let c7_i32 : BitVec 32 := 7#32
  let v145 : BitVec 32 := Scalar.minsi v144 c7_i32
  let c1_i32_158 : BitVec 32 := 1#32
  let v283 : BitVec 32 := Scalar.subi v145 c1_i32_158
  let c0_i32_159 : BitVec 32 := 0#32
  let v284 : BitVec 1 := Scalar.cmpi .ne v283 c0_i32_159
  v284

def k0_cond4 (i : grid0.Coords) : BitVec 1 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_26 : BitVec 32 := 2048#32
  let v76 : BitVec 32 := Scalar.muli v54 c2048_i32_26
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let c512_i32_27 : BitVec 32 := 512#32
  let v77 : BitVec 32 := Scalar.muli v75 c512_i32_27
  let v78 : BitVec 32 := Scalar.addi v76 v77
  let c0_i32_55 : BitVec 32 := 0#32
  let v108 : BitVec 1 := Scalar.cmpi .sgt v78 c0_i32_55
  let v109 : BitVec 32 := Scalar.extui v108
  let c0_i32_56 : BitVec 32 := 0#32
  let v110 : BitVec 1 := Scalar.cmpi .slt v78 c0_i32_56
  let v111 : BitVec 32 := Scalar.extui v110
  let v112 : BitVec 32 := Scalar.subi v109 v111
  let c32_i32 : BitVec 32 := 32#32
  let c0_i32_57 : BitVec 32 := 0#32
  let v113 : BitVec 1 := Scalar.cmpi .sgt c32_i32 c0_i32_57
  let v114 : BitVec 32 := Scalar.extui v113
  let c0_i32_58 : BitVec 32 := 0#32
  let v115 : BitVec 1 := Scalar.cmpi .slt c32_i32 c0_i32_58
  let v116 : BitVec 32 := Scalar.extui v115
  let v117 : BitVec 32 := Scalar.subi v114 v116
  let v118 : BitVec 1 := Scalar.cmpi .ne v112 v117
  let v119 : BitVec 32 := Scalar.remsi v78 c32_i32
  let c0_i32_59 : BitVec 32 := 0#32
  let v120 : BitVec 1 := Scalar.cmpi .ne v119 c0_i32_59
  let v121 : BitVec 1 := Scalar.andi v118 v120
  let v107 : BitVec 32 := Scalar.divsi v78 c32_i32
  let c1_i32_60 : BitVec 32 := 1#32
  let v122 : BitVec 32 := Scalar.subi v107 c1_i32_60
  let v123 : BitVec 32 := Scalar.select v121 v122 v107
  let c32_i32_61 : BitVec 32 := 32#32
  let v124 : BitVec 32 := Scalar.addi v123 c32_i32_61
  let c1_i32_62 : BitVec 32 := 1#32
  let v125 : BitVec 32 := Scalar.subi v124 c1_i32_62
  let c0_i32_64 : BitVec 32 := 0#32
  let v127 : BitVec 1 := Scalar.cmpi .sgt v125 c0_i32_64
  let v128 : BitVec 32 := Scalar.extui v127
  let c0_i32_65 : BitVec 32 := 0#32
  let v129 : BitVec 1 := Scalar.cmpi .slt v125 c0_i32_65
  let v130 : BitVec 32 := Scalar.extui v129
  let v131 : BitVec 32 := Scalar.subi v128 v130
  let c32_i32_63 : BitVec 32 := 32#32
  let c0_i32_66 : BitVec 32 := 0#32
  let v132 : BitVec 1 := Scalar.cmpi .sgt c32_i32_63 c0_i32_66
  let v133 : BitVec 32 := Scalar.extui v132
  let c0_i32_67 : BitVec 32 := 0#32
  let v134 : BitVec 1 := Scalar.cmpi .slt c32_i32_63 c0_i32_67
  let v135 : BitVec 32 := Scalar.extui v134
  let v136 : BitVec 32 := Scalar.subi v133 v135
  let v137 : BitVec 1 := Scalar.cmpi .ne v131 v136
  let v138 : BitVec 32 := Scalar.remsi v125 c32_i32_63
  let c0_i32_68 : BitVec 32 := 0#32
  let v139 : BitVec 1 := Scalar.cmpi .ne v138 c0_i32_68
  let v140 : BitVec 1 := Scalar.andi v137 v139
  let v126 : BitVec 32 := Scalar.divsi v125 c32_i32_63
  let c1_i32_69 : BitVec 32 := 1#32
  let v141 : BitVec 32 := Scalar.subi v126 c1_i32_69
  let v142 : BitVec 32 := Scalar.select v140 v141 v126
  let c1_i32_70 : BitVec 32 := 1#32
  let v143 : BitVec 32 := Scalar.subi v142 c1_i32_70
  let c0_i32_71 : BitVec 32 := 0#32
  let v144 : BitVec 32 := Scalar.maxsi v143 c0_i32_71
  let c7_i32 : BitVec 32 := 7#32
  let v145 : BitVec 32 := Scalar.minsi v144 c7_i32
  let c1_i32_158 : BitVec 32 := 1#32
  let v283 : BitVec 32 := Scalar.subi v145 c1_i32_158
  let c1_i32_160 : BitVec 32 := 1#32
  let v286 : BitVec 32 := Scalar.subi v283 c1_i32_160
  let c0_i32_161 : BitVec 32 := 0#32
  let v287 : BitVec 1 := Scalar.cmpi .ne v286 c0_i32_161
  v287

def k0_cond5 (i : grid0.Coords) : BitVec 1 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_26 : BitVec 32 := 2048#32
  let v76 : BitVec 32 := Scalar.muli v54 c2048_i32_26
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let c512_i32_27 : BitVec 32 := 512#32
  let v77 : BitVec 32 := Scalar.muli v75 c512_i32_27
  let v78 : BitVec 32 := Scalar.addi v76 v77
  let c0_i32_55 : BitVec 32 := 0#32
  let v108 : BitVec 1 := Scalar.cmpi .sgt v78 c0_i32_55
  let v109 : BitVec 32 := Scalar.extui v108
  let c0_i32_56 : BitVec 32 := 0#32
  let v110 : BitVec 1 := Scalar.cmpi .slt v78 c0_i32_56
  let v111 : BitVec 32 := Scalar.extui v110
  let v112 : BitVec 32 := Scalar.subi v109 v111
  let c32_i32 : BitVec 32 := 32#32
  let c0_i32_57 : BitVec 32 := 0#32
  let v113 : BitVec 1 := Scalar.cmpi .sgt c32_i32 c0_i32_57
  let v114 : BitVec 32 := Scalar.extui v113
  let c0_i32_58 : BitVec 32 := 0#32
  let v115 : BitVec 1 := Scalar.cmpi .slt c32_i32 c0_i32_58
  let v116 : BitVec 32 := Scalar.extui v115
  let v117 : BitVec 32 := Scalar.subi v114 v116
  let v118 : BitVec 1 := Scalar.cmpi .ne v112 v117
  let v119 : BitVec 32 := Scalar.remsi v78 c32_i32
  let c0_i32_59 : BitVec 32 := 0#32
  let v120 : BitVec 1 := Scalar.cmpi .ne v119 c0_i32_59
  let v121 : BitVec 1 := Scalar.andi v118 v120
  let v107 : BitVec 32 := Scalar.divsi v78 c32_i32
  let c1_i32_60 : BitVec 32 := 1#32
  let v122 : BitVec 32 := Scalar.subi v107 c1_i32_60
  let v123 : BitVec 32 := Scalar.select v121 v122 v107
  let c32_i32_61 : BitVec 32 := 32#32
  let v124 : BitVec 32 := Scalar.addi v123 c32_i32_61
  let c1_i32_62 : BitVec 32 := 1#32
  let v125 : BitVec 32 := Scalar.subi v124 c1_i32_62
  let c0_i32_64 : BitVec 32 := 0#32
  let v127 : BitVec 1 := Scalar.cmpi .sgt v125 c0_i32_64
  let v128 : BitVec 32 := Scalar.extui v127
  let c0_i32_65 : BitVec 32 := 0#32
  let v129 : BitVec 1 := Scalar.cmpi .slt v125 c0_i32_65
  let v130 : BitVec 32 := Scalar.extui v129
  let v131 : BitVec 32 := Scalar.subi v128 v130
  let c32_i32_63 : BitVec 32 := 32#32
  let c0_i32_66 : BitVec 32 := 0#32
  let v132 : BitVec 1 := Scalar.cmpi .sgt c32_i32_63 c0_i32_66
  let v133 : BitVec 32 := Scalar.extui v132
  let c0_i32_67 : BitVec 32 := 0#32
  let v134 : BitVec 1 := Scalar.cmpi .slt c32_i32_63 c0_i32_67
  let v135 : BitVec 32 := Scalar.extui v134
  let v136 : BitVec 32 := Scalar.subi v133 v135
  let v137 : BitVec 1 := Scalar.cmpi .ne v131 v136
  let v138 : BitVec 32 := Scalar.remsi v125 c32_i32_63
  let c0_i32_68 : BitVec 32 := 0#32
  let v139 : BitVec 1 := Scalar.cmpi .ne v138 c0_i32_68
  let v140 : BitVec 1 := Scalar.andi v137 v139
  let v126 : BitVec 32 := Scalar.divsi v125 c32_i32_63
  let c1_i32_69 : BitVec 32 := 1#32
  let v141 : BitVec 32 := Scalar.subi v126 c1_i32_69
  let v142 : BitVec 32 := Scalar.select v140 v141 v126
  let c1_i32_70 : BitVec 32 := 1#32
  let v143 : BitVec 32 := Scalar.subi v142 c1_i32_70
  let c0_i32_71 : BitVec 32 := 0#32
  let v144 : BitVec 32 := Scalar.maxsi v143 c0_i32_71
  let c7_i32 : BitVec 32 := 7#32
  let v145 : BitVec 32 := Scalar.minsi v144 c7_i32
  let c1_i32_158 : BitVec 32 := 1#32
  let v283 : BitVec 32 := Scalar.subi v145 c1_i32_158
  let c1_i32_160 : BitVec 32 := 1#32
  let v286 : BitVec 32 := Scalar.subi v283 c1_i32_160
  let c1_i32_162 : BitVec 32 := 1#32
  let v289 : BitVec 32 := Scalar.subi v286 c1_i32_162
  let c0_i32_163 : BitVec 32 := 0#32
  let v290 : BitVec 1 := Scalar.cmpi .ne v289 c0_i32_163
  v290

def k0_cond6 (i : grid0.Coords) : BitVec 1 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_26 : BitVec 32 := 2048#32
  let v76 : BitVec 32 := Scalar.muli v54 c2048_i32_26
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let c512_i32_27 : BitVec 32 := 512#32
  let v77 : BitVec 32 := Scalar.muli v75 c512_i32_27
  let v78 : BitVec 32 := Scalar.addi v76 v77
  let c0_i32_55 : BitVec 32 := 0#32
  let v108 : BitVec 1 := Scalar.cmpi .sgt v78 c0_i32_55
  let v109 : BitVec 32 := Scalar.extui v108
  let c0_i32_56 : BitVec 32 := 0#32
  let v110 : BitVec 1 := Scalar.cmpi .slt v78 c0_i32_56
  let v111 : BitVec 32 := Scalar.extui v110
  let v112 : BitVec 32 := Scalar.subi v109 v111
  let c32_i32 : BitVec 32 := 32#32
  let c0_i32_57 : BitVec 32 := 0#32
  let v113 : BitVec 1 := Scalar.cmpi .sgt c32_i32 c0_i32_57
  let v114 : BitVec 32 := Scalar.extui v113
  let c0_i32_58 : BitVec 32 := 0#32
  let v115 : BitVec 1 := Scalar.cmpi .slt c32_i32 c0_i32_58
  let v116 : BitVec 32 := Scalar.extui v115
  let v117 : BitVec 32 := Scalar.subi v114 v116
  let v118 : BitVec 1 := Scalar.cmpi .ne v112 v117
  let v119 : BitVec 32 := Scalar.remsi v78 c32_i32
  let c0_i32_59 : BitVec 32 := 0#32
  let v120 : BitVec 1 := Scalar.cmpi .ne v119 c0_i32_59
  let v121 : BitVec 1 := Scalar.andi v118 v120
  let v107 : BitVec 32 := Scalar.divsi v78 c32_i32
  let c1_i32_60 : BitVec 32 := 1#32
  let v122 : BitVec 32 := Scalar.subi v107 c1_i32_60
  let v123 : BitVec 32 := Scalar.select v121 v122 v107
  let c32_i32_61 : BitVec 32 := 32#32
  let v124 : BitVec 32 := Scalar.addi v123 c32_i32_61
  let c1_i32_62 : BitVec 32 := 1#32
  let v125 : BitVec 32 := Scalar.subi v124 c1_i32_62
  let c0_i32_64 : BitVec 32 := 0#32
  let v127 : BitVec 1 := Scalar.cmpi .sgt v125 c0_i32_64
  let v128 : BitVec 32 := Scalar.extui v127
  let c0_i32_65 : BitVec 32 := 0#32
  let v129 : BitVec 1 := Scalar.cmpi .slt v125 c0_i32_65
  let v130 : BitVec 32 := Scalar.extui v129
  let v131 : BitVec 32 := Scalar.subi v128 v130
  let c32_i32_63 : BitVec 32 := 32#32
  let c0_i32_66 : BitVec 32 := 0#32
  let v132 : BitVec 1 := Scalar.cmpi .sgt c32_i32_63 c0_i32_66
  let v133 : BitVec 32 := Scalar.extui v132
  let c0_i32_67 : BitVec 32 := 0#32
  let v134 : BitVec 1 := Scalar.cmpi .slt c32_i32_63 c0_i32_67
  let v135 : BitVec 32 := Scalar.extui v134
  let v136 : BitVec 32 := Scalar.subi v133 v135
  let v137 : BitVec 1 := Scalar.cmpi .ne v131 v136
  let v138 : BitVec 32 := Scalar.remsi v125 c32_i32_63
  let c0_i32_68 : BitVec 32 := 0#32
  let v139 : BitVec 1 := Scalar.cmpi .ne v138 c0_i32_68
  let v140 : BitVec 1 := Scalar.andi v137 v139
  let v126 : BitVec 32 := Scalar.divsi v125 c32_i32_63
  let c1_i32_69 : BitVec 32 := 1#32
  let v141 : BitVec 32 := Scalar.subi v126 c1_i32_69
  let v142 : BitVec 32 := Scalar.select v140 v141 v126
  let c1_i32_70 : BitVec 32 := 1#32
  let v143 : BitVec 32 := Scalar.subi v142 c1_i32_70
  let c0_i32_71 : BitVec 32 := 0#32
  let v144 : BitVec 32 := Scalar.maxsi v143 c0_i32_71
  let c7_i32 : BitVec 32 := 7#32
  let v145 : BitVec 32 := Scalar.minsi v144 c7_i32
  let c1_i32_158 : BitVec 32 := 1#32
  let v283 : BitVec 32 := Scalar.subi v145 c1_i32_158
  let c1_i32_160 : BitVec 32 := 1#32
  let v286 : BitVec 32 := Scalar.subi v283 c1_i32_160
  let c1_i32_162 : BitVec 32 := 1#32
  let v289 : BitVec 32 := Scalar.subi v286 c1_i32_162
  let c1_i32_164 : BitVec 32 := 1#32
  let v292 : BitVec 32 := Scalar.subi v289 c1_i32_164
  let c0_i32_165 : BitVec 32 := 0#32
  let v293 : BitVec 1 := Scalar.cmpi .ne v292 c0_i32_165
  v293

def k0_cond7 (i : grid0.Coords) : BitVec 1 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_26 : BitVec 32 := 2048#32
  let v76 : BitVec 32 := Scalar.muli v54 c2048_i32_26
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let c512_i32_27 : BitVec 32 := 512#32
  let v77 : BitVec 32 := Scalar.muli v75 c512_i32_27
  let v78 : BitVec 32 := Scalar.addi v76 v77
  let c0_i32_55 : BitVec 32 := 0#32
  let v108 : BitVec 1 := Scalar.cmpi .sgt v78 c0_i32_55
  let v109 : BitVec 32 := Scalar.extui v108
  let c0_i32_56 : BitVec 32 := 0#32
  let v110 : BitVec 1 := Scalar.cmpi .slt v78 c0_i32_56
  let v111 : BitVec 32 := Scalar.extui v110
  let v112 : BitVec 32 := Scalar.subi v109 v111
  let c32_i32 : BitVec 32 := 32#32
  let c0_i32_57 : BitVec 32 := 0#32
  let v113 : BitVec 1 := Scalar.cmpi .sgt c32_i32 c0_i32_57
  let v114 : BitVec 32 := Scalar.extui v113
  let c0_i32_58 : BitVec 32 := 0#32
  let v115 : BitVec 1 := Scalar.cmpi .slt c32_i32 c0_i32_58
  let v116 : BitVec 32 := Scalar.extui v115
  let v117 : BitVec 32 := Scalar.subi v114 v116
  let v118 : BitVec 1 := Scalar.cmpi .ne v112 v117
  let v119 : BitVec 32 := Scalar.remsi v78 c32_i32
  let c0_i32_59 : BitVec 32 := 0#32
  let v120 : BitVec 1 := Scalar.cmpi .ne v119 c0_i32_59
  let v121 : BitVec 1 := Scalar.andi v118 v120
  let v107 : BitVec 32 := Scalar.divsi v78 c32_i32
  let c1_i32_60 : BitVec 32 := 1#32
  let v122 : BitVec 32 := Scalar.subi v107 c1_i32_60
  let v123 : BitVec 32 := Scalar.select v121 v122 v107
  let c32_i32_61 : BitVec 32 := 32#32
  let v124 : BitVec 32 := Scalar.addi v123 c32_i32_61
  let c1_i32_62 : BitVec 32 := 1#32
  let v125 : BitVec 32 := Scalar.subi v124 c1_i32_62
  let c0_i32_64 : BitVec 32 := 0#32
  let v127 : BitVec 1 := Scalar.cmpi .sgt v125 c0_i32_64
  let v128 : BitVec 32 := Scalar.extui v127
  let c0_i32_65 : BitVec 32 := 0#32
  let v129 : BitVec 1 := Scalar.cmpi .slt v125 c0_i32_65
  let v130 : BitVec 32 := Scalar.extui v129
  let v131 : BitVec 32 := Scalar.subi v128 v130
  let c32_i32_63 : BitVec 32 := 32#32
  let c0_i32_66 : BitVec 32 := 0#32
  let v132 : BitVec 1 := Scalar.cmpi .sgt c32_i32_63 c0_i32_66
  let v133 : BitVec 32 := Scalar.extui v132
  let c0_i32_67 : BitVec 32 := 0#32
  let v134 : BitVec 1 := Scalar.cmpi .slt c32_i32_63 c0_i32_67
  let v135 : BitVec 32 := Scalar.extui v134
  let v136 : BitVec 32 := Scalar.subi v133 v135
  let v137 : BitVec 1 := Scalar.cmpi .ne v131 v136
  let v138 : BitVec 32 := Scalar.remsi v125 c32_i32_63
  let c0_i32_68 : BitVec 32 := 0#32
  let v139 : BitVec 1 := Scalar.cmpi .ne v138 c0_i32_68
  let v140 : BitVec 1 := Scalar.andi v137 v139
  let v126 : BitVec 32 := Scalar.divsi v125 c32_i32_63
  let c1_i32_69 : BitVec 32 := 1#32
  let v141 : BitVec 32 := Scalar.subi v126 c1_i32_69
  let v142 : BitVec 32 := Scalar.select v140 v141 v126
  let c1_i32_70 : BitVec 32 := 1#32
  let v143 : BitVec 32 := Scalar.subi v142 c1_i32_70
  let c0_i32_71 : BitVec 32 := 0#32
  let v144 : BitVec 32 := Scalar.maxsi v143 c0_i32_71
  let c7_i32 : BitVec 32 := 7#32
  let v145 : BitVec 32 := Scalar.minsi v144 c7_i32
  let c1_i32_158 : BitVec 32 := 1#32
  let v283 : BitVec 32 := Scalar.subi v145 c1_i32_158
  let c1_i32_160 : BitVec 32 := 1#32
  let v286 : BitVec 32 := Scalar.subi v283 c1_i32_160
  let c1_i32_162 : BitVec 32 := 1#32
  let v289 : BitVec 32 := Scalar.subi v286 c1_i32_162
  let c1_i32_164 : BitVec 32 := 1#32
  let v292 : BitVec 32 := Scalar.subi v289 c1_i32_164
  let c1_i32_166 : BitVec 32 := 1#32
  let v295 : BitVec 32 := Scalar.subi v292 c1_i32_166
  let c0_i32_167 : BitVec 32 := 0#32
  let v296 : BitVec 1 := Scalar.cmpi .ne v295 c0_i32_167
  v296

def k0_cond8 (i : grid0.Coords) : BitVec 1 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_26 : BitVec 32 := 2048#32
  let v76 : BitVec 32 := Scalar.muli v54 c2048_i32_26
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let c512_i32_27 : BitVec 32 := 512#32
  let v77 : BitVec 32 := Scalar.muli v75 c512_i32_27
  let v78 : BitVec 32 := Scalar.addi v76 v77
  let c0_i32_55 : BitVec 32 := 0#32
  let v108 : BitVec 1 := Scalar.cmpi .sgt v78 c0_i32_55
  let v109 : BitVec 32 := Scalar.extui v108
  let c0_i32_56 : BitVec 32 := 0#32
  let v110 : BitVec 1 := Scalar.cmpi .slt v78 c0_i32_56
  let v111 : BitVec 32 := Scalar.extui v110
  let v112 : BitVec 32 := Scalar.subi v109 v111
  let c32_i32 : BitVec 32 := 32#32
  let c0_i32_57 : BitVec 32 := 0#32
  let v113 : BitVec 1 := Scalar.cmpi .sgt c32_i32 c0_i32_57
  let v114 : BitVec 32 := Scalar.extui v113
  let c0_i32_58 : BitVec 32 := 0#32
  let v115 : BitVec 1 := Scalar.cmpi .slt c32_i32 c0_i32_58
  let v116 : BitVec 32 := Scalar.extui v115
  let v117 : BitVec 32 := Scalar.subi v114 v116
  let v118 : BitVec 1 := Scalar.cmpi .ne v112 v117
  let v119 : BitVec 32 := Scalar.remsi v78 c32_i32
  let c0_i32_59 : BitVec 32 := 0#32
  let v120 : BitVec 1 := Scalar.cmpi .ne v119 c0_i32_59
  let v121 : BitVec 1 := Scalar.andi v118 v120
  let v107 : BitVec 32 := Scalar.divsi v78 c32_i32
  let c1_i32_60 : BitVec 32 := 1#32
  let v122 : BitVec 32 := Scalar.subi v107 c1_i32_60
  let v123 : BitVec 32 := Scalar.select v121 v122 v107
  let c32_i32_61 : BitVec 32 := 32#32
  let v124 : BitVec 32 := Scalar.addi v123 c32_i32_61
  let c1_i32_62 : BitVec 32 := 1#32
  let v125 : BitVec 32 := Scalar.subi v124 c1_i32_62
  let c0_i32_64 : BitVec 32 := 0#32
  let v127 : BitVec 1 := Scalar.cmpi .sgt v125 c0_i32_64
  let v128 : BitVec 32 := Scalar.extui v127
  let c0_i32_65 : BitVec 32 := 0#32
  let v129 : BitVec 1 := Scalar.cmpi .slt v125 c0_i32_65
  let v130 : BitVec 32 := Scalar.extui v129
  let v131 : BitVec 32 := Scalar.subi v128 v130
  let c32_i32_63 : BitVec 32 := 32#32
  let c0_i32_66 : BitVec 32 := 0#32
  let v132 : BitVec 1 := Scalar.cmpi .sgt c32_i32_63 c0_i32_66
  let v133 : BitVec 32 := Scalar.extui v132
  let c0_i32_67 : BitVec 32 := 0#32
  let v134 : BitVec 1 := Scalar.cmpi .slt c32_i32_63 c0_i32_67
  let v135 : BitVec 32 := Scalar.extui v134
  let v136 : BitVec 32 := Scalar.subi v133 v135
  let v137 : BitVec 1 := Scalar.cmpi .ne v131 v136
  let v138 : BitVec 32 := Scalar.remsi v125 c32_i32_63
  let c0_i32_68 : BitVec 32 := 0#32
  let v139 : BitVec 1 := Scalar.cmpi .ne v138 c0_i32_68
  let v140 : BitVec 1 := Scalar.andi v137 v139
  let v126 : BitVec 32 := Scalar.divsi v125 c32_i32_63
  let c1_i32_69 : BitVec 32 := 1#32
  let v141 : BitVec 32 := Scalar.subi v126 c1_i32_69
  let v142 : BitVec 32 := Scalar.select v140 v141 v126
  let c1_i32_70 : BitVec 32 := 1#32
  let v143 : BitVec 32 := Scalar.subi v142 c1_i32_70
  let c0_i32_71 : BitVec 32 := 0#32
  let v144 : BitVec 32 := Scalar.maxsi v143 c0_i32_71
  let c7_i32 : BitVec 32 := 7#32
  let v145 : BitVec 32 := Scalar.minsi v144 c7_i32
  let c1_i32_158 : BitVec 32 := 1#32
  let v283 : BitVec 32 := Scalar.subi v145 c1_i32_158
  let c1_i32_160 : BitVec 32 := 1#32
  let v286 : BitVec 32 := Scalar.subi v283 c1_i32_160
  let c1_i32_162 : BitVec 32 := 1#32
  let v289 : BitVec 32 := Scalar.subi v286 c1_i32_162
  let c1_i32_164 : BitVec 32 := 1#32
  let v292 : BitVec 32 := Scalar.subi v289 c1_i32_164
  let c1_i32_166 : BitVec 32 := 1#32
  let v295 : BitVec 32 := Scalar.subi v292 c1_i32_166
  let c1_i32_168 : BitVec 32 := 1#32
  let v298 : BitVec 32 := Scalar.subi v295 c1_i32_168
  let c0_i32_169 : BitVec 32 := 0#32
  let v299 : BitVec 1 := Scalar.cmpi .ne v298 c0_i32_169
  v299

@[reducible] def k0_t5_loop : Scf.Loop 32 :=
  let c0_i32_179 : BitVec 32 := 0#32
  let c32_i32_180 : BitVec 32 := 32#32
  let v325 : BitVec 32 := Scalar.addi c0_i32_179 c32_i32_180
  let c1_i32_181 : BitVec 32 := 1#32
  ⟨c0_i32_179, v325, c1_i32_181⟩
def k0_off141 (k0_t5 : Fin k0_t5_loop.trips) : Fin 3 → Nat :=
  let c0_i32_179 : BitVec 32 := 0#32
  let c1_i32_181 : BitVec 32 := 1#32
  let arg15 : BitVec 32 := Scf.iv c0_i32_179 c1_i32_181 k0_t5
  let v332 : Index := Scalar.indexCast arg15
  let c0_185 : Index := 0#32
  let c0_186 : Index := 0#32
  ![v332.toNat, 0, 0]
@[reducible] def k0_t6_loop : Scf.Loop 32 :=
  let c0_i32_179 : BitVec 32 := 0#32
  let c32_i32_180 : BitVec 32 := 32#32
  let v325 : BitVec 32 := Scalar.addi c0_i32_179 c32_i32_180
  let c1_i32_181 : BitVec 32 := 1#32
  ⟨c0_i32_179, v325, c1_i32_181⟩
def k0_off142 (k0_t6 : Fin k0_t6_loop.trips) : Fin 3 → Nat :=
  let c0_i32_179 : BitVec 32 := 0#32
  let c1_i32_181 : BitVec 32 := 1#32
  let arg15 : BitVec 32 := Scf.iv c0_i32_179 c1_i32_181 k0_t6
  let v332 : Index := Scalar.indexCast arg15
  let c0_185 : Index := 0#32
  let c0_186 : Index := 0#32
  ![v332.toNat, 0, 0]
@[reducible] def k0_t7_loop : Scf.Loop 32 :=
  let c0_i32_177 : BitVec 32 := 0#32
  let c32_i32_178 : BitVec 32 := 32#32
  let v322 : BitVec 32 := Scalar.addi c0_i32_177 c32_i32_178
  let c1_i32_179 : BitVec 32 := 1#32
  ⟨c0_i32_177, v322, c1_i32_179⟩
def k0_off143 (k0_t7 : Fin k0_t7_loop.trips) : Fin 3 → Nat :=
  let c0_i32_177 : BitVec 32 := 0#32
  let c1_i32_179 : BitVec 32 := 1#32
  let arg15 : BitVec 32 := Scf.iv c0_i32_177 c1_i32_179 k0_t7
  let v329 : Index := Scalar.indexCast arg15
  let c0_183 : Index := 0#32
  let c0_184 : Index := 0#32
  ![v329.toNat, 0, 0]
@[reducible] def k0_t8_loop : Scf.Loop 32 :=
  let c0_i32_175 : BitVec 32 := 0#32
  let c32_i32_176 : BitVec 32 := 32#32
  let v319 : BitVec 32 := Scalar.addi c0_i32_175 c32_i32_176
  let c1_i32_177 : BitVec 32 := 1#32
  ⟨c0_i32_175, v319, c1_i32_177⟩
def k0_off144 (k0_t8 : Fin k0_t8_loop.trips) : Fin 3 → Nat :=
  let c0_i32_175 : BitVec 32 := 0#32
  let c1_i32_177 : BitVec 32 := 1#32
  let arg15 : BitVec 32 := Scf.iv c0_i32_175 c1_i32_177 k0_t8
  let v326 : Index := Scalar.indexCast arg15
  let c0_181 : Index := 0#32
  let c0_182 : Index := 0#32
  ![v326.toNat, 0, 0]
@[reducible] def k0_t9_loop : Scf.Loop 32 :=
  let c0_i32_173 : BitVec 32 := 0#32
  let c32_i32_174 : BitVec 32 := 32#32
  let v316 : BitVec 32 := Scalar.addi c0_i32_173 c32_i32_174
  let c1_i32_175 : BitVec 32 := 1#32
  ⟨c0_i32_173, v316, c1_i32_175⟩
def k0_off145 (k0_t9 : Fin k0_t9_loop.trips) : Fin 3 → Nat :=
  let c0_i32_173 : BitVec 32 := 0#32
  let c1_i32_175 : BitVec 32 := 1#32
  let arg15 : BitVec 32 := Scf.iv c0_i32_173 c1_i32_175 k0_t9
  let v323 : Index := Scalar.indexCast arg15
  let c0_179 : Index := 0#32
  let c0_180 : Index := 0#32
  ![v323.toNat, 0, 0]
@[reducible] def k0_t10_loop : Scf.Loop 32 :=
  let c0_i32_171 : BitVec 32 := 0#32
  let c32_i32_172 : BitVec 32 := 32#32
  let v313 : BitVec 32 := Scalar.addi c0_i32_171 c32_i32_172
  let c1_i32_173 : BitVec 32 := 1#32
  ⟨c0_i32_171, v313, c1_i32_173⟩
def k0_off146 (k0_t10 : Fin k0_t10_loop.trips) : Fin 3 → Nat :=
  let c0_i32_171 : BitVec 32 := 0#32
  let c1_i32_173 : BitVec 32 := 1#32
  let arg15 : BitVec 32 := Scf.iv c0_i32_171 c1_i32_173 k0_t10
  let v320 : Index := Scalar.indexCast arg15
  let c0_177 : Index := 0#32
  let c0_178 : Index := 0#32
  ![v320.toNat, 0, 0]
@[reducible] def k0_t11_loop : Scf.Loop 32 :=
  let c0_i32_169 : BitVec 32 := 0#32
  let c32_i32_170 : BitVec 32 := 32#32
  let v310 : BitVec 32 := Scalar.addi c0_i32_169 c32_i32_170
  let c1_i32_171 : BitVec 32 := 1#32
  ⟨c0_i32_169, v310, c1_i32_171⟩
def k0_off147 (k0_t11 : Fin k0_t11_loop.trips) : Fin 3 → Nat :=
  let c0_i32_169 : BitVec 32 := 0#32
  let c1_i32_171 : BitVec 32 := 1#32
  let arg15 : BitVec 32 := Scf.iv c0_i32_169 c1_i32_171 k0_t11
  let v317 : Index := Scalar.indexCast arg15
  let c0_175 : Index := 0#32
  let c0_176 : Index := 0#32
  ![v317.toNat, 0, 0]
@[reducible] def k0_t12_loop : Scf.Loop 32 :=
  let c0_i32_167 : BitVec 32 := 0#32
  let c32_i32_168 : BitVec 32 := 32#32
  let v307 : BitVec 32 := Scalar.addi c0_i32_167 c32_i32_168
  let c1_i32_169 : BitVec 32 := 1#32
  ⟨c0_i32_167, v307, c1_i32_169⟩
def k0_off148 (k0_t12 : Fin k0_t12_loop.trips) : Fin 3 → Nat :=
  let c0_i32_167 : BitVec 32 := 0#32
  let c1_i32_169 : BitVec 32 := 1#32
  let arg15 : BitVec 32 := Scf.iv c0_i32_167 c1_i32_169 k0_t12
  let v314 : Index := Scalar.indexCast arg15
  let c0_173 : Index := 0#32
  let c0_174 : Index := 0#32
  ![v314.toNat, 0, 0]
@[reducible] def k0_t13_loop (i : grid0.Coords) : Scf.Loop 32 :=
  let c0_i32_160 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v285 : BitVec 32 := Scalar.subi v54 c0_i32_160
  let c1_i32_161 : BitVec 32 := 1#32
  let v287 : BitVec 32 := Scalar.divsi v285 c1_i32_161
  let v288 : BitVec 32 := Scalar.muli v287 c1_i32_161
  let v289 : BitVec 32 := Scalar.addi c0_i32_160 v288
  let c1_i32_162 : BitVec 32 := 1#32
  ⟨c0_i32_160, v289, c1_i32_162⟩
def k0_mult45 (i : grid0.Coords) (k0_t13 : Fin (k0_t13_loop i).trips) : BitVec 32 :=
  let c0_i32_186 : BitVec 32 := 0#32
  let c0_i32_160 : BitVec 32 := 0#32
  let c1_i32_162 : BitVec 32 := 1#32
  let arg15 : BitVec 32 := Scf.iv c0_i32_160 c1_i32_162 k0_t13
  let c2048_i32_185 : BitVec 32 := 2048#32
  let v317 : BitVec 32 := Scalar.muli arg15 c2048_i32_185
  let v318 : BitVec 32 := Scalar.addi c0_i32_186 v317
  v318
def k0_off149 (i : grid0.Coords) (k0_t13 : Fin (k0_t13_loop i).trips) : Fin 2 → Nat :=
  let c0_i32_186 : BitVec 32 := 0#32
  let c0_i32_160 : BitVec 32 := 0#32
  let c1_i32_162 : BitVec 32 := 1#32
  let arg15 : BitVec 32 := Scf.iv c0_i32_160 c1_i32_162 k0_t13
  let c2048_i32_185 : BitVec 32 := 2048#32
  let v317 : BitVec 32 := Scalar.muli arg15 c2048_i32_185
  let v318 : BitVec 32 := Scalar.addi c0_i32_186 v317
  let v319 : BitVec 32 := v318
  let v323 : Index := Scalar.indexCast v319
  let c0_187 : Index := 0#32
  ![v323.toNat, 0]
@[reducible] def k0_t14_loop (i : grid0.Coords) : Scf.Loop 32 :=
  let c0_i32_160 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v285 : BitVec 32 := Scalar.subi v54 c0_i32_160
  let c1_i32_161 : BitVec 32 := 1#32
  let v287 : BitVec 32 := Scalar.divsi v285 c1_i32_161
  let v288 : BitVec 32 := Scalar.muli v287 c1_i32_161
  let v289 : BitVec 32 := Scalar.addi c0_i32_160 v288
  let v286 : BitVec 32 := Scalar.addi c0_i32_160 v285
  let c1_i32_163 : BitVec 32 := 1#32
  ⟨v289, v286, c1_i32_163⟩
def k0_mult46 (i : grid0.Coords) (k0_t14 : Fin (k0_t14_loop i).trips) : BitVec 32 :=
  let c0_i32_186 : BitVec 32 := 0#32
  let c0_i32_160 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v285 : BitVec 32 := Scalar.subi v54 c0_i32_160
  let c1_i32_161 : BitVec 32 := 1#32
  let v287 : BitVec 32 := Scalar.divsi v285 c1_i32_161
  let v288 : BitVec 32 := Scalar.muli v287 c1_i32_161
  let v289 : BitVec 32 := Scalar.addi c0_i32_160 v288
  let c1_i32_163 : BitVec 32 := 1#32
  let arg15 : BitVec 32 := Scf.iv v289 c1_i32_163 k0_t14
  let c2048_i32_185 : BitVec 32 := 2048#32
  let v317 : BitVec 32 := Scalar.muli arg15 c2048_i32_185
  let v318 : BitVec 32 := Scalar.addi c0_i32_186 v317
  v318
def k0_off150 (i : grid0.Coords) (k0_t14 : Fin (k0_t14_loop i).trips) : Fin 2 → Nat :=
  let c0_i32_186 : BitVec 32 := 0#32
  let c0_i32_160 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v285 : BitVec 32 := Scalar.subi v54 c0_i32_160
  let c1_i32_161 : BitVec 32 := 1#32
  let v287 : BitVec 32 := Scalar.divsi v285 c1_i32_161
  let v288 : BitVec 32 := Scalar.muli v287 c1_i32_161
  let v289 : BitVec 32 := Scalar.addi c0_i32_160 v288
  let c1_i32_163 : BitVec 32 := 1#32
  let arg15 : BitVec 32 := Scf.iv v289 c1_i32_163 k0_t14
  let c2048_i32_185 : BitVec 32 := 2048#32
  let v317 : BitVec 32 := Scalar.muli arg15 c2048_i32_185
  let v318 : BitVec 32 := Scalar.addi c0_i32_186 v317
  let v319 : BitVec 32 := v318
  let v323 : Index := Scalar.indexCast v319
  let c0_187 : Index := 0#32
  ![v323.toNat, 0]
@[reducible] def k0_t15_loop (i : grid0.Coords) : Scf.Loop 32 :=
  let c0_i32_164 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v292 : BitVec 32 := Scalar.subi v75 c0_i32_164
  let c1_i32_165 : BitVec 32 := 1#32
  let v294 : BitVec 32 := Scalar.divsi v292 c1_i32_165
  let v295 : BitVec 32 := Scalar.muli v294 c1_i32_165
  let v296 : BitVec 32 := Scalar.addi c0_i32_164 v295
  let c1_i32_166 : BitVec 32 := 1#32
  ⟨c0_i32_164, v296, c1_i32_166⟩
def k0_mult47 (i : grid0.Coords) (k0_t15 : Fin (k0_t15_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_159 : BitVec 32 := 2048#32
  let v284 : BitVec 32 := Scalar.muli v54 c2048_i32_159
  let c0_i32_164 : BitVec 32 := 0#32
  let c1_i32_166 : BitVec 32 := 1#32
  let arg15 : BitVec 32 := Scf.iv c0_i32_164 c1_i32_166 k0_t15
  let c512_i32_185 : BitVec 32 := 512#32
  let v317 : BitVec 32 := Scalar.muli arg15 c512_i32_185
  let v318 : BitVec 32 := Scalar.addi v284 v317
  v318
def k0_off151 (i : grid0.Coords) (k0_t15 : Fin (k0_t15_loop i).trips) : Fin 2 → Nat :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_159 : BitVec 32 := 2048#32
  let v284 : BitVec 32 := Scalar.muli v54 c2048_i32_159
  let c0_i32_164 : BitVec 32 := 0#32
  let c1_i32_166 : BitVec 32 := 1#32
  let arg15 : BitVec 32 := Scf.iv c0_i32_164 c1_i32_166 k0_t15
  let c512_i32_185 : BitVec 32 := 512#32
  let v317 : BitVec 32 := Scalar.muli arg15 c512_i32_185
  let v318 : BitVec 32 := Scalar.addi v284 v317
  let v319 : BitVec 32 := v318
  let v323 : Index := Scalar.indexCast v319
  let c0_186 : Index := 0#32
  ![v323.toNat, 0]
@[reducible] def k0_t16_loop (i : grid0.Coords) : Scf.Loop 32 :=
  let c0_i32_164 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v292 : BitVec 32 := Scalar.subi v75 c0_i32_164
  let c1_i32_165 : BitVec 32 := 1#32
  let v294 : BitVec 32 := Scalar.divsi v292 c1_i32_165
  let v295 : BitVec 32 := Scalar.muli v294 c1_i32_165
  let v296 : BitVec 32 := Scalar.addi c0_i32_164 v295
  let v293 : BitVec 32 := Scalar.addi c0_i32_164 v292
  let c1_i32_167 : BitVec 32 := 1#32
  ⟨v296, v293, c1_i32_167⟩
def k0_mult48 (i : grid0.Coords) (k0_t16 : Fin (k0_t16_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_159 : BitVec 32 := 2048#32
  let v284 : BitVec 32 := Scalar.muli v54 c2048_i32_159
  let c0_i32_164 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v292 : BitVec 32 := Scalar.subi v75 c0_i32_164
  let c1_i32_165 : BitVec 32 := 1#32
  let v294 : BitVec 32 := Scalar.divsi v292 c1_i32_165
  let v295 : BitVec 32 := Scalar.muli v294 c1_i32_165
  let v296 : BitVec 32 := Scalar.addi c0_i32_164 v295
  let c1_i32_167 : BitVec 32 := 1#32
  let arg15 : BitVec 32 := Scf.iv v296 c1_i32_167 k0_t16
  let c512_i32_185 : BitVec 32 := 512#32
  let v317 : BitVec 32 := Scalar.muli arg15 c512_i32_185
  let v318 : BitVec 32 := Scalar.addi v284 v317
  v318
def k0_off152 (i : grid0.Coords) (k0_t16 : Fin (k0_t16_loop i).trips) : Fin 2 → Nat :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_159 : BitVec 32 := 2048#32
  let v284 : BitVec 32 := Scalar.muli v54 c2048_i32_159
  let c0_i32_164 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v292 : BitVec 32 := Scalar.subi v75 c0_i32_164
  let c1_i32_165 : BitVec 32 := 1#32
  let v294 : BitVec 32 := Scalar.divsi v292 c1_i32_165
  let v295 : BitVec 32 := Scalar.muli v294 c1_i32_165
  let v296 : BitVec 32 := Scalar.addi c0_i32_164 v295
  let c1_i32_167 : BitVec 32 := 1#32
  let arg15 : BitVec 32 := Scf.iv v296 c1_i32_167 k0_t16
  let c512_i32_185 : BitVec 32 := 512#32
  let v317 : BitVec 32 := Scalar.muli arg15 c512_i32_185
  let v318 : BitVec 32 := Scalar.addi v284 v317
  let v319 : BitVec 32 := v318
  let v323 : Index := Scalar.indexCast v319
  let c0_186 : Index := 0#32
  ![v323.toNat, 0]
@[reducible] def k0_t17_loop : Scf.Loop 32 :=
  let c0_i32_171 : BitVec 32 := 0#32
  let c14_i32 : BitVec 32 := 14#32
  let v304 : BitVec 32 := Scalar.addi c0_i32_171 c14_i32
  let c1_i32_172 : BitVec 32 := 1#32
  ⟨c0_i32_171, v304, c1_i32_172⟩
@[reducible] def k0_t18_loop (i : grid0.Coords) : Scf.Loop 32 :=
  let c0_i32_188 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v323 : BitVec 32 := Scalar.subi v54 c0_i32_188
  let c1_i32_189 : BitVec 32 := 1#32
  let v325 : BitVec 32 := Scalar.divsi v323 c1_i32_189
  let v326 : BitVec 32 := Scalar.muli v325 c1_i32_189
  let v327 : BitVec 32 := Scalar.addi c0_i32_188 v326
  let c1_i32_190 : BitVec 32 := 1#32
  ⟨c0_i32_188, v327, c1_i32_190⟩
def k0_mult49 (i : grid0.Coords) (k0_t18 : Fin (k0_t18_loop i).trips) : BitVec 32 :=
  let c0_i32_198 : BitVec 32 := 0#32
  let c0_i32_188 : BitVec 32 := 0#32
  let c1_i32_190 : BitVec 32 := 1#32
  let arg17 : BitVec 32 := Scf.iv c0_i32_188 c1_i32_190 k0_t18
  let c2048_i32_197 : BitVec 32 := 2048#32
  let v341 : BitVec 32 := Scalar.muli arg17 c2048_i32_197
  let v342 : BitVec 32 := Scalar.addi c0_i32_198 v341
  v342
def k0_off153 (i : grid0.Coords) (k0_t18 : Fin (k0_t18_loop i).trips) : Fin 2 → Nat :=
  let c0_i32_198 : BitVec 32 := 0#32
  let c0_i32_188 : BitVec 32 := 0#32
  let c1_i32_190 : BitVec 32 := 1#32
  let arg17 : BitVec 32 := Scf.iv c0_i32_188 c1_i32_190 k0_t18
  let c2048_i32_197 : BitVec 32 := 2048#32
  let v341 : BitVec 32 := Scalar.muli arg17 c2048_i32_197
  let v342 : BitVec 32 := Scalar.addi c0_i32_198 v341
  let v343 : BitVec 32 := v342
  let v347 : Index := Scalar.indexCast v343
  let c0_199 : Index := 0#32
  ![v347.toNat, 0]
@[reducible] def k0_t19_loop (i : grid0.Coords) : Scf.Loop 32 :=
  let c0_i32_188 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v323 : BitVec 32 := Scalar.subi v54 c0_i32_188
  let c1_i32_189 : BitVec 32 := 1#32
  let v325 : BitVec 32 := Scalar.divsi v323 c1_i32_189
  let v326 : BitVec 32 := Scalar.muli v325 c1_i32_189
  let v327 : BitVec 32 := Scalar.addi c0_i32_188 v326
  let v324 : BitVec 32 := Scalar.addi c0_i32_188 v323
  let c1_i32_191 : BitVec 32 := 1#32
  ⟨v327, v324, c1_i32_191⟩
def k0_mult50 (i : grid0.Coords) (k0_t19 : Fin (k0_t19_loop i).trips) : BitVec 32 :=
  let c0_i32_198 : BitVec 32 := 0#32
  let c0_i32_188 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v323 : BitVec 32 := Scalar.subi v54 c0_i32_188
  let c1_i32_189 : BitVec 32 := 1#32
  let v325 : BitVec 32 := Scalar.divsi v323 c1_i32_189
  let v326 : BitVec 32 := Scalar.muli v325 c1_i32_189
  let v327 : BitVec 32 := Scalar.addi c0_i32_188 v326
  let c1_i32_191 : BitVec 32 := 1#32
  let arg17 : BitVec 32 := Scf.iv v327 c1_i32_191 k0_t19
  let c2048_i32_197 : BitVec 32 := 2048#32
  let v341 : BitVec 32 := Scalar.muli arg17 c2048_i32_197
  let v342 : BitVec 32 := Scalar.addi c0_i32_198 v341
  v342
def k0_off154 (i : grid0.Coords) (k0_t19 : Fin (k0_t19_loop i).trips) : Fin 2 → Nat :=
  let c0_i32_198 : BitVec 32 := 0#32
  let c0_i32_188 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v323 : BitVec 32 := Scalar.subi v54 c0_i32_188
  let c1_i32_189 : BitVec 32 := 1#32
  let v325 : BitVec 32 := Scalar.divsi v323 c1_i32_189
  let v326 : BitVec 32 := Scalar.muli v325 c1_i32_189
  let v327 : BitVec 32 := Scalar.addi c0_i32_188 v326
  let c1_i32_191 : BitVec 32 := 1#32
  let arg17 : BitVec 32 := Scf.iv v327 c1_i32_191 k0_t19
  let c2048_i32_197 : BitVec 32 := 2048#32
  let v341 : BitVec 32 := Scalar.muli arg17 c2048_i32_197
  let v342 : BitVec 32 := Scalar.addi c0_i32_198 v341
  let v343 : BitVec 32 := v342
  let v347 : Index := Scalar.indexCast v343
  let c0_199 : Index := 0#32
  ![v347.toNat, 0]
@[reducible] def k0_t20_loop (i : grid0.Coords) : Scf.Loop 32 :=
  let c0_i32_192 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v330 : BitVec 32 := Scalar.subi v75 c0_i32_192
  let c1_i32_193 : BitVec 32 := 1#32
  let v332 : BitVec 32 := Scalar.divsi v330 c1_i32_193
  let v333 : BitVec 32 := Scalar.muli v332 c1_i32_193
  let v334 : BitVec 32 := Scalar.addi c0_i32_192 v333
  let c1_i32_194 : BitVec 32 := 1#32
  ⟨c0_i32_192, v334, c1_i32_194⟩
def k0_mult51 (i : grid0.Coords) (k0_t20 : Fin (k0_t20_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_187 : BitVec 32 := 2048#32
  let v322 : BitVec 32 := Scalar.muli v54 c2048_i32_187
  let c0_i32_192 : BitVec 32 := 0#32
  let c1_i32_194 : BitVec 32 := 1#32
  let arg17 : BitVec 32 := Scf.iv c0_i32_192 c1_i32_194 k0_t20
  let c512_i32_197 : BitVec 32 := 512#32
  let v341 : BitVec 32 := Scalar.muli arg17 c512_i32_197
  let v342 : BitVec 32 := Scalar.addi v322 v341
  v342
def k0_off155 (i : grid0.Coords) (k0_t20 : Fin (k0_t20_loop i).trips) : Fin 2 → Nat :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_187 : BitVec 32 := 2048#32
  let v322 : BitVec 32 := Scalar.muli v54 c2048_i32_187
  let c0_i32_192 : BitVec 32 := 0#32
  let c1_i32_194 : BitVec 32 := 1#32
  let arg17 : BitVec 32 := Scf.iv c0_i32_192 c1_i32_194 k0_t20
  let c512_i32_197 : BitVec 32 := 512#32
  let v341 : BitVec 32 := Scalar.muli arg17 c512_i32_197
  let v342 : BitVec 32 := Scalar.addi v322 v341
  let v343 : BitVec 32 := v342
  let v347 : Index := Scalar.indexCast v343
  let c0_198 : Index := 0#32
  ![v347.toNat, 0]
@[reducible] def k0_t21_loop (i : grid0.Coords) : Scf.Loop 32 :=
  let c0_i32_192 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v330 : BitVec 32 := Scalar.subi v75 c0_i32_192
  let c1_i32_193 : BitVec 32 := 1#32
  let v332 : BitVec 32 := Scalar.divsi v330 c1_i32_193
  let v333 : BitVec 32 := Scalar.muli v332 c1_i32_193
  let v334 : BitVec 32 := Scalar.addi c0_i32_192 v333
  let v331 : BitVec 32 := Scalar.addi c0_i32_192 v330
  let c1_i32_195 : BitVec 32 := 1#32
  ⟨v334, v331, c1_i32_195⟩
def k0_mult52 (i : grid0.Coords) (k0_t21 : Fin (k0_t21_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_187 : BitVec 32 := 2048#32
  let v322 : BitVec 32 := Scalar.muli v54 c2048_i32_187
  let c0_i32_192 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v330 : BitVec 32 := Scalar.subi v75 c0_i32_192
  let c1_i32_193 : BitVec 32 := 1#32
  let v332 : BitVec 32 := Scalar.divsi v330 c1_i32_193
  let v333 : BitVec 32 := Scalar.muli v332 c1_i32_193
  let v334 : BitVec 32 := Scalar.addi c0_i32_192 v333
  let c1_i32_195 : BitVec 32 := 1#32
  let arg17 : BitVec 32 := Scf.iv v334 c1_i32_195 k0_t21
  let c512_i32_197 : BitVec 32 := 512#32
  let v341 : BitVec 32 := Scalar.muli arg17 c512_i32_197
  let v342 : BitVec 32 := Scalar.addi v322 v341
  v342
def k0_off156 (i : grid0.Coords) (k0_t21 : Fin (k0_t21_loop i).trips) : Fin 2 → Nat :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_187 : BitVec 32 := 2048#32
  let v322 : BitVec 32 := Scalar.muli v54 c2048_i32_187
  let c0_i32_192 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v330 : BitVec 32 := Scalar.subi v75 c0_i32_192
  let c1_i32_193 : BitVec 32 := 1#32
  let v332 : BitVec 32 := Scalar.divsi v330 c1_i32_193
  let v333 : BitVec 32 := Scalar.muli v332 c1_i32_193
  let v334 : BitVec 32 := Scalar.addi c0_i32_192 v333
  let c1_i32_195 : BitVec 32 := 1#32
  let arg17 : BitVec 32 := Scf.iv v334 c1_i32_195 k0_t21
  let c512_i32_197 : BitVec 32 := 512#32
  let v341 : BitVec 32 := Scalar.muli arg17 c512_i32_197
  let v342 : BitVec 32 := Scalar.addi v322 v341
  let v343 : BitVec 32 := v342
  let v347 : Index := Scalar.indexCast v343
  let c0_198 : Index := 0#32
  ![v347.toNat, 0]
@[reducible] def k0_t22_loop (i : grid0.Coords) : Scf.Loop 32 :=
  let c0_i32_176 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v307 : BitVec 32 := Scalar.subi v54 c0_i32_176
  let c1_i32_177 : BitVec 32 := 1#32
  let v309 : BitVec 32 := Scalar.divsi v307 c1_i32_177
  let v310 : BitVec 32 := Scalar.muli v309 c1_i32_177
  let v311 : BitVec 32 := Scalar.addi c0_i32_176 v310
  let c1_i32_178 : BitVec 32 := 1#32
  ⟨c0_i32_176, v311, c1_i32_178⟩
def k0_mult53 (i : grid0.Coords) (k0_t22 : Fin (k0_t22_loop i).trips) : BitVec 32 :=
  let c0_i32_186 : BitVec 32 := 0#32
  let c0_i32_176 : BitVec 32 := 0#32
  let c1_i32_178 : BitVec 32 := 1#32
  let arg15 : BitVec 32 := Scf.iv c0_i32_176 c1_i32_178 k0_t22
  let c2048_i32_185 : BitVec 32 := 2048#32
  let v317 : BitVec 32 := Scalar.muli arg15 c2048_i32_185
  let v318 : BitVec 32 := Scalar.addi c0_i32_186 v317
  v318
def k0_off157 (i : grid0.Coords) (k0_t22 : Fin (k0_t22_loop i).trips) : Fin 2 → Nat :=
  let c0_i32_186 : BitVec 32 := 0#32
  let c0_i32_176 : BitVec 32 := 0#32
  let c1_i32_178 : BitVec 32 := 1#32
  let arg15 : BitVec 32 := Scf.iv c0_i32_176 c1_i32_178 k0_t22
  let c2048_i32_185 : BitVec 32 := 2048#32
  let v317 : BitVec 32 := Scalar.muli arg15 c2048_i32_185
  let v318 : BitVec 32 := Scalar.addi c0_i32_186 v317
  let v319 : BitVec 32 := v318
  let v323 : Index := Scalar.indexCast v319
  let c0_187 : Index := 0#32
  ![v323.toNat, 0]
@[reducible] def k0_t23_loop (i : grid0.Coords) : Scf.Loop 32 :=
  let c0_i32_176 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v307 : BitVec 32 := Scalar.subi v54 c0_i32_176
  let c1_i32_177 : BitVec 32 := 1#32
  let v309 : BitVec 32 := Scalar.divsi v307 c1_i32_177
  let v310 : BitVec 32 := Scalar.muli v309 c1_i32_177
  let v311 : BitVec 32 := Scalar.addi c0_i32_176 v310
  let v308 : BitVec 32 := Scalar.addi c0_i32_176 v307
  let c1_i32_179 : BitVec 32 := 1#32
  ⟨v311, v308, c1_i32_179⟩
def k0_mult54 (i : grid0.Coords) (k0_t23 : Fin (k0_t23_loop i).trips) : BitVec 32 :=
  let c0_i32_186 : BitVec 32 := 0#32
  let c0_i32_176 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v307 : BitVec 32 := Scalar.subi v54 c0_i32_176
  let c1_i32_177 : BitVec 32 := 1#32
  let v309 : BitVec 32 := Scalar.divsi v307 c1_i32_177
  let v310 : BitVec 32 := Scalar.muli v309 c1_i32_177
  let v311 : BitVec 32 := Scalar.addi c0_i32_176 v310
  let c1_i32_179 : BitVec 32 := 1#32
  let arg15 : BitVec 32 := Scf.iv v311 c1_i32_179 k0_t23
  let c2048_i32_185 : BitVec 32 := 2048#32
  let v317 : BitVec 32 := Scalar.muli arg15 c2048_i32_185
  let v318 : BitVec 32 := Scalar.addi c0_i32_186 v317
  v318
def k0_off158 (i : grid0.Coords) (k0_t23 : Fin (k0_t23_loop i).trips) : Fin 2 → Nat :=
  let c0_i32_186 : BitVec 32 := 0#32
  let c0_i32_176 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v307 : BitVec 32 := Scalar.subi v54 c0_i32_176
  let c1_i32_177 : BitVec 32 := 1#32
  let v309 : BitVec 32 := Scalar.divsi v307 c1_i32_177
  let v310 : BitVec 32 := Scalar.muli v309 c1_i32_177
  let v311 : BitVec 32 := Scalar.addi c0_i32_176 v310
  let c1_i32_179 : BitVec 32 := 1#32
  let arg15 : BitVec 32 := Scf.iv v311 c1_i32_179 k0_t23
  let c2048_i32_185 : BitVec 32 := 2048#32
  let v317 : BitVec 32 := Scalar.muli arg15 c2048_i32_185
  let v318 : BitVec 32 := Scalar.addi c0_i32_186 v317
  let v319 : BitVec 32 := v318
  let v323 : Index := Scalar.indexCast v319
  let c0_187 : Index := 0#32
  ![v323.toNat, 0]
@[reducible] def k0_t24_loop (i : grid0.Coords) : Scf.Loop 32 :=
  let c0_i32_181 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v312 : BitVec 32 := Scalar.subi v75 c0_i32_181
  let c1_i32_182 : BitVec 32 := 1#32
  let v314 : BitVec 32 := Scalar.divsi v312 c1_i32_182
  let v315 : BitVec 32 := Scalar.muli v314 c1_i32_182
  let v316 : BitVec 32 := Scalar.addi c0_i32_181 v315
  let c1_i32_183 : BitVec 32 := 1#32
  ⟨c0_i32_181, v316, c1_i32_183⟩
def k0_mult55 (i : grid0.Coords) (k0_t24 : Fin (k0_t24_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_174 : BitVec 32 := 2048#32
  let v306 : BitVec 32 := Scalar.muli v54 c2048_i32_174
  let c0_i32_181 : BitVec 32 := 0#32
  let c1_i32_183 : BitVec 32 := 1#32
  let arg15 : BitVec 32 := Scf.iv c0_i32_181 c1_i32_183 k0_t24
  let c512_i32_185 : BitVec 32 := 512#32
  let v317 : BitVec 32 := Scalar.muli arg15 c512_i32_185
  let v318 : BitVec 32 := Scalar.addi v306 v317
  v318
def k0_off159 (i : grid0.Coords) (k0_t24 : Fin (k0_t24_loop i).trips) : Fin 2 → Nat :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_174 : BitVec 32 := 2048#32
  let v306 : BitVec 32 := Scalar.muli v54 c2048_i32_174
  let c0_i32_181 : BitVec 32 := 0#32
  let c1_i32_183 : BitVec 32 := 1#32
  let arg15 : BitVec 32 := Scf.iv c0_i32_181 c1_i32_183 k0_t24
  let c512_i32_185 : BitVec 32 := 512#32
  let v317 : BitVec 32 := Scalar.muli arg15 c512_i32_185
  let v318 : BitVec 32 := Scalar.addi v306 v317
  let v319 : BitVec 32 := v318
  let v323 : Index := Scalar.indexCast v319
  let c0_186 : Index := 0#32
  ![v323.toNat, 0]
@[reducible] def k0_t25_loop (i : grid0.Coords) : Scf.Loop 32 :=
  let c0_i32_181 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v312 : BitVec 32 := Scalar.subi v75 c0_i32_181
  let c1_i32_182 : BitVec 32 := 1#32
  let v314 : BitVec 32 := Scalar.divsi v312 c1_i32_182
  let v315 : BitVec 32 := Scalar.muli v314 c1_i32_182
  let v316 : BitVec 32 := Scalar.addi c0_i32_181 v315
  let v313 : BitVec 32 := Scalar.addi c0_i32_181 v312
  let c1_i32_184 : BitVec 32 := 1#32
  ⟨v316, v313, c1_i32_184⟩
def k0_mult56 (i : grid0.Coords) (k0_t25 : Fin (k0_t25_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_174 : BitVec 32 := 2048#32
  let v306 : BitVec 32 := Scalar.muli v54 c2048_i32_174
  let c0_i32_181 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v312 : BitVec 32 := Scalar.subi v75 c0_i32_181
  let c1_i32_182 : BitVec 32 := 1#32
  let v314 : BitVec 32 := Scalar.divsi v312 c1_i32_182
  let v315 : BitVec 32 := Scalar.muli v314 c1_i32_182
  let v316 : BitVec 32 := Scalar.addi c0_i32_181 v315
  let c1_i32_184 : BitVec 32 := 1#32
  let arg15 : BitVec 32 := Scf.iv v316 c1_i32_184 k0_t25
  let c512_i32_185 : BitVec 32 := 512#32
  let v317 : BitVec 32 := Scalar.muli arg15 c512_i32_185
  let v318 : BitVec 32 := Scalar.addi v306 v317
  v318
def k0_off160 (i : grid0.Coords) (k0_t25 : Fin (k0_t25_loop i).trips) : Fin 2 → Nat :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_174 : BitVec 32 := 2048#32
  let v306 : BitVec 32 := Scalar.muli v54 c2048_i32_174
  let c0_i32_181 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v312 : BitVec 32 := Scalar.subi v75 c0_i32_181
  let c1_i32_182 : BitVec 32 := 1#32
  let v314 : BitVec 32 := Scalar.divsi v312 c1_i32_182
  let v315 : BitVec 32 := Scalar.muli v314 c1_i32_182
  let v316 : BitVec 32 := Scalar.addi c0_i32_181 v315
  let c1_i32_184 : BitVec 32 := 1#32
  let arg15 : BitVec 32 := Scf.iv v316 c1_i32_184 k0_t25
  let c512_i32_185 : BitVec 32 := 512#32
  let v317 : BitVec 32 := Scalar.muli arg15 c512_i32_185
  let v318 : BitVec 32 := Scalar.addi v306 v317
  let v319 : BitVec 32 := v318
  let v323 : Index := Scalar.indexCast v319
  let c0_186 : Index := 0#32
  ![v323.toNat, 0]
@[reducible] def k0_t26_loop (i : grid0.Coords) : Scf.Loop 32 :=
  let c0_i32_160 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v284 : BitVec 32 := Scalar.subi v54 c0_i32_160
  let c1_i32_161 : BitVec 32 := 1#32
  let v286 : BitVec 32 := Scalar.divsi v284 c1_i32_161
  let v287 : BitVec 32 := Scalar.muli v286 c1_i32_161
  let v288 : BitVec 32 := Scalar.addi c0_i32_160 v287
  let c1_i32_162 : BitVec 32 := 1#32
  ⟨c0_i32_160, v288, c1_i32_162⟩
def k0_mult57 (i : grid0.Coords) (k0_t26 : Fin (k0_t26_loop i).trips) : BitVec 32 :=
  let c0_i32_170 : BitVec 32 := 0#32
  let c0_i32_160 : BitVec 32 := 0#32
  let c1_i32_162 : BitVec 32 := 1#32
  let arg15 : BitVec 32 := Scf.iv c0_i32_160 c1_i32_162 k0_t26
  let c2048_i32_169 : BitVec 32 := 2048#32
  let v294 : BitVec 32 := Scalar.muli arg15 c2048_i32_169
  let v295 : BitVec 32 := Scalar.addi c0_i32_170 v294
  v295
def k0_off161 (i : grid0.Coords) (k0_t26 : Fin (k0_t26_loop i).trips) : Fin 2 → Nat :=
  let c0_i32_170 : BitVec 32 := 0#32
  let c0_i32_160 : BitVec 32 := 0#32
  let c1_i32_162 : BitVec 32 := 1#32
  let arg15 : BitVec 32 := Scf.iv c0_i32_160 c1_i32_162 k0_t26
  let c2048_i32_169 : BitVec 32 := 2048#32
  let v294 : BitVec 32 := Scalar.muli arg15 c2048_i32_169
  let v295 : BitVec 32 := Scalar.addi c0_i32_170 v294
  let v296 : BitVec 32 := v295
  let v297 : Index := Scalar.indexCast v296
  let c0_171 : Index := 0#32
  ![v297.toNat, 0]
def k0_off162 (i : grid0.Coords) (k0_t26 : Fin (k0_t26_loop i).trips) : Fin 3 → Nat :=
  let c0_172 : Index := 0#32
  let c0_i32_170 : BitVec 32 := 0#32
  let c0_i32_160 : BitVec 32 := 0#32
  let c1_i32_162 : BitVec 32 := 1#32
  let arg15 : BitVec 32 := Scf.iv c0_i32_160 c1_i32_162 k0_t26
  let c2048_i32_169 : BitVec 32 := 2048#32
  let v294 : BitVec 32 := Scalar.muli arg15 c2048_i32_169
  let v295 : BitVec 32 := Scalar.addi c0_i32_170 v294
  let v296 : BitVec 32 := v295
  let v301 : Index := Scalar.indexCast v296
  let c0_173 : Index := 0#32
  ![0, v301.toNat, 0]
def k0_off163 (i : grid0.Coords) (k0_t26 : Fin (k0_t26_loop i).trips) : Fin 3 → Nat :=
  let c0_195 : Index := 0#32
  let c0_i32_170 : BitVec 32 := 0#32
  let c0_i32_160 : BitVec 32 := 0#32
  let c1_i32_162 : BitVec 32 := 1#32
  let arg15 : BitVec 32 := Scf.iv c0_i32_160 c1_i32_162 k0_t26
  let c2048_i32_169 : BitVec 32 := 2048#32
  let v294 : BitVec 32 := Scalar.muli arg15 c2048_i32_169
  let v295 : BitVec 32 := Scalar.addi c0_i32_170 v294
  let v296 : BitVec 32 := v295
  let v353 : Index := Scalar.indexCast v296
  let c128_196 : Index := 128#32
  ![0, v353.toNat, 128]
@[reducible] def k0_t27_loop (i : grid0.Coords) : Scf.Loop 32 :=
  let c0_i32_160 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v284 : BitVec 32 := Scalar.subi v54 c0_i32_160
  let c1_i32_161 : BitVec 32 := 1#32
  let v286 : BitVec 32 := Scalar.divsi v284 c1_i32_161
  let v287 : BitVec 32 := Scalar.muli v286 c1_i32_161
  let v288 : BitVec 32 := Scalar.addi c0_i32_160 v287
  let v285 : BitVec 32 := Scalar.addi c0_i32_160 v284
  let c1_i32_163 : BitVec 32 := 1#32
  ⟨v288, v285, c1_i32_163⟩
def k0_mult58 (i : grid0.Coords) (k0_t27 : Fin (k0_t27_loop i).trips) : BitVec 32 :=
  let c0_i32_170 : BitVec 32 := 0#32
  let c0_i32_160 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v284 : BitVec 32 := Scalar.subi v54 c0_i32_160
  let c1_i32_161 : BitVec 32 := 1#32
  let v286 : BitVec 32 := Scalar.divsi v284 c1_i32_161
  let v287 : BitVec 32 := Scalar.muli v286 c1_i32_161
  let v288 : BitVec 32 := Scalar.addi c0_i32_160 v287
  let c1_i32_163 : BitVec 32 := 1#32
  let arg15 : BitVec 32 := Scf.iv v288 c1_i32_163 k0_t27
  let c2048_i32_169 : BitVec 32 := 2048#32
  let v294 : BitVec 32 := Scalar.muli arg15 c2048_i32_169
  let v295 : BitVec 32 := Scalar.addi c0_i32_170 v294
  v295
def k0_off164 (i : grid0.Coords) (k0_t27 : Fin (k0_t27_loop i).trips) : Fin 2 → Nat :=
  let c0_i32_170 : BitVec 32 := 0#32
  let c0_i32_160 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v284 : BitVec 32 := Scalar.subi v54 c0_i32_160
  let c1_i32_161 : BitVec 32 := 1#32
  let v286 : BitVec 32 := Scalar.divsi v284 c1_i32_161
  let v287 : BitVec 32 := Scalar.muli v286 c1_i32_161
  let v288 : BitVec 32 := Scalar.addi c0_i32_160 v287
  let c1_i32_163 : BitVec 32 := 1#32
  let arg15 : BitVec 32 := Scf.iv v288 c1_i32_163 k0_t27
  let c2048_i32_169 : BitVec 32 := 2048#32
  let v294 : BitVec 32 := Scalar.muli arg15 c2048_i32_169
  let v295 : BitVec 32 := Scalar.addi c0_i32_170 v294
  let v296 : BitVec 32 := v295
  let v297 : Index := Scalar.indexCast v296
  let c0_171 : Index := 0#32
  ![v297.toNat, 0]
def k0_off165 (i : grid0.Coords) (k0_t27 : Fin (k0_t27_loop i).trips) : Fin 3 → Nat :=
  let c0_172 : Index := 0#32
  let c0_i32_170 : BitVec 32 := 0#32
  let c0_i32_160 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v284 : BitVec 32 := Scalar.subi v54 c0_i32_160
  let c1_i32_161 : BitVec 32 := 1#32
  let v286 : BitVec 32 := Scalar.divsi v284 c1_i32_161
  let v287 : BitVec 32 := Scalar.muli v286 c1_i32_161
  let v288 : BitVec 32 := Scalar.addi c0_i32_160 v287
  let c1_i32_163 : BitVec 32 := 1#32
  let arg15 : BitVec 32 := Scf.iv v288 c1_i32_163 k0_t27
  let c2048_i32_169 : BitVec 32 := 2048#32
  let v294 : BitVec 32 := Scalar.muli arg15 c2048_i32_169
  let v295 : BitVec 32 := Scalar.addi c0_i32_170 v294
  let v296 : BitVec 32 := v295
  let v301 : Index := Scalar.indexCast v296
  let c0_173 : Index := 0#32
  ![0, v301.toNat, 0]
def k0_off166 (i : grid0.Coords) (k0_t27 : Fin (k0_t27_loop i).trips) : Fin 3 → Nat :=
  let c0_195 : Index := 0#32
  let c0_i32_170 : BitVec 32 := 0#32
  let c0_i32_160 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v284 : BitVec 32 := Scalar.subi v54 c0_i32_160
  let c1_i32_161 : BitVec 32 := 1#32
  let v286 : BitVec 32 := Scalar.divsi v284 c1_i32_161
  let v287 : BitVec 32 := Scalar.muli v286 c1_i32_161
  let v288 : BitVec 32 := Scalar.addi c0_i32_160 v287
  let c1_i32_163 : BitVec 32 := 1#32
  let arg15 : BitVec 32 := Scf.iv v288 c1_i32_163 k0_t27
  let c2048_i32_169 : BitVec 32 := 2048#32
  let v294 : BitVec 32 := Scalar.muli arg15 c2048_i32_169
  let v295 : BitVec 32 := Scalar.addi c0_i32_170 v294
  let v296 : BitVec 32 := v295
  let v353 : Index := Scalar.indexCast v296
  let c128_196 : Index := 128#32
  ![0, v353.toNat, 128]
@[reducible] def k0_t28_loop (i : grid0.Coords) : Scf.Loop 32 :=
  let c0_i32_165 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v289 : BitVec 32 := Scalar.subi v75 c0_i32_165
  let c1_i32_166 : BitVec 32 := 1#32
  let v291 : BitVec 32 := Scalar.divsi v289 c1_i32_166
  let v292 : BitVec 32 := Scalar.muli v291 c1_i32_166
  let v293 : BitVec 32 := Scalar.addi c0_i32_165 v292
  let c1_i32_167 : BitVec 32 := 1#32
  ⟨c0_i32_165, v293, c1_i32_167⟩
def k0_mult59 (i : grid0.Coords) (k0_t28 : Fin (k0_t28_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_158 : BitVec 32 := 2048#32
  let v283 : BitVec 32 := Scalar.muli v54 c2048_i32_158
  let c0_i32_165 : BitVec 32 := 0#32
  let c1_i32_167 : BitVec 32 := 1#32
  let arg15 : BitVec 32 := Scf.iv c0_i32_165 c1_i32_167 k0_t28
  let c512_i32_169 : BitVec 32 := 512#32
  let v294 : BitVec 32 := Scalar.muli arg15 c512_i32_169
  let v295 : BitVec 32 := Scalar.addi v283 v294
  v295
def k0_off167 (i : grid0.Coords) (k0_t28 : Fin (k0_t28_loop i).trips) : Fin 2 → Nat :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_158 : BitVec 32 := 2048#32
  let v283 : BitVec 32 := Scalar.muli v54 c2048_i32_158
  let c0_i32_165 : BitVec 32 := 0#32
  let c1_i32_167 : BitVec 32 := 1#32
  let arg15 : BitVec 32 := Scf.iv c0_i32_165 c1_i32_167 k0_t28
  let c512_i32_169 : BitVec 32 := 512#32
  let v294 : BitVec 32 := Scalar.muli arg15 c512_i32_169
  let v295 : BitVec 32 := Scalar.addi v283 v294
  let v296 : BitVec 32 := v295
  let v297 : Index := Scalar.indexCast v296
  let c0_170 : Index := 0#32
  ![v297.toNat, 0]
def k0_off168 (i : grid0.Coords) (k0_t28 : Fin (k0_t28_loop i).trips) : Fin 3 → Nat :=
  let c0_171 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_158 : BitVec 32 := 2048#32
  let v283 : BitVec 32 := Scalar.muli v54 c2048_i32_158
  let c0_i32_165 : BitVec 32 := 0#32
  let c1_i32_167 : BitVec 32 := 1#32
  let arg15 : BitVec 32 := Scf.iv c0_i32_165 c1_i32_167 k0_t28
  let c512_i32_169 : BitVec 32 := 512#32
  let v294 : BitVec 32 := Scalar.muli arg15 c512_i32_169
  let v295 : BitVec 32 := Scalar.addi v283 v294
  let v296 : BitVec 32 := v295
  let v301 : Index := Scalar.indexCast v296
  let c0_172 : Index := 0#32
  ![0, v301.toNat, 0]
def k0_off169 (i : grid0.Coords) (k0_t28 : Fin (k0_t28_loop i).trips) : Fin 3 → Nat :=
  let c0_194 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_158 : BitVec 32 := 2048#32
  let v283 : BitVec 32 := Scalar.muli v54 c2048_i32_158
  let c0_i32_165 : BitVec 32 := 0#32
  let c1_i32_167 : BitVec 32 := 1#32
  let arg15 : BitVec 32 := Scf.iv c0_i32_165 c1_i32_167 k0_t28
  let c512_i32_169 : BitVec 32 := 512#32
  let v294 : BitVec 32 := Scalar.muli arg15 c512_i32_169
  let v295 : BitVec 32 := Scalar.addi v283 v294
  let v296 : BitVec 32 := v295
  let v353 : Index := Scalar.indexCast v296
  let c128_195 : Index := 128#32
  ![0, v353.toNat, 128]
@[reducible] def k0_t29_loop (i : grid0.Coords) : Scf.Loop 32 :=
  let c0_i32_165 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v289 : BitVec 32 := Scalar.subi v75 c0_i32_165
  let c1_i32_166 : BitVec 32 := 1#32
  let v291 : BitVec 32 := Scalar.divsi v289 c1_i32_166
  let v292 : BitVec 32 := Scalar.muli v291 c1_i32_166
  let v293 : BitVec 32 := Scalar.addi c0_i32_165 v292
  let v290 : BitVec 32 := Scalar.addi c0_i32_165 v289
  let c1_i32_168 : BitVec 32 := 1#32
  ⟨v293, v290, c1_i32_168⟩
def k0_mult60 (i : grid0.Coords) (k0_t29 : Fin (k0_t29_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_158 : BitVec 32 := 2048#32
  let v283 : BitVec 32 := Scalar.muli v54 c2048_i32_158
  let c0_i32_165 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v289 : BitVec 32 := Scalar.subi v75 c0_i32_165
  let c1_i32_166 : BitVec 32 := 1#32
  let v291 : BitVec 32 := Scalar.divsi v289 c1_i32_166
  let v292 : BitVec 32 := Scalar.muli v291 c1_i32_166
  let v293 : BitVec 32 := Scalar.addi c0_i32_165 v292
  let c1_i32_168 : BitVec 32 := 1#32
  let arg15 : BitVec 32 := Scf.iv v293 c1_i32_168 k0_t29
  let c512_i32_169 : BitVec 32 := 512#32
  let v294 : BitVec 32 := Scalar.muli arg15 c512_i32_169
  let v295 : BitVec 32 := Scalar.addi v283 v294
  v295
def k0_off170 (i : grid0.Coords) (k0_t29 : Fin (k0_t29_loop i).trips) : Fin 2 → Nat :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_158 : BitVec 32 := 2048#32
  let v283 : BitVec 32 := Scalar.muli v54 c2048_i32_158
  let c0_i32_165 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v289 : BitVec 32 := Scalar.subi v75 c0_i32_165
  let c1_i32_166 : BitVec 32 := 1#32
  let v291 : BitVec 32 := Scalar.divsi v289 c1_i32_166
  let v292 : BitVec 32 := Scalar.muli v291 c1_i32_166
  let v293 : BitVec 32 := Scalar.addi c0_i32_165 v292
  let c1_i32_168 : BitVec 32 := 1#32
  let arg15 : BitVec 32 := Scf.iv v293 c1_i32_168 k0_t29
  let c512_i32_169 : BitVec 32 := 512#32
  let v294 : BitVec 32 := Scalar.muli arg15 c512_i32_169
  let v295 : BitVec 32 := Scalar.addi v283 v294
  let v296 : BitVec 32 := v295
  let v297 : Index := Scalar.indexCast v296
  let c0_170 : Index := 0#32
  ![v297.toNat, 0]
def k0_off171 (i : grid0.Coords) (k0_t29 : Fin (k0_t29_loop i).trips) : Fin 3 → Nat :=
  let c0_171 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_158 : BitVec 32 := 2048#32
  let v283 : BitVec 32 := Scalar.muli v54 c2048_i32_158
  let c0_i32_165 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v289 : BitVec 32 := Scalar.subi v75 c0_i32_165
  let c1_i32_166 : BitVec 32 := 1#32
  let v291 : BitVec 32 := Scalar.divsi v289 c1_i32_166
  let v292 : BitVec 32 := Scalar.muli v291 c1_i32_166
  let v293 : BitVec 32 := Scalar.addi c0_i32_165 v292
  let c1_i32_168 : BitVec 32 := 1#32
  let arg15 : BitVec 32 := Scf.iv v293 c1_i32_168 k0_t29
  let c512_i32_169 : BitVec 32 := 512#32
  let v294 : BitVec 32 := Scalar.muli arg15 c512_i32_169
  let v295 : BitVec 32 := Scalar.addi v283 v294
  let v296 : BitVec 32 := v295
  let v301 : Index := Scalar.indexCast v296
  let c0_172 : Index := 0#32
  ![0, v301.toNat, 0]
def k0_off172 (i : grid0.Coords) (k0_t29 : Fin (k0_t29_loop i).trips) : Fin 3 → Nat :=
  let c0_194 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_158 : BitVec 32 := 2048#32
  let v283 : BitVec 32 := Scalar.muli v54 c2048_i32_158
  let c0_i32_165 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v289 : BitVec 32 := Scalar.subi v75 c0_i32_165
  let c1_i32_166 : BitVec 32 := 1#32
  let v291 : BitVec 32 := Scalar.divsi v289 c1_i32_166
  let v292 : BitVec 32 := Scalar.muli v291 c1_i32_166
  let v293 : BitVec 32 := Scalar.addi c0_i32_165 v292
  let c1_i32_168 : BitVec 32 := 1#32
  let arg15 : BitVec 32 := Scf.iv v293 c1_i32_168 k0_t29
  let c512_i32_169 : BitVec 32 := 512#32
  let v294 : BitVec 32 := Scalar.muli arg15 c512_i32_169
  let v295 : BitVec 32 := Scalar.addi v283 v294
  let v296 : BitVec 32 := v295
  let v353 : Index := Scalar.indexCast v296
  let c128_195 : Index := 128#32
  ![0, v353.toNat, 128]
@[reducible] def k0_t30_loop (i : grid0.Coords) : Scf.Loop 32 :=
  let c0_i32_164 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v288 : BitVec 32 := Scalar.subi v54 c0_i32_164
  let c1_i32_165 : BitVec 32 := 1#32
  let v290 : BitVec 32 := Scalar.divsi v288 c1_i32_165
  let v291 : BitVec 32 := Scalar.muli v290 c1_i32_165
  let v292 : BitVec 32 := Scalar.addi c0_i32_164 v291
  let c1_i32_166 : BitVec 32 := 1#32
  ⟨c0_i32_164, v292, c1_i32_166⟩
def k0_mult61 (i : grid0.Coords) (k0_t30 : Fin (k0_t30_loop i).trips) : BitVec 32 :=
  let c0_i32_174 : BitVec 32 := 0#32
  let c0_i32_164 : BitVec 32 := 0#32
  let c1_i32_166 : BitVec 32 := 1#32
  let arg15 : BitVec 32 := Scf.iv c0_i32_164 c1_i32_166 k0_t30
  let c2048_i32_173 : BitVec 32 := 2048#32
  let v298 : BitVec 32 := Scalar.muli arg15 c2048_i32_173
  let v299 : BitVec 32 := Scalar.addi c0_i32_174 v298
  v299
def k0_off173 (i : grid0.Coords) (k0_t30 : Fin (k0_t30_loop i).trips) : Fin 2 → Nat :=
  let c0_i32_174 : BitVec 32 := 0#32
  let c0_i32_164 : BitVec 32 := 0#32
  let c1_i32_166 : BitVec 32 := 1#32
  let arg15 : BitVec 32 := Scf.iv c0_i32_164 c1_i32_166 k0_t30
  let c2048_i32_173 : BitVec 32 := 2048#32
  let v298 : BitVec 32 := Scalar.muli arg15 c2048_i32_173
  let v299 : BitVec 32 := Scalar.addi c0_i32_174 v298
  let v300 : BitVec 32 := v299
  let v301 : Index := Scalar.indexCast v300
  let c0_175 : Index := 0#32
  ![v301.toNat, 0]
def k0_off174 (i : grid0.Coords) (k0_t30 : Fin (k0_t30_loop i).trips) : Fin 3 → Nat :=
  let c0_176 : Index := 0#32
  let c0_i32_174 : BitVec 32 := 0#32
  let c0_i32_164 : BitVec 32 := 0#32
  let c1_i32_166 : BitVec 32 := 1#32
  let arg15 : BitVec 32 := Scf.iv c0_i32_164 c1_i32_166 k0_t30
  let c2048_i32_173 : BitVec 32 := 2048#32
  let v298 : BitVec 32 := Scalar.muli arg15 c2048_i32_173
  let v299 : BitVec 32 := Scalar.addi c0_i32_174 v298
  let v300 : BitVec 32 := v299
  let v305 : Index := Scalar.indexCast v300
  let c0_177 : Index := 0#32
  ![0, v305.toNat, 0]
def k0_off175 (i : grid0.Coords) (k0_t30 : Fin (k0_t30_loop i).trips) : Fin 3 → Nat :=
  let c0_206 : Index := 0#32
  let c0_i32_174 : BitVec 32 := 0#32
  let c0_i32_164 : BitVec 32 := 0#32
  let c1_i32_166 : BitVec 32 := 1#32
  let arg15 : BitVec 32 := Scf.iv c0_i32_164 c1_i32_166 k0_t30
  let c2048_i32_173 : BitVec 32 := 2048#32
  let v298 : BitVec 32 := Scalar.muli arg15 c2048_i32_173
  let v299 : BitVec 32 := Scalar.addi c0_i32_174 v298
  let v300 : BitVec 32 := v299
  let v357 : Index := Scalar.indexCast v300
  let c128_207 : Index := 128#32
  ![0, v357.toNat, 128]
@[reducible] def k0_t31_loop (i : grid0.Coords) : Scf.Loop 32 :=
  let c0_i32_164 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v288 : BitVec 32 := Scalar.subi v54 c0_i32_164
  let c1_i32_165 : BitVec 32 := 1#32
  let v290 : BitVec 32 := Scalar.divsi v288 c1_i32_165
  let v291 : BitVec 32 := Scalar.muli v290 c1_i32_165
  let v292 : BitVec 32 := Scalar.addi c0_i32_164 v291
  let v289 : BitVec 32 := Scalar.addi c0_i32_164 v288
  let c1_i32_167 : BitVec 32 := 1#32
  ⟨v292, v289, c1_i32_167⟩
def k0_mult62 (i : grid0.Coords) (k0_t31 : Fin (k0_t31_loop i).trips) : BitVec 32 :=
  let c0_i32_174 : BitVec 32 := 0#32
  let c0_i32_164 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v288 : BitVec 32 := Scalar.subi v54 c0_i32_164
  let c1_i32_165 : BitVec 32 := 1#32
  let v290 : BitVec 32 := Scalar.divsi v288 c1_i32_165
  let v291 : BitVec 32 := Scalar.muli v290 c1_i32_165
  let v292 : BitVec 32 := Scalar.addi c0_i32_164 v291
  let c1_i32_167 : BitVec 32 := 1#32
  let arg15 : BitVec 32 := Scf.iv v292 c1_i32_167 k0_t31
  let c2048_i32_173 : BitVec 32 := 2048#32
  let v298 : BitVec 32 := Scalar.muli arg15 c2048_i32_173
  let v299 : BitVec 32 := Scalar.addi c0_i32_174 v298
  v299
def k0_off176 (i : grid0.Coords) (k0_t31 : Fin (k0_t31_loop i).trips) : Fin 2 → Nat :=
  let c0_i32_174 : BitVec 32 := 0#32
  let c0_i32_164 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v288 : BitVec 32 := Scalar.subi v54 c0_i32_164
  let c1_i32_165 : BitVec 32 := 1#32
  let v290 : BitVec 32 := Scalar.divsi v288 c1_i32_165
  let v291 : BitVec 32 := Scalar.muli v290 c1_i32_165
  let v292 : BitVec 32 := Scalar.addi c0_i32_164 v291
  let c1_i32_167 : BitVec 32 := 1#32
  let arg15 : BitVec 32 := Scf.iv v292 c1_i32_167 k0_t31
  let c2048_i32_173 : BitVec 32 := 2048#32
  let v298 : BitVec 32 := Scalar.muli arg15 c2048_i32_173
  let v299 : BitVec 32 := Scalar.addi c0_i32_174 v298
  let v300 : BitVec 32 := v299
  let v301 : Index := Scalar.indexCast v300
  let c0_175 : Index := 0#32
  ![v301.toNat, 0]
def k0_off177 (i : grid0.Coords) (k0_t31 : Fin (k0_t31_loop i).trips) : Fin 3 → Nat :=
  let c0_176 : Index := 0#32
  let c0_i32_174 : BitVec 32 := 0#32
  let c0_i32_164 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v288 : BitVec 32 := Scalar.subi v54 c0_i32_164
  let c1_i32_165 : BitVec 32 := 1#32
  let v290 : BitVec 32 := Scalar.divsi v288 c1_i32_165
  let v291 : BitVec 32 := Scalar.muli v290 c1_i32_165
  let v292 : BitVec 32 := Scalar.addi c0_i32_164 v291
  let c1_i32_167 : BitVec 32 := 1#32
  let arg15 : BitVec 32 := Scf.iv v292 c1_i32_167 k0_t31
  let c2048_i32_173 : BitVec 32 := 2048#32
  let v298 : BitVec 32 := Scalar.muli arg15 c2048_i32_173
  let v299 : BitVec 32 := Scalar.addi c0_i32_174 v298
  let v300 : BitVec 32 := v299
  let v305 : Index := Scalar.indexCast v300
  let c0_177 : Index := 0#32
  ![0, v305.toNat, 0]
def k0_off178 (i : grid0.Coords) (k0_t31 : Fin (k0_t31_loop i).trips) : Fin 3 → Nat :=
  let c0_206 : Index := 0#32
  let c0_i32_174 : BitVec 32 := 0#32
  let c0_i32_164 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let v288 : BitVec 32 := Scalar.subi v54 c0_i32_164
  let c1_i32_165 : BitVec 32 := 1#32
  let v290 : BitVec 32 := Scalar.divsi v288 c1_i32_165
  let v291 : BitVec 32 := Scalar.muli v290 c1_i32_165
  let v292 : BitVec 32 := Scalar.addi c0_i32_164 v291
  let c1_i32_167 : BitVec 32 := 1#32
  let arg15 : BitVec 32 := Scf.iv v292 c1_i32_167 k0_t31
  let c2048_i32_173 : BitVec 32 := 2048#32
  let v298 : BitVec 32 := Scalar.muli arg15 c2048_i32_173
  let v299 : BitVec 32 := Scalar.addi c0_i32_174 v298
  let v300 : BitVec 32 := v299
  let v357 : Index := Scalar.indexCast v300
  let c128_207 : Index := 128#32
  ![0, v357.toNat, 128]
@[reducible] def k0_t32_loop (i : grid0.Coords) : Scf.Loop 32 :=
  let c0_i32_169 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v293 : BitVec 32 := Scalar.subi v75 c0_i32_169
  let c1_i32_170 : BitVec 32 := 1#32
  let v295 : BitVec 32 := Scalar.divsi v293 c1_i32_170
  let v296 : BitVec 32 := Scalar.muli v295 c1_i32_170
  let v297 : BitVec 32 := Scalar.addi c0_i32_169 v296
  let c1_i32_171 : BitVec 32 := 1#32
  ⟨c0_i32_169, v297, c1_i32_171⟩
def k0_mult63 (i : grid0.Coords) (k0_t32 : Fin (k0_t32_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_162 : BitVec 32 := 2048#32
  let v287 : BitVec 32 := Scalar.muli v54 c2048_i32_162
  let c0_i32_169 : BitVec 32 := 0#32
  let c1_i32_171 : BitVec 32 := 1#32
  let arg15 : BitVec 32 := Scf.iv c0_i32_169 c1_i32_171 k0_t32
  let c512_i32_173 : BitVec 32 := 512#32
  let v298 : BitVec 32 := Scalar.muli arg15 c512_i32_173
  let v299 : BitVec 32 := Scalar.addi v287 v298
  v299
def k0_off179 (i : grid0.Coords) (k0_t32 : Fin (k0_t32_loop i).trips) : Fin 2 → Nat :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_162 : BitVec 32 := 2048#32
  let v287 : BitVec 32 := Scalar.muli v54 c2048_i32_162
  let c0_i32_169 : BitVec 32 := 0#32
  let c1_i32_171 : BitVec 32 := 1#32
  let arg15 : BitVec 32 := Scf.iv c0_i32_169 c1_i32_171 k0_t32
  let c512_i32_173 : BitVec 32 := 512#32
  let v298 : BitVec 32 := Scalar.muli arg15 c512_i32_173
  let v299 : BitVec 32 := Scalar.addi v287 v298
  let v300 : BitVec 32 := v299
  let v301 : Index := Scalar.indexCast v300
  let c0_174 : Index := 0#32
  ![v301.toNat, 0]
def k0_off180 (i : grid0.Coords) (k0_t32 : Fin (k0_t32_loop i).trips) : Fin 3 → Nat :=
  let c0_175 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_162 : BitVec 32 := 2048#32
  let v287 : BitVec 32 := Scalar.muli v54 c2048_i32_162
  let c0_i32_169 : BitVec 32 := 0#32
  let c1_i32_171 : BitVec 32 := 1#32
  let arg15 : BitVec 32 := Scf.iv c0_i32_169 c1_i32_171 k0_t32
  let c512_i32_173 : BitVec 32 := 512#32
  let v298 : BitVec 32 := Scalar.muli arg15 c512_i32_173
  let v299 : BitVec 32 := Scalar.addi v287 v298
  let v300 : BitVec 32 := v299
  let v305 : Index := Scalar.indexCast v300
  let c0_176 : Index := 0#32
  ![0, v305.toNat, 0]
def k0_off181 (i : grid0.Coords) (k0_t32 : Fin (k0_t32_loop i).trips) : Fin 3 → Nat :=
  let c0_205 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_162 : BitVec 32 := 2048#32
  let v287 : BitVec 32 := Scalar.muli v54 c2048_i32_162
  let c0_i32_169 : BitVec 32 := 0#32
  let c1_i32_171 : BitVec 32 := 1#32
  let arg15 : BitVec 32 := Scf.iv c0_i32_169 c1_i32_171 k0_t32
  let c512_i32_173 : BitVec 32 := 512#32
  let v298 : BitVec 32 := Scalar.muli arg15 c512_i32_173
  let v299 : BitVec 32 := Scalar.addi v287 v298
  let v300 : BitVec 32 := v299
  let v357 : Index := Scalar.indexCast v300
  let c128_206 : Index := 128#32
  ![0, v357.toNat, 128]
@[reducible] def k0_t33_loop (i : grid0.Coords) : Scf.Loop 32 :=
  let c0_i32_169 : BitVec 32 := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v293 : BitVec 32 := Scalar.subi v75 c0_i32_169
  let c1_i32_170 : BitVec 32 := 1#32
  let v295 : BitVec 32 := Scalar.divsi v293 c1_i32_170
  let v296 : BitVec 32 := Scalar.muli v295 c1_i32_170
  let v297 : BitVec 32 := Scalar.addi c0_i32_169 v296
  let v294 : BitVec 32 := Scalar.addi c0_i32_169 v293
  let c1_i32_172 : BitVec 32 := 1#32
  ⟨v297, v294, c1_i32_172⟩
def k0_mult64 (i : grid0.Coords) (k0_t33 : Fin (k0_t33_loop i).trips) : BitVec 32 :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_162 : BitVec 32 := 2048#32
  let v287 : BitVec 32 := Scalar.muli v54 c2048_i32_162
  let c0_i32_169 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v293 : BitVec 32 := Scalar.subi v75 c0_i32_169
  let c1_i32_170 : BitVec 32 := 1#32
  let v295 : BitVec 32 := Scalar.divsi v293 c1_i32_170
  let v296 : BitVec 32 := Scalar.muli v295 c1_i32_170
  let v297 : BitVec 32 := Scalar.addi c0_i32_169 v296
  let c1_i32_172 : BitVec 32 := 1#32
  let arg15 : BitVec 32 := Scf.iv v297 c1_i32_172 k0_t33
  let c512_i32_173 : BitVec 32 := 512#32
  let v298 : BitVec 32 := Scalar.muli arg15 c512_i32_173
  let v299 : BitVec 32 := Scalar.addi v287 v298
  v299
def k0_off182 (i : grid0.Coords) (k0_t33 : Fin (k0_t33_loop i).trips) : Fin 2 → Nat :=
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_162 : BitVec 32 := 2048#32
  let v287 : BitVec 32 := Scalar.muli v54 c2048_i32_162
  let c0_i32_169 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v293 : BitVec 32 := Scalar.subi v75 c0_i32_169
  let c1_i32_170 : BitVec 32 := 1#32
  let v295 : BitVec 32 := Scalar.divsi v293 c1_i32_170
  let v296 : BitVec 32 := Scalar.muli v295 c1_i32_170
  let v297 : BitVec 32 := Scalar.addi c0_i32_169 v296
  let c1_i32_172 : BitVec 32 := 1#32
  let arg15 : BitVec 32 := Scf.iv v297 c1_i32_172 k0_t33
  let c512_i32_173 : BitVec 32 := 512#32
  let v298 : BitVec 32 := Scalar.muli arg15 c512_i32_173
  let v299 : BitVec 32 := Scalar.addi v287 v298
  let v300 : BitVec 32 := v299
  let v301 : Index := Scalar.indexCast v300
  let c0_174 : Index := 0#32
  ![v301.toNat, 0]
def k0_off183 (i : grid0.Coords) (k0_t33 : Fin (k0_t33_loop i).trips) : Fin 3 → Nat :=
  let c0_175 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_162 : BitVec 32 := 2048#32
  let v287 : BitVec 32 := Scalar.muli v54 c2048_i32_162
  let c0_i32_169 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v293 : BitVec 32 := Scalar.subi v75 c0_i32_169
  let c1_i32_170 : BitVec 32 := 1#32
  let v295 : BitVec 32 := Scalar.divsi v293 c1_i32_170
  let v296 : BitVec 32 := Scalar.muli v295 c1_i32_170
  let v297 : BitVec 32 := Scalar.addi c0_i32_169 v296
  let c1_i32_172 : BitVec 32 := 1#32
  let arg15 : BitVec 32 := Scf.iv v297 c1_i32_172 k0_t33
  let c512_i32_173 : BitVec 32 := 512#32
  let v298 : BitVec 32 := Scalar.muli arg15 c512_i32_173
  let v299 : BitVec 32 := Scalar.addi v287 v298
  let v300 : BitVec 32 := v299
  let v305 : Index := Scalar.indexCast v300
  let c0_176 : Index := 0#32
  ![0, v305.toNat, 0]
def k0_off184 (i : grid0.Coords) (k0_t33 : Fin (k0_t33_loop i).trips) : Fin 3 → Nat :=
  let c0_205 : Index := 0#32
  let arg1 : BitVec 32 := BitVec.ofNat 32 (i 1).val
  let c1_i32 : BitVec 32 := 1#32
  let v3 : BitVec 32 := Scalar.addi arg1 c1_i32
  let c256_i32 : BitVec 32 := 256#32
  let v4 : BitVec 32 := Scalar.muli v3 c256_i32
  let c1_i32_10 : BitVec 32 := 1#32
  let v37 : BitVec 32 := Scalar.subi v4 c1_i32_10
  let c0_i32_11 : BitVec 32 := 0#32
  let v39 : BitVec 1 := Scalar.cmpi .sgt v37 c0_i32_11
  let v40 : BitVec 32 := Scalar.extui v39
  let c0_i32_12 : BitVec 32 := 0#32
  let v41 : BitVec 1 := Scalar.cmpi .slt v37 c0_i32_12
  let v42 : BitVec 32 := Scalar.extui v41
  let v43 : BitVec 32 := Scalar.subi v40 v42
  let c2048_i32 : BitVec 32 := 2048#32
  let c0_i32_13 : BitVec 32 := 0#32
  let v44 : BitVec 1 := Scalar.cmpi .sgt c2048_i32 c0_i32_13
  let v45 : BitVec 32 := Scalar.extui v44
  let c0_i32_14 : BitVec 32 := 0#32
  let v46 : BitVec 1 := Scalar.cmpi .slt c2048_i32 c0_i32_14
  let v47 : BitVec 32 := Scalar.extui v46
  let v48 : BitVec 32 := Scalar.subi v45 v47
  let v49 : BitVec 1 := Scalar.cmpi .ne v43 v48
  let v50 : BitVec 32 := Scalar.remsi v37 c2048_i32
  let c0_i32_15 : BitVec 32 := 0#32
  let v51 : BitVec 1 := Scalar.cmpi .ne v50 c0_i32_15
  let v52 : BitVec 1 := Scalar.andi v49 v51
  let v38 : BitVec 32 := Scalar.divsi v37 c2048_i32
  let c1_i32_16 : BitVec 32 := 1#32
  let v53 : BitVec 32 := Scalar.subi v38 c1_i32_16
  let v54 : BitVec 32 := Scalar.select v52 v53 v38
  let c2048_i32_162 : BitVec 32 := 2048#32
  let v287 : BitVec 32 := Scalar.muli v54 c2048_i32_162
  let c0_i32_169 : BitVec 32 := 0#32
  let c2048_i32_17 : BitVec 32 := 2048#32
  let v55 : BitVec 32 := Scalar.muli v54 c2048_i32_17
  let v56 : BitVec 32 := Scalar.subi v4 v55
  let c512_i32 : BitVec 32 := 512#32
  let v57 : BitVec 32 := Scalar.addi v56 c512_i32
  let c1_i32_18 : BitVec 32 := 1#32
  let v58 : BitVec 32 := Scalar.subi v57 c1_i32_18
  let c0_i32_20 : BitVec 32 := 0#32
  let v60 : BitVec 1 := Scalar.cmpi .sgt v58 c0_i32_20
  let v61 : BitVec 32 := Scalar.extui v60
  let c0_i32_21 : BitVec 32 := 0#32
  let v62 : BitVec 1 := Scalar.cmpi .slt v58 c0_i32_21
  let v63 : BitVec 32 := Scalar.extui v62
  let v64 : BitVec 32 := Scalar.subi v61 v63
  let c512_i32_19 : BitVec 32 := 512#32
  let c0_i32_22 : BitVec 32 := 0#32
  let v65 : BitVec 1 := Scalar.cmpi .sgt c512_i32_19 c0_i32_22
  let v66 : BitVec 32 := Scalar.extui v65
  let c0_i32_23 : BitVec 32 := 0#32
  let v67 : BitVec 1 := Scalar.cmpi .slt c512_i32_19 c0_i32_23
  let v68 : BitVec 32 := Scalar.extui v67
  let v69 : BitVec 32 := Scalar.subi v66 v68
  let v70 : BitVec 1 := Scalar.cmpi .ne v64 v69
  let v71 : BitVec 32 := Scalar.remsi v58 c512_i32_19
  let c0_i32_24 : BitVec 32 := 0#32
  let v72 : BitVec 1 := Scalar.cmpi .ne v71 c0_i32_24
  let v73 : BitVec 1 := Scalar.andi v70 v72
  let v59 : BitVec 32 := Scalar.divsi v58 c512_i32_19
  let c1_i32_25 : BitVec 32 := 1#32
  let v74 : BitVec 32 := Scalar.subi v59 c1_i32_25
  let v75 : BitVec 32 := Scalar.select v73 v74 v59
  let v293 : BitVec 32 := Scalar.subi v75 c0_i32_169
  let c1_i32_170 : BitVec 32 := 1#32
  let v295 : BitVec 32 := Scalar.divsi v293 c1_i32_170
  let v296 : BitVec 32 := Scalar.muli v295 c1_i32_170
  let v297 : BitVec 32 := Scalar.addi c0_i32_169 v296
  let c1_i32_172 : BitVec 32 := 1#32
  let arg15 : BitVec 32 := Scf.iv v297 c1_i32_172 k0_t33
  let c512_i32_173 : BitVec 32 := 512#32
  let v298 : BitVec 32 := Scalar.muli arg15 c512_i32_173
  let v299 : BitVec 32 := Scalar.addi v287 v298
  let v300 : BitVec 32 := v299
  let v357 : Index := Scalar.indexCast v300
  let c128_206 : Index := 128#32
  ![0, v357.toNat, 128]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x16x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2.lean ====
abbrev S32768x2048 : Shape := ⟨2, ![32768, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S32768x2048, .bf16⟩
  | .hbm, ⟨9, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .f32⟩
  | .local _ .vmem, ⟨11, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Kernel2Ideal.lean ====
abbrev S32768x2048 : Shape := ⟨2, ![32768, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 10
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S32768x2048, .bf16⟩
  | .hbm, ⟨9, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1024x2048, .f32⟩
  | .local _ .vmem, ⟨11, _⟩ => ⟨S1024x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x2048 : Shape := ⟨2, ![32768, 2048]⟩
abbrev S2048x5632 : Shape := ⟨2, ![2048, 5632]⟩
abbrev S5632x2048 : Shape := ⟨2, ![5632, 2048]⟩
abbrev S32768x5632 : Shape := ⟨2, ![32768, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S32768x5632, .f32⟩
  | .hbm, ⟨6, _⟩ => ⟨S32768x5632, .f32⟩
  | .hbm, ⟨7, _⟩ => ⟨S32768x5632, .f32⟩
  | .hbm, ⟨8, _⟩ => ⟨S_, .f32⟩
  | .hbm, ⟨9, _⟩ => ⟨S32768x5632, .f32⟩
  | .hbm, ⟨10, _⟩ => ⟨S32768x5632, .f32⟩
  | .hbm, ⟨11, _⟩ => ⟨S_, .f32⟩
  | .hbm, ⟨12, _⟩ => ⟨S32768x5632, .f32⟩
  | .hbm, ⟨13, _⟩ => ⟨S32768x5632, .f32⟩
  | .hbm, ⟨14, _⟩ => ⟨S32768x5632, .f32⟩
  | .hbm, ⟨15, _⟩ => ⟨S32768x5632, .f32⟩
  | .hbm, ⟨16, _⟩ => ⟨S32768x5632, .f32⟩
  | .hbm, ⟨17, _⟩ => ⟨S32768x2048, .f32⟩
  | .hbm, ⟨18, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Kernel3.lean ====
abbrev S256x2048 : Shape := ⟨2, ![256, 2048]⟩
abbrev S2048x5632 : Shape := ⟨2, ![2048, 5632]⟩
abbrev S5632x2048 : Shape := ⟨2, ![5632, 2048]⟩
abbrev S2048x512 : Shape := ⟨2, ![2048, 512]⟩
abbrev S512x2048 : Shape := ⟨2, ![512, 2048]⟩
abbrev S256x512 : Shape := ⟨2, ![256, 512]⟩

abbrev nBuf : Space → Nat
  | .hbm => 10
  | .vmem => 9
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048x5632, .bf16⟩
  | .hbm, ⟨6, _⟩ => ⟨S2048x5632, .bf16⟩
  | .hbm, ⟨7, _⟩ => ⟨S5632x2048, .bf16⟩
  | .hbm, ⟨8, _⟩ => ⟨S256x2048, .bf16⟩
  | .hbm, ⟨9, _⟩ => ⟨S256x2048, .f32⟩
  | .local _ .vmem, ⟨0, _⟩ => ⟨S256x2048, .f32⟩
  | .local _ .vmem, ⟨1, _⟩ => ⟨S256x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== Reference3Ideal.lean ====
abbrev S256x2048 : Shape := ⟨2, ![256, 2048]⟩
abbrev S2048x5632 : Shape := ⟨2, ![2048, 5632]⟩
abbrev S5632x2048 : Shape := ⟨2, ![5632, 2048]⟩
abbrev S256x5632 : Shape := ⟨2, ![256, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S256x5632, .f32⟩
  | .hbm, ⟨6, _⟩ => ⟨S256x5632, .f32⟩
  | .hbm, ⟨7, _⟩ => ⟨S256x5632, .f32⟩
  | .hbm, ⟨8, _⟩ => ⟨S_, .f32⟩
  | .hbm, ⟨9, _⟩ => ⟨S256x5632, .f32⟩
  | .hbm, ⟨10, _⟩ => ⟨S256x5632, .f32⟩
  | .hbm, ⟨11, _⟩ => ⟨S_, .f32⟩
  | .hbm, ⟨12, _⟩ => ⟨S256x5632, .f32⟩
  | .hbm, ⟨13, _⟩ => ⟨S256x5632, .f32⟩
  | .hbm, ⟨14, _⟩ => ⟨S256x5632, .f32⟩
  | .hbm, ⟨15, _⟩ => ⟨S256x5632, .f32⟩
  | .hbm, ⟨16, _⟩ => ⟨S256x5632, .f32⟩
  | .hbm, ⟨17, _⟩ => ⟨S256x2048, .f32⟩
  | .hbm, ⟨18, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩

abbrev nD : Nat := 1
abbrev τ : Topo := Topo.v7x

variable {F : FTy → Type} [FloatOps F]
-- ==== Kernel4.lean ====
abbrev S4x8192x2048 : Shape := ⟨3, ![4, 8192, 2048]⟩
abbrev S2048 : Shape := ⟨1, ![2048]⟩
abbrev S2048x4704 : Shape := ⟨2, ![2048, 4704]⟩
abbrev S1x2048x4704 : Shape := ⟨3, ![1, 2048, 4704]⟩
abbrev S1x2048x1024 : Shape := ⟨3, ![1, 2048, 1024]⟩
abbrev S1x2048x512 : Shape := ⟨3, ![1, 2048, 512]⟩
abbrev S1x2048x256 : Shape := ⟨3, ![1, 2048, 256]⟩
abbrev S1x2048x64 : Shape := ⟨3, ![1, 2048, 64]⟩
abbrev S_ : Shape := ⟨0, ![]⟩
abbrev S1x2048x128 : Shape := ⟨3, ![1, 2048, 128]⟩
abbrev S1x2048x16 : Shape := ⟨3, ![1, 2048, 16]⟩
abbrev S1x2048x4992 : Shape := ⟨3, ![1, 2048, 4992]⟩
abbrev S2048x4992 : Shape := ⟨2, ![2048, 4992]⟩
abbrev S32768x2048 : Shape := ⟨2, ![32768, 2048]⟩
abbrev S1x2048 : Shape := ⟨2, ![1, 2048]⟩
abbrev S32768x4992 : Shape := ⟨2, ![32768, 4992]⟩
abbrev S1024x2048 : Shape := ⟨2, ![1024, 2048]⟩
abbrev S2048x1664 : Shape := ⟨2, ![2048, 1664]⟩
abbrev S1024x1664 : Shape := ⟨2, ![1024, 1664]⟩
abbrev S1024 : Shape := ⟨1, ![1024]⟩
abbrev S1024x1 : Shape := ⟨2, ![1024, 1]⟩
abbrev S4x8192x4992 : Shape := ⟨3, ![4, 8192, 4992]⟩
abbrev S4x15x512 : Shape := ⟨3, ![4, 15, 512]⟩
abbrev S4x8192x1024 : Shape := ⟨3, ![4, 8192, 1024]⟩
abbrev S4x8192x256 : Shape := ⟨3, ![4, 8192, 256]⟩
abbrev S4x8192x64 : Shape := ⟨3, ![4, 8192, 64]⟩
abbrev S4x8192x16 : Shape := ⟨3, ![4, 8192, 16]⟩
abbrev S4x8192x512 : Shape := ⟨3, ![4, 8192, 512]⟩
abbrev S4x8192x2x128 : Shape := ⟨4, ![4, 8192, 2, 128]⟩

abbrev nBuf : Space → Nat
  | .hbm => 46
  | .vmem => 8
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x4704, .f32⟩
  | .hbm, ⟨3, _⟩ => ⟨S1x2048x4704, .f32⟩
  | .hbm, ⟨4, _⟩ => ⟨S1x2048x1024, .f32⟩
  | .hbm, ⟨5, _⟩ => ⟨S1x2048x1024, .f32⟩
  | .hbm, ⟨6, _⟩ => ⟨S1x2048x512, .f32⟩
  | .hbm, ⟨7, _⟩ => ⟨S1x2048x512, .f32⟩
  | .hbm, ⟨8, _⟩ => ⟨S1x2048x512, .f32⟩
  | .hbm, ⟨9, _⟩ => ⟨S1x2048x256, .f32⟩
  | .hbm, ⟨10, _⟩ => ⟨S1x2048x256, .f32⟩
  | .hbm, ⟨11, _⟩ => ⟨S1x2048x256, .f32⟩
  | .hbm, ⟨12, _⟩ => ⟨S1x2048x256, .f32⟩
  | .hbm, ⟨13, _⟩ => ⟨S1x2048x64, .f32⟩
  | .hbm, ⟨14, _⟩ => ⟨S_, .i32⟩
  | .hbm, ⟨15, _⟩ => ⟨S_, .f32⟩
  | .hbm, ⟨16, _⟩ => ⟨S1x2048x128, .f32⟩
  | .hbm, ⟨17, _⟩ => ⟨S1x2048x16, .f32⟩
  | .hbm, ⟨18, _⟩ => ⟨S_, .i32⟩
  | .hbm, ⟨19, _⟩ => ⟨S_, .f32⟩
  | .hbm, ⟨20, _⟩ => ⟨S1x2048x128, .f32⟩
  | .hbm, ⟨21, _⟩ => ⟨S1x2048x16, .f32⟩
  | .hbm, ⟨22, _⟩ => ⟨S_, .i32⟩
  | .hbm, ⟨23, _⟩ => ⟨S_, .f32⟩
  | .hbm, ⟨24, _⟩ => ⟨S1x2048x128, .f32⟩
  | .hbm, ⟨25, _⟩ => ⟨S1x2048x4992, .f32⟩
  | .hbm, ⟨26, _⟩ => ⟨S1x2048x4992, .bf16⟩
  | .hbm, ⟨27, _⟩ => ⟨S2048x4992, .bf16⟩
  | .hbm, ⟨28, _⟩ => ⟨S32768x2048, .f32⟩
  | .hbm, ⟨29, _⟩ => ⟨S1x2048, .f32⟩
  | .hbm, ⟨30, _⟩ => ⟨S32768x4992, .f32⟩
  | .hbm, ⟨31, _⟩ => ⟨S4x8192x4992, .f32⟩
  | .hbm, ⟨32, _⟩ => ⟨S4x15x512, .f32⟩
  | .hbm, ⟨33, _⟩ => ⟨S4x8192x1024, .f32⟩
  | .hbm, ⟨34, _⟩ => ⟨S4x8192x256, .f32⟩
  | .hbm, ⟨35, _⟩ => ⟨S4x8192x1024, .f32⟩
  | .hbm, ⟨36, _⟩ => ⟨S4x8192x64, .f32⟩
  | .hbm, ⟨37, _⟩ => ⟨S4x8192x16, .f32⟩
  | .hbm, ⟨38, _⟩ => ⟨S4x8192x256, .f32⟩
  | .hbm, ⟨39, _⟩ => ⟨S4x8192x256, .f32⟩
  | .hbm, ⟨40, _⟩ => ⟨S4x8192x512, .f32⟩
  | .hbm, ⟨41, _⟩ => ⟨S4x8192x16, .f32⟩
  | .hbm, ⟨42, _⟩ => ⟨S4x8192x512, .f32⟩
  | .hbm, ⟨43, _⟩ => ⟨S4x8192x512, .f32⟩
  | .hbm, ⟨44, _⟩ => ⟨S4x8192x256, .f32⟩
  | .hbm, ⟨45, _⟩ => ⟨S4x8192x2x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1664, .bf16⟩
  | .local _ .vmem, ⟨4, _⟩ => ⟨S2048x1664, .bf16⟩
  | .local _ .vmem, ⟨5, _⟩ => ⟨S1024x1664, .f32⟩
  | .local _ .vmem, ⟨6, _⟩ => ⟨S1024x1664, .f32⟩
  | .local _ .vmem, ⟨7, _⟩ => ⟨S1024x2048, .bf16⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_call2_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S4x8192x2048 : Shape := ⟨3, ![4, 8192, 2048]⟩
abbrev S2048 : Shape := ⟨1, ![2048]⟩
abbrev S2048x4704 : Shape := ⟨2, ![2048, 4704]⟩
abbrev S_ : Shape := ⟨0, ![]⟩
abbrev S4x15x512 : Shape := ⟨3, ![4, 15, 512]⟩
abbrev S4x8192 : Shape := ⟨2, ![4, 8192]⟩
abbrev S4x8192x1 : Shape := ⟨3, ![4, 8192, 1]⟩
abbrev S1x1x2048 : Shape := ⟨3, ![1, 1, 2048]⟩
abbrev S4x8192x4704 : Shape := ⟨3, ![4, 8192, 4704]⟩
abbrev S4x8192x1024 : Shape := ⟨3, ![4, 8192, 1024]⟩
abbrev S4x8192x256 : Shape := ⟨3, ![4, 8192, 256]⟩
abbrev S4x8192x64 : Shape := ⟨3, ![4, 8192, 64]⟩
abbrev S4x8192x16 : Shape := ⟨3, ![4, 8192, 16]⟩
abbrev S4x8192x512 : Shape := ⟨3, ![4, 8192, 512]⟩
abbrev S4x8192x2x128 : Shape := ⟨4, ![4, 8192, 2, 128]⟩
abbrev S4x8207x512 : Shape := ⟨3, ![4, 8207, 512]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S2048, .f32⟩
  | .hbm, ⟨2, _⟩ => ⟨S2048x4704, .f32⟩
  | .hbm, ⟨3, _⟩ => ⟨S_, .f32⟩
  | .hbm, ⟨4, _⟩ => ⟨S4x15x512, .f32⟩
  | .hbm, ⟨5, _⟩ => ⟨S4x8192x2048, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x2048, .f32⟩
  | .hbm, ⟨17, _⟩ => ⟨S4x8192x2048, .f32⟩
  | .hbm, ⟨18, _⟩ => ⟨S1x1x2048, .f32⟩
  | .hbm, ⟨19, _⟩ => ⟨S4x8192x2048, .f32⟩
  | .hbm, ⟨20, _⟩ => ⟨S4x8192x2048, .f32⟩
  | .hbm, ⟨21, _⟩ => ⟨S4x8192x4704, .f32⟩
  | .hbm, ⟨22, _⟩ => ⟨S4x8192x1024, .f32⟩
  | .hbm, ⟨23, _⟩ => ⟨S4x8192x256, .f32⟩
  | .hbm, ⟨24, _⟩ => ⟨S4x8192x256, .f32⟩
  | .hbm, ⟨25, _⟩ => ⟨S4x8192x1024, .f32⟩
  | .hbm, ⟨26, _⟩ => ⟨S4x8192x64, .f32⟩
  | .hbm, ⟨27, _⟩ => ⟨S4x8192x16, .f32⟩
  | .hbm, ⟨28, _⟩ => ⟨S4x8192x256, .f32⟩
  | .hbm, ⟨29, _⟩ => ⟨S4x8192x256, .f32⟩
  | .hbm, ⟨30, _⟩ => ⟨S4x8192x512, .f32⟩
  | .hbm, ⟨31, _⟩ => ⟨S4x8192x16, .f32⟩
  | .hbm, ⟨32, _⟩ => ⟨S4x8192x512, .f32⟩
  | .hbm, ⟨33, _⟩ => ⟨S4x8192x512, .f32⟩
  | .hbm, ⟨34, _⟩ => ⟨S4x8192x2x128, .f32⟩
  | .hbm, ⟨35, _⟩ => ⟨S4x8207x512, .f32⟩
  | .hbm, ⟨36, _⟩ => ⟨S4x15x512, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Kernel5.lean ====
abbrev S16x16x2048 : Shape := ⟨3, ![16, 16, 2048]⟩
abbrev S16x15x512 : Shape := ⟨3, ![16, 15, 512]⟩
abbrev S2048 : Shape := ⟨1, ![2048]⟩
abbrev S2048x4704 : Shape := ⟨2, ![2048, 4704]⟩
abbrev S1x2048x4704 : Shape := ⟨3, ![1, 2048, 4704]⟩
abbrev S1x2048x1024 : Shape := ⟨3, ![1, 2048, 1024]⟩
abbrev S1x2048x512 : Shape := ⟨3, ![1, 2048, 512]⟩
abbrev S1x2048x256 : Shape := ⟨3, ![1, 2048, 256]⟩
abbrev S1x2048x64 : Shape := ⟨3, ![1, 2048, 64]⟩
abbrev S_ : Shape := ⟨0, ![]⟩
abbrev S1x2048x128 : Shape := ⟨3, ![1, 2048, 128]⟩
abbrev S1x2048x16 : Shape := ⟨3, ![1, 2048, 16]⟩
abbrev S1x2048x4992 : Shape := ⟨3, ![1, 2048, 4992]⟩
abbrev S2048x4992 : Shape := ⟨2, ![2048, 4992]⟩
abbrev S256x2048 : Shape := ⟨2, ![256, 2048]⟩
abbrev S1x2048 : Shape := ⟨2, ![1, 2048]⟩
abbrev S256x4992 : Shape := ⟨2, ![256, 4992]⟩
abbrev S2048x1664 : Shape := ⟨2, ![2048, 1664]⟩
abbrev S256x1664 : Shape := ⟨2, ![256, 1664]⟩
abbrev S256 : Shape := ⟨1, ![256]⟩
abbrev S256x1 : Shape := ⟨2, ![256, 1]⟩
abbrev S16x16x4992 : Shape := ⟨3, ![16, 16, 4992]⟩
abbrev S16x16x1024 : Shape := ⟨3, ![16, 16, 1024]⟩
abbrev S16x16x256 : Shape := ⟨3, ![16, 16, 256]⟩
abbrev S16x16x64 : Shape := ⟨3, ![16, 16, 64]⟩
abbrev S16x16x16 : Shape := ⟨3, ![16, 16, 16]⟩
abbrev S16x16x512 : Shape := ⟨3, ![16, 16, 512]⟩
abbrev S16x16x2x128 : Shape := ⟨4, ![16, 16, 2, 128]⟩

abbrev nBuf : Space → Nat
  | .hbm => 47
  | .vmem => 7
  | .smem => 0
  | _ => 0

abbrev bufTy : (tb : Table) → Fin (tcTables nBuf tb) → BufTy
  | .hbm, ⟨0, _⟩ => ⟨S16x16x2048, .f32⟩
  | .hbm, ⟨1, _⟩ => ⟨S16x15x512, .f32⟩
  | .hbm, ⟨2, _⟩ => ⟨S2048, .f32⟩
  | .hbm, ⟨3, _⟩ => ⟨S2048x4704, .f32⟩
  | .hbm, ⟨4, _⟩ => ⟨S1x2048x4704, .f32⟩
  | .hbm, ⟨5, _⟩ => ⟨S1x2048x1024, .f32⟩
  | .hbm, ⟨6, _⟩ => ⟨S1x2048x1024, .f32⟩
  | .hbm, ⟨7, _⟩ => ⟨S1x2048x512, .f32⟩
  | .hbm, ⟨8, _⟩ => ⟨S1x2048x512, .f32⟩
  | .hbm, ⟨9, _⟩ => ⟨S1x2048x512, .f32⟩
  | .hbm, ⟨10, _⟩ => ⟨S1x2048x256, .f32⟩
  | .hbm, ⟨11, _⟩ => ⟨S1x2048x256, .f32⟩
  | .hbm, ⟨12, _⟩ => ⟨S1x2048x256, .f32⟩
  | .hbm, ⟨13, _⟩ => ⟨S1x2048x256, .f32⟩
  | .hbm, ⟨14, _⟩ => ⟨S1x2048x64, .f32⟩
  | .hbm, ⟨15, _⟩ => ⟨S_, .i32⟩
  | .hbm, ⟨16, _⟩ => ⟨S_, .f32⟩
  | .hbm, ⟨17, _⟩ => ⟨S1x2048x128, .f32⟩
  | .hbm, ⟨18, _⟩ => ⟨S1x2048x16, .f32⟩
  | .hbm, ⟨19, _⟩ => ⟨S_, .i32⟩
  | .hbm, ⟨20, _⟩ => ⟨S_, .f32⟩
  | .hbm, ⟨21, _⟩ => ⟨S1x2048x128, .f32⟩
  | .hbm, ⟨22, _⟩ => ⟨S1x2048x16, .f32⟩
  | .hbm, ⟨23, _⟩ => ⟨S_, .i32⟩
  | .hbm, ⟨24, _⟩ => ⟨S_, .f32⟩
  | .hbm, ⟨25, _⟩ => ⟨S1x2048x128, .f32⟩
  | .hbm, ⟨26, _⟩ => ⟨S1x2048x4992, .f32⟩
  | .hbm, ⟨27, _⟩ => ⟨S1x2048x4992, .bf16⟩
  | .hbm, ⟨28, _⟩ => ⟨S2048x4992, .bf16⟩
  | .hbm, ⟨29, _⟩ => ⟨S256x2048, .f32⟩
  | .hbm, ⟨30, _⟩ => ⟨S1x2048, .f32⟩
  | .hbm, ⟨31, _⟩ => ⟨S256x4992, .f32⟩
  | .hbm, ⟨32, _⟩ => ⟨S16x16x4992, .f32⟩
  | .hbm, ⟨33, _⟩ => ⟨S16x15x512, .f32⟩
  | .hbm, ⟨34, _⟩ => ⟨S16x16x1024, .f32⟩
  | .hbm, ⟨35, _⟩ => ⟨S16x16x256, .f32⟩
  | .hbm, ⟨36, _⟩ => ⟨S16x16x1024, .f32⟩
  | .hbm, ⟨37, _⟩ => ⟨S16x16x64, .f32⟩
  | .hbm, ⟨38, _⟩ => ⟨S16x16x16, .f32⟩
  | .hbm, ⟨39, _⟩ => ⟨S16x16x256, .f32⟩
  | .hbm, ⟨40, _⟩ => ⟨S16x16x256, .f32⟩
  | .hbm, ⟨41, _⟩ => ⟨S16x16x512, .f32⟩
  | .hbm, ⟨42, _⟩ => ⟨S16x16x16, .f32⟩
  | .hbm, ⟨43, _⟩ => ⟨S16x16x512, .f32⟩
  | .hbm, ⟨44, _⟩ => ⟨S16x16x512, .f32⟩
  | .hbm, ⟨45, _⟩ => ⟨S16x16x256, .f32⟩
  | .hbm, ⟨46, _⟩ => ⟨S16x16x2x128, .f32⟩
  | .local _ .vmem, ⟨0, _⟩ => ⟨S256x2048, .f32⟩
  | .local _ .vmem, ⟨1, _⟩ => ⟨S1x2048, .f32⟩
  | .local _ .vmem, ⟨2, _⟩ => ⟨S2048x1664, .bf16⟩
  | .local _ .vmem, ⟨3, _⟩ => ⟨S2048x1664, .bf16⟩
  | .local _ .vmem, ⟨4, _⟩ => ⟨S256x1664, .f32⟩
  | .local _ .vmem, ⟨5, _⟩ => ⟨S256x1664, .f32⟩
  | .local _ .vmem, ⟨6, _⟩ => ⟨S256x2048, .bf16⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_call0_v0 : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_call1_v0 : Ref sig .tc := ⟨.hbm, 20, rfl⟩
abbrev main_v13 : Ref sig .tc := ⟨.hbm, 21, rfl⟩
abbrev main_v14 : Ref sig .tc := ⟨.hbm, 22, rfl⟩
abbrev main_c_1 : Ref sig .tc := ⟨.hbm, 23, rfl⟩
abbrev main_call2_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1664 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S16x16x2048 : Shape := ⟨3, ![16, 16, 2048]⟩
abbrev S16x15x512 : Shape := ⟨3, ![16, 15, 512]⟩
abbrev S2048 : Shape := ⟨1, ![2048]⟩
abbrev S2048x4704 : Shape := ⟨2, ![2048, 4704]⟩
abbrev S_ : Shape := ⟨0, ![]⟩
abbrev S16x16 : Shape := ⟨2, ![16, 16]⟩
abbrev S16x16x1 : Shape := ⟨3, ![16, 16, 1]⟩
abbrev S1x1x2048 : Shape := ⟨3, ![1, 1, 2048]⟩
abbrev S16x16x4704 : Shape := ⟨3, ![16, 16, 4704]⟩
abbrev S16x16x1024 : Shape := ⟨3, ![16, 16, 1024]⟩
abbrev S16x16x256 : Shape := ⟨3, ![16, 16, 256]⟩
abbrev S16x16x64 : Shape := ⟨3, ![16, 16, 64]⟩
abbrev S16x16x16 : Shape := ⟨3, ![16, 16, 16]⟩
abbrev S16x16x512 : Shape := ⟨3, ![16, 16, 512]⟩
abbrev S16x16x2x128 : Shape := ⟨4, ![16, 16, 2, 128]⟩
abbrev S16x31x512 : Shape := ⟨3, ![16, 31, 512]⟩

abbrev nBuf : Space → Nat
  | .hbm => 36
  | .vmem => 0
  | .smem => 0
  | _ => 0

abbrev bufTy : (tb : Table) → Fin (tcTables nBuf tb) → BufTy
  | .hbm, ⟨0, _⟩ => ⟨S16x16x2048, .f32⟩
  | .hbm, ⟨1, _⟩ => ⟨S16x15x512, .f32⟩
  | .hbm, ⟨2, _⟩ => ⟨S2048, .f32⟩
  | .hbm, ⟨3, _⟩ => ⟨S2048x4704, .f32⟩
  | .hbm, ⟨4, _⟩ => ⟨S16x16x2048, .f32⟩
  | .hbm, ⟨5, _⟩ => ⟨S_, .f32⟩
  | .hbm, ⟨6, _⟩ => ⟨S16x16, .f32⟩
  | .hbm, ⟨7, _⟩ => ⟨S16x16x1, .f32⟩
  | .hbm, ⟨8, _⟩ => ⟨S_, .f32⟩
  | .hbm, ⟨9, _⟩ => ⟨S16x16x1, .f32⟩
  | .hbm, ⟨10, _⟩ => ⟨S16x16x1, .f32⟩
  | .hbm, ⟨11, _⟩ => ⟨S_, .f32⟩
  | .hbm, ⟨12, _⟩ => ⟨S16x16x1, .f32⟩
  | .hbm, ⟨13, _⟩ => ⟨S16x16x1, .f32⟩
  | .hbm, ⟨14, _⟩ => ⟨S16x16x1, .f32⟩
  | .hbm, ⟨15, _⟩ => ⟨S16x16x2048, .f32⟩
  | .hbm, ⟨16, _⟩ => ⟨S16x16x2048, .f32⟩
  | .hbm, ⟨17, _⟩ => ⟨S1x1x2048, .f32⟩
  | .hbm, ⟨18, _⟩ => ⟨S16x16x2048, .f32⟩
  | .hbm, ⟨19, _⟩ => ⟨S16x16x2048, .f32⟩
  | .hbm, ⟨20, _⟩ => ⟨S16x16x4704, .f32⟩
  | .hbm, ⟨21, _⟩ => ⟨S16x16x1024, .f32⟩
  | .hbm, ⟨22, _⟩ => ⟨S16x16x256, .f32⟩
  | .hbm, ⟨23, _⟩ => ⟨S16x16x256, .f32⟩
  | .hbm, ⟨24, _⟩ => ⟨S16x16x1024, .f32⟩
  | .hbm, ⟨25, _⟩ => ⟨S16x16x64, .f32⟩
  | .hbm, ⟨26, _⟩ => ⟨S16x16x16, .f32⟩
  | .hbm, ⟨27, _⟩ => ⟨S16x16x256, .f32⟩
  | .hbm, ⟨28, _⟩ => ⟨S16x16x256, .f32⟩
  | .hbm, ⟨29, _⟩ => ⟨S16x16x512, .f32⟩
  | .hbm, ⟨30, _⟩ => ⟨S16x16x16, .f32⟩
  | .hbm, ⟨31, _⟩ => ⟨S16x16x512, .f32⟩
  | .hbm, ⟨32, _⟩ => ⟨S16x16x512, .f32⟩
  | .hbm, ⟨33, _⟩ => ⟨S16x16x2x128, .f32⟩
  | .hbm, ⟨34, _⟩ => ⟨S16x31x512, .f32⟩
  | .hbm, ⟨35, _⟩ => ⟨S16x15x512, .f32⟩
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel6.lean ====
abbrev S32768x2048 : Shape := ⟨2, ![32768, 2048]⟩
abbrev S32768x1024 : Shape := ⟨2, ![32768, 1024]⟩
abbrev S32768x512 : Shape := ⟨2, ![32768, 512]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x1024 : Shape := ⟨2, ![512, 1024]⟩
abbrev S512x512 : Shape := ⟨2, ![512, 512]⟩
abbrev S1024x2048 : Shape := ⟨2, ![1024, 2048]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S32768x1024, .f32⟩
  | .hbm, ⟨2, _⟩ => ⟨S32768x512, .f32⟩
  | .hbm, ⟨3, _⟩ => ⟨S32768x512, .f32⟩
  | .hbm, ⟨4, _⟩ => ⟨S2048x2048, .f32⟩
  | .hbm, ⟨5, _⟩ => ⟨S2048, .f32⟩
  | .hbm, ⟨6, _⟩ => ⟨S32768x1024, .bf16⟩
  | .hbm, ⟨7, _⟩ => ⟨S32768x512, .bf16⟩
  | .hbm, ⟨8, _⟩ => ⟨S32768x512, .bf16⟩
  | .hbm, ⟨9, _⟩ => ⟨S2048x2048, .bf16⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel6Ideal.lean ====
abbrev S32768x2048 : Shape := ⟨2, ![32768, 2048]⟩
abbrev S32768x1024 : Shape := ⟨2, ![32768, 1024]⟩
abbrev S32768x512 : Shape := ⟨2, ![32768, 512]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512x1024 : Shape := ⟨2, ![512, 1024]⟩
abbrev S512x512 : Shape := ⟨2, ![512, 512]⟩
abbrev S1024x2048 : Shape := ⟨2, ![1024, 2048]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S32768x2048, .f32⟩
  | .hbm, ⟨1, _⟩ => ⟨S32768x1024, .f32⟩
  | .hbm, ⟨2, _⟩ => ⟨S32768x512, .f32⟩
  | .hbm, ⟨3, _⟩ => ⟨S32768x512, .f32⟩
  | .hbm, ⟨4, _⟩ => ⟨S2048x2048, .f32⟩
  | .hbm, ⟨5, _⟩ => ⟨S2048, .f32⟩
  | .hbm, ⟨6, _⟩ => ⟨S32768x1024, .bf16⟩
  | .hbm, ⟨7, _⟩ => ⟨S32768x512, .bf16⟩
  | .hbm, ⟨8, _⟩ => ⟨S32768x512, .bf16⟩
  | .hbm, ⟨9, _⟩ => ⟨S2048x2048, .bf16⟩
  | .hbm, ⟨10, _⟩ => ⟨S1x2048, .f32⟩
  | .hbm, ⟨11, _⟩ => ⟨S32768x2048, .f32⟩
  | .hbm, ⟨12, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2048x2048, .bf16⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S32768x2048 : Shape := ⟨2, ![32768, 2048]⟩
abbrev S32768x1024 : Shape := ⟨2, ![32768, 1024]⟩
abbrev S32768x512 : Shape := ⟨2, ![32768, 512]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x1024, .f32⟩
  | .hbm, ⟨2, _⟩ => ⟨S32768x512, .f32⟩
  | .hbm, ⟨3, _⟩ => ⟨S32768x512, .f32⟩
  | .hbm, ⟨4, _⟩ => ⟨S2048x2048, .f32⟩
  | .hbm, ⟨5, _⟩ => ⟨S2048, .f32⟩
  | .hbm, ⟨6, _⟩ => ⟨S32768x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S_, .f32⟩
  | .hbm, ⟨11, _⟩ => ⟨S32768, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x1, .f32⟩
  | .hbm, ⟨20, _⟩ => ⟨S32768x2048, .f32⟩
  | .hbm, ⟨21, _⟩ => ⟨S32768x2048, .f32⟩
  | .hbm, ⟨22, _⟩ => ⟨S1x2048, .f32⟩
  | .hbm, ⟨23, _⟩ => ⟨S32768x2048, .f32⟩
  | .hbm, ⟨24, _⟩ => ⟨S32768x2048, .f32⟩
  | .hbm, ⟨25, _⟩ => ⟨S32768x2048, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel7.lean ====
abbrev S256x2048 : Shape := ⟨2, ![256, 2048]⟩
abbrev S256x1024 : Shape := ⟨2, ![256, 1024]⟩
abbrev S256x512 : Shape := ⟨2, ![256, 512]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S512x2048 : Shape := ⟨2, ![512, 2048]⟩
abbrev S256 : Shape := ⟨1, ![256]⟩
abbrev S256x1 : Shape := ⟨2, ![256, 1]⟩

abbrev nBuf : Space → Nat
  | .hbm => 13
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S256x512, .f32⟩
  | .hbm, ⟨3, _⟩ => ⟨S256x512, .f32⟩
  | .hbm, ⟨4, _⟩ => ⟨S2048x2048, .f32⟩
  | .hbm, ⟨5, _⟩ => ⟨S2048, .f32⟩
  | .hbm, ⟨6, _⟩ => ⟨S256x1024, .bf16⟩
  | .hbm, ⟨7, _⟩ => ⟨S256x512, .bf16⟩
  | .hbm, ⟨8, _⟩ => ⟨S256x512, .bf16⟩
  | .hbm, ⟨9, _⟩ => ⟨S2048x2048, .bf16⟩
  | .hbm, ⟨10, _⟩ => ⟨S1x2048, .f32⟩
  | .hbm, ⟨11, _⟩ => ⟨S256x2048, .f32⟩
  | .hbm, ⟨12, _⟩ => ⟨S256x2048, .bf16⟩
  | .local _ .vmem, ⟨0, _⟩ => ⟨S256x2048, .f32⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S2048x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S256x2048 : Shape := ⟨2, ![256, 2048]⟩
abbrev S256x1024 : Shape := ⟨2, ![256, 1024]⟩
abbrev S256x512 : Shape := ⟨2, ![256, 512]⟩
abbrev S2048x2048 : Shape := ⟨2, ![2048, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x1024, .f32⟩
  | .hbm, ⟨2, _⟩ => ⟨S256x512, .f32⟩
  | .hbm, ⟨3, _⟩ => ⟨S256x512, .f32⟩
  | .hbm, ⟨4, _⟩ => ⟨S2048x2048, .f32⟩
  | .hbm, ⟨5, _⟩ => ⟨S2048, .f32⟩
  | .hbm, ⟨6, _⟩ => ⟨S256x2048, .f32⟩
  | .hbm, ⟨7, _⟩ => ⟨S256x2048, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x2048, .f32⟩
  | .hbm, ⟨21, _⟩ => ⟨S256x2048, .f32⟩
  | .hbm, ⟨22, _⟩ => ⟨S1x2048, .f32⟩
  | .hbm, ⟨23, _⟩ => ⟨S256x2048, .f32⟩
  | .hbm, ⟨24, _⟩ => ⟨S256x2048, .f32⟩
  | .hbm, ⟨25, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel8.lean ====
abbrev S16x16x256 : Shape := ⟨3, ![16, 16, 256]⟩
abbrev S16x16x512 : Shape := ⟨3, ![16, 16, 512]⟩
abbrev S128 : Shape := ⟨1, ![128]⟩
abbrev S16x4x64x128 : Shape := ⟨4, ![16, 4, 64, 128]⟩
abbrev S96x16 : Shape := ⟨2, ![96, 16]⟩
abbrev S5x32x16 : Shape := ⟨3, ![5, 32, 16]⟩
abbrev S1x128 : Shape := ⟨2, ![1, 128]⟩
abbrev S16x2x2x64x128 : Shape := ⟨5, ![16, 2, 2, 64, 128]⟩
abbrev S16x2x1x64x128 : Shape := ⟨5, ![16, 2, 1, 64, 128]⟩
abbrev S16x2x64x128 : Shape := ⟨4, ![16, 2, 64, 128]⟩
abbrev S_ : Shape := ⟨0, ![]⟩
abbrev S16x2x64x256 : Shape := ⟨4, ![16, 2, 64, 256]⟩
abbrev S16x2x128x256 : Shape := ⟨4, ![16, 2, 128, 256]⟩
abbrev S1x16x256 : Shape := ⟨3, ![1, 16, 256]⟩
abbrev S1x16x512 : Shape := ⟨3, ![1, 16, 512]⟩
abbrev S1x2x128x256 : Shape := ⟨4, ![1, 2, 128, 256]⟩
abbrev S2x128x256 : Shape := ⟨3, ![2, 128, 256]⟩
abbrev S16x1 : Shape := ⟨2, ![16, 1]⟩
abbrev S128x256 : Shape := ⟨2, ![128, 256]⟩
abbrev S16x256 : Shape := ⟨2, ![16, 256]⟩
abbrev S16x512 : Shape := ⟨2, ![16, 512]⟩
abbrev S96x256 : Shape := ⟨2, ![96, 256]⟩
abbrev S1x256 : Shape := ⟨2, ![1, 256]⟩
abbrev S16x128 : Shape := ⟨2, ![16, 128]⟩
abbrev S32x128 : Shape := ⟨2, ![32, 128]⟩
abbrev S32x16 : Shape := ⟨2, ![32, 16]⟩
abbrev S1x32x16 : Shape := ⟨3, ![1, 32, 16]⟩
abbrev S1x128x256 : Shape := ⟨3, ![1, 128, 256]⟩
abbrev S16x16 : Shape := ⟨2, ![16, 16]⟩
abbrev S128x128 : Shape := ⟨2, ![128, 128]⟩
abbrev S16 : Shape := ⟨1, ![16]⟩
abbrev S1x16x128 : Shape := ⟨3, ![1, 16, 128]⟩

abbrev nBuf : Space → Nat
  | .hbm => 30
  | .vmem => 20
  | .smem => 0
  | _ => 0

abbrev bufTy : (tb : Table) → Fin (tcTables nBuf tb) → BufTy
  | .hbm, ⟨0, _⟩ => ⟨S16x16x256, .f32⟩
  | .hbm, ⟨1, _⟩ => ⟨S16x16x256, .f32⟩
  | .hbm, ⟨2, _⟩ => ⟨S16x16x512, .bf16⟩
  | .hbm, ⟨3, _⟩ => ⟨S16x16x256, .f32⟩
  | .hbm, ⟨4, _⟩ => ⟨S16x16x512, .f32⟩
  | .hbm, ⟨5, _⟩ => ⟨S128, .f32⟩
  | .hbm, ⟨6, _⟩ => ⟨S16x4x64x128, .f32⟩
  | .hbm, ⟨7, _⟩ => ⟨S96x16, .bf16⟩
  | .hbm, ⟨8, _⟩ => ⟨S5x32x16, .f32⟩
  | .hbm, ⟨9, _⟩ => ⟨S1x128, .f32⟩
  | .hbm, ⟨10, _⟩ => ⟨S16x2x2x64x128, .f32⟩
  | .hbm, ⟨11, _⟩ => ⟨S16x2x1x64x128, .f32⟩
  | .hbm, ⟨12, _⟩ => ⟨S16x2x64x128, .f32⟩
  | .hbm, ⟨13, _⟩ => ⟨S_, .f32⟩
  | .hbm, ⟨14, _⟩ => ⟨S16x2x64x128, .f32⟩
  | .hbm, ⟨15, _⟩ => ⟨S16x2x1x64x128, .f32⟩
  | .hbm, ⟨16, _⟩ => ⟨S16x2x64x128, .f32⟩
  | .hbm, ⟨17, _⟩ => ⟨S16x2x64x256, .f32⟩
  | .hbm, ⟨18, _⟩ => ⟨S16x2x1x64x128, .f32⟩
  | .hbm, ⟨19, _⟩ => ⟨S16x2x64x128, .f32⟩
  | .hbm, ⟨20, _⟩ => ⟨S16x2x64x256, .f32⟩
  | .hbm, ⟨21, _⟩ => ⟨S16x2x128x256, .f32⟩
  | .hbm, ⟨22, _⟩ => ⟨S16x16x512, .bf16⟩
  | .hbm, ⟨23, _⟩ => ⟨S16x2x128x256, .f32⟩
  | .hbm, ⟨24, _⟩ => ⟨S16x2x64x128, .f32⟩
  | .hbm, ⟨25, _⟩ => ⟨S16x2x64x128, .f32⟩
  | .hbm, ⟨26, _⟩ => ⟨S16x2x1x64x128, .f32⟩
  | .hbm, ⟨27, _⟩ => ⟨S16x2x1x64x128, .f32⟩
  | .hbm, ⟨28, _⟩ => ⟨S16x2x2x64x128, .f32⟩
  | .hbm, ⟨29, _⟩ => ⟨S16x4x64x128, .f32⟩
  | .local _ .vmem, ⟨0, _⟩ => ⟨S1x16x256, .f32⟩
  | .local _ .vmem, ⟨1, _⟩ => ⟨S1x16x256, .f32⟩
  | .local _ .vmem, ⟨2, _⟩ => ⟨S1x16x256, .f32⟩
  | .local _ .vmem, ⟨3, _⟩ => ⟨S1x16x256, .f32⟩
  | .local _ .vmem, ⟨4, _⟩ => ⟨S1x16x512, .bf16⟩
  | .local _ .vmem, ⟨5, _⟩ => ⟨S1x16x512, .bf16⟩
  | .local _ .vmem, ⟨6, _⟩ => ⟨S1x16x256, .f32⟩
  | .local _ .vmem, ⟨7, _⟩ => ⟨S1x16x256, .f32⟩
  | .local _ .vmem, ⟨8, _⟩ => ⟨S1x16x512, .f32⟩
  | .local _ .vmem, ⟨9, _⟩ => ⟨S1x16x512, .f32⟩
  | .local _ .vmem, ⟨10, _⟩ => ⟨S96x16, .bf16⟩
  | .local _ .vmem, ⟨11, _⟩ => ⟨S5x32x16, .f32⟩
  | .local _ .vmem, ⟨12, _⟩ => ⟨S1x128, .f32⟩
  | .local _ .vmem, ⟨13, _⟩ => ⟨S1x2x128x256, .f32⟩
  | .local _ .vmem, ⟨14, _⟩ => ⟨S1x2x128x256, .f32⟩
  | .local _ .vmem, ⟨15, _⟩ => ⟨S1x16x512, .bf16⟩
  | .local _ .vmem, ⟨16, _⟩ => ⟨S1x16x512, .bf16⟩
  | .local _ .vmem, ⟨17, _⟩ => ⟨S1x2x128x256, .f32⟩
  | .local _ .vmem, ⟨18, _⟩ => ⟨S1x2x128x256, .f32⟩
  | .local _ .vmem, ⟨19, _⟩ => ⟨S2x128x256, .f32⟩
  | _, _ => ⟨S16x16x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![16, 1], ![false, false]⟩

def k0_mult1 : BitVec 32 :=
  let c0_i32_3 : BitVec 32 := 0#32
  let c1_i32 : BitVec 32 := 1#32
  let v17 : BitVec 32 := Scalar.muli c0_i32_3 c1_i32
  let c0_i32_4 : BitVec 32 := 0#32
  let v18 : BitVec 32 := Scalar.addi v17 c0_i32_4
  let c16_i32 : BitVec 32 := 16#32
  let v19 : BitVec 32 := Scalar.muli v18 c16_i32
  v19
def k0_off1 : Fin 3 → Nat :=
  let c0_5 : Index := 0#32
  let c0_i32_3 : BitVec 32 := 0#32
  let c1_i32 : BitVec 32 := 1#32
  let v17 : BitVec 32 := Scalar.muli c0_i32_3 c1_i32
  let c0_i32_4 : BitVec 32 := 0#32
  let v18 : BitVec 32 := Scalar.addi v17 c0_i32_4
  let c16_i32 : BitVec 32 := 16#32
  let v19 : BitVec 32 := Scalar.muli v18 c16_i32
  let v20 : BitVec 32 := v19
  let v21 : Index := Scalar.indexCast v20
  let c0_6 : Index := 0#32
  ![0, v21.toNat, 0]
def k0_off2 : Fin 3 → Nat :=
  let c0_9 : Index := 0#32
  let c0_i32_3 : BitVec 32 := 0#32
  let c1_i32 : BitVec 32 := 1#32
  let v17 : BitVec 32 := Scalar.muli c0_i32_3 c1_i32
  let c0_i32_4 : BitVec 32 := 0#32
  let v18 : BitVec 32 := Scalar.addi v17 c0_i32_4
  let c16_i32 : BitVec 32 := 16#32
  let v19 : BitVec 32 := Scalar.muli v18 c16_i32
  let v20 : BitVec 32 := v19
  let v27 : Index := Scalar.indexCast v20
  let c0_10 : Index := 0#32
  ![0, v27.toNat, 0]
def k0_off3 : Fin 3 → Nat :=
  let c0_68 : Index := 0#32
  let c0_i32_3 : BitVec 32 := 0#32
  let c1_i32 : BitVec 32 := 1#32
  let v17 : BitVec 32 := Scalar.muli c0_i32_3 c1_i32
  let c0_i32_4 : BitVec 32 := 0#32
  let v18 : BitVec 32 := Scalar.addi v17 c0_i32_4
  let c16_i32 : BitVec 32 := 16#32
  let v19 : BitVec 32 := Scalar.muli v18 c16_i32
  let v20 : BitVec 32 := v19
  let v229 : Index := Scalar.indexCast v20
  let c0_69 : Index := 0#32
  ![0, v229.toNat, 0]
def k0_off4 : Fin 3 → Nat :=
  let c0_75 : Index := 0#32
  let c0_i32_3 : BitVec 32 := 0#32
  let c1_i32 : BitVec 32 := 1#32
  let v17 : BitVec 32 := Scalar.muli c0_i32_3 c1_i32
  let c0_i32_4 : BitVec 32 := 0#32
  let v18 : BitVec 32 := Scalar.addi v17 c0_i32_4
  let c16_i32 : BitVec 32 := 16#32
  let v19 : BitVec 32 := Scalar.muli v18 c16_i32
  let v20 : BitVec 32 := v19
  let v251 : Index := Scalar.indexCast v20
  let c128 : Index := 128#32
  ![0, v251.toNat, 128]
def k0_off5 : Fin 3 → Nat :=
  let c0_134 : Index := 0#32
  let c0_i32_3 : BitVec 32 := 0#32
  let c1_i32 : BitVec 32 := 1#32
  let v17 : BitVec 32 := Scalar.muli c0_i32_3 c1_i32
  let c0_i32_4 : BitVec 32 := 0#32
  let v18 : BitVec 32 := Scalar.addi v17 c0_i32_4
  let c16_i32 : BitVec 32 := 16#32
  let v19 : BitVec 32 := Scalar.muli v18 c16_i32
  let v20 : BitVec 32 := v19
  let v437 : Index := Scalar.indexCast v20
  let c256 : Index := 256#32
  ![0, v437.toNat, 256]
def k0_off6 : Fin 3 → Nat :=
  let c0_140 : Index := 0#32
  let c0_i32_3 : BitVec 32 := 0#32
  let c1_i32 : BitVec 32 := 1#32
  let v17 : BitVec 32 := Scalar.muli c0_i32_3 c1_i32
  let c0_i32_4 : BitVec 32 := 0#32
  let v18 : BitVec 32 := Scalar.addi v17 c0_i32_4
  let c16_i32 : BitVec 32 := 16#32
  let v19 : BitVec 32 := Scalar.muli v18 c16_i32
  let v20 : BitVec 32 := v19
  let v459 : Index := Scalar.indexCast v20
  let c384 : Index := 384#32
  ![0, v459.toNat, 384]
def k0_cond2 (i : grid0.Coords) : BitVec 1 :=
  let arg1 : BitVec 32 := BitVec.ofNat 32 (i 1).val
  let c0_i32_144 : BitVec 32 := 0#32
  let v468 : BitVec 1 := Scalar.cmpi .eq arg1 c0_i32_144
  let v469 : BitVec 32 := Scalar.extui v468
  let c0_i32_145 : BitVec 32 := 0#32
  let v470 : BitVec 1 := Scalar.cmpi .ne v469 c0_i32_145
  v470

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S96x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S5x32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x2x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x16x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference8Ideal.lean ====
abbrev S16x16x256 : Shape := ⟨3, ![16, 16, 256]⟩
abbrev S16x16x512 : Shape := ⟨3, ![16, 16, 512]⟩
abbrev S128 : Shape := ⟨1, ![128]⟩
abbrev S16x4x64x128 : Shape := ⟨4, ![16, 4, 64, 128]⟩
abbrev S16x16x4x64 : Shape := ⟨4, ![16, 16, 4, 64]⟩
abbrev S16x16x4x128 : Shape := ⟨4, ![16, 16, 4, 128]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S16x4x64x16 : Shape := ⟨4, ![16, 4, 64, 16]⟩
abbrev S16x1x4x64 : Shape := ⟨4, ![16, 1, 4, 64]⟩
abbrev S16x4x64 : Shape := ⟨3, ![16, 4, 64]⟩
abbrev S16x4x64x1 : Shape := ⟨4, ![16, 4, 64, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x16x256, .f32⟩
  | .hbm, ⟨1, _⟩ => ⟨S16x16x256, .f32⟩
  | .hbm, ⟨2, _⟩ => ⟨S16x16x512, .bf16⟩
  | .hbm, ⟨3, _⟩ => ⟨S16x16x256, .f32⟩
  | .hbm, ⟨4, _⟩ => ⟨S16x16x512, .f32⟩
  | .hbm, ⟨5, _⟩ => ⟨S128, .f32⟩
  | .hbm, ⟨6, _⟩ => ⟨S16x4x64x128, .f32⟩
  | .hbm, ⟨7, _⟩ => ⟨S16x16x4x64, .f32⟩
  | .hbm, ⟨8, _⟩ => ⟨S16x16x512, .f32⟩
  | .hbm, ⟨9, _⟩ => ⟨S16x16x4x128, .f32⟩
  | .hbm, ⟨10, _⟩ => ⟨S16x16x4x64, .f32⟩
  | .hbm, ⟨11, _⟩ => ⟨S16, .i32⟩
  | .hbm, ⟨12, _⟩ => ⟨S16x1, .i32⟩
  | .hbm, ⟨13, _⟩ => ⟨S1x16, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S16x4x64x16, .f32⟩
  | .hbm, ⟨19, _⟩ => ⟨S16x16x4x64, .f32⟩
  | .hbm, ⟨20, _⟩ => ⟨S16x1x4x64, .f32⟩
  | .hbm, ⟨21, _⟩ => ⟨S16x4x64, .f32⟩
  | .hbm, ⟨22, _⟩ => ⟨S16x4x64, .f32⟩
  | .hbm, ⟨23, _⟩ => ⟨S16x4x64x1, .f32⟩
  | .hbm, ⟨24, _⟩ => ⟨S16x4x64x128, .f32⟩
  | .hbm, ⟨25, _⟩ => ⟨S16x4x64x128, .f32⟩
  | .hbm, ⟨26, _⟩ => ⟨S16x1x4x64, .f32⟩
  | .hbm, ⟨27, _⟩ => ⟨S16x16x4x64, .f32⟩
  | .hbm, ⟨28, _⟩ => ⟨S16x16x4x64, .f32⟩
  | .hbm, ⟨29, _⟩ => ⟨S16x16x4x64, .f32⟩
  | .hbm, ⟨30, _⟩ => ⟨S16x16x4x64, .f32⟩
  | .hbm, ⟨31, _⟩ => ⟨S16x4x64x128, .f32⟩
  | .hbm, ⟨32, _⟩ => ⟨S16x4x64x128, .f32⟩
  | _, _ => ⟨S16x16x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.Keeps.lean ====
/-
  A program that KEEPS an assertion: run from it, whatever it loads and whichever branches and trips it takes, it ends
  in it. The rules below follow a kernel body's text: a value, a sequence, a counted loop, a branch, a load from a buffer
  the assertion lends for reading, an unmasked store into a buffer it lends for writing. None of them reads a value, so a body's
  whole text is walked by its shape.
-/
module

public import proofs.«01_k».proof.Kernel
public import Idealize.ShloMosaic.Lib.Pipeline.Kit
public import Idealize.ShloMosaic.Lib.Pipeline.FrameBody
public import Idealize.ShloMosaic.Lib.Tactic

@[expose] public section

noncomputable section

namespace Cert.Kernel.Hand

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] [Facts]

local notation "𝕄" => MT nD τ sig Unit (Elt F) ℕ (UR sig nD τ) ℕ

/-- From `I` the program runs and ends in `I`, whatever it returns. -/
def Keeps {α : Type} (c : Dev nD) (I : sProp 𝕄) (p : Prog (TpuEff nD τ sig (Elt F) Λ₀ .tc) α) : Prop :=
  I ⊢ wp frame (wpE (defs₀ (F := F)) Variants.none (c : Thread nD τ) none) Set.univ p (fun _ => I)

/-- `I` lends the whole buffer behind `M` for reading. -/
def Reads (c : Dev nD) (I : sProp 𝕄) {sp : Space} {s : Shape} {e : EltTy} (M : Memref sig .tc sp s e) : Prop :=
  I ⊢ iprop(∃ f, (M.view.loc (c : Thread nD τ) ↦[M.view.set]{fullShare} f)
    ∗ ((M.view.loc (c : Thread nD τ) ↦[M.view.set]{fullShare} f) -∗ I))

/-- `I` lends the whole buffer behind `M` for writing: it takes it back at any contents. -/
def Writes (c : Dev nD) (I : sProp 𝕄) {sp : Space} {s : Shape} {e : EltTy} (M : Memref sig .tc sp s e) : Prop :=
  I ⊢ iprop(∃ f, (M.view.loc (c : Thread nD τ) ↦[M.view.set]{fullShare} f)
    ∗ (∀ f', (M.view.loc (c : Thread nD τ) ↦[M.view.set]{fullShare} f') -∗ I))

theorem Writes.reads {c : Dev nD} {I : sProp 𝕄} {sp : Space} {s : Shape} {e : EltTy} {M : Memref sig .tc sp s e} (h : Writes (F := F) c I M) : Reads c I M := by
  refine BIBase.Entails.trans h ?_
  iintro ⟨%f, H, Hk⟩
  iexists f
  isplitl [H]; · iexact H
  iintro H; iapply Hk; iexact H

theorem Keeps.ret {α : Type} {c : Dev nD} {I : sProp 𝕄} (a : α) : Keeps (F := F) c I (pure a) :=
  le_wp_ret frame (wpE (defs₀ (F := F)) Variants.none (c : Thread nD τ) none) Set.univ a (fun _ => I)

theorem Keeps.bind {α β : Type} {c : Dev nD} {I : sProp 𝕄} {p : Prog (TpuEff nD τ sig (Elt F) Λ₀ .tc) α} {k : α → Prog (TpuEff nD τ sig (Elt F) Λ₀ .tc) β}
    (hp : Keeps c I p) (hk : ∀ a, Keeps c I (k a)) : Keeps c I (p >>= k) := by
  unfold Keeps; rw [wp_bind]
  exact hp.trans (wp_mono _ _ _ hk)

theorem Keeps.load {c : Dev nD} {I : sProp 𝕄} {cs : CoreSpace} {s : Shape} {e : EltTy} {M : Memref sig .tc cs s e} {r : LoadRect s} {hl : M.view.LoadsAt r}
    (h : Reads (F := F) c I M) : Keeps c I (Prog.lift (.load M r hl)) := by
  unfold Keeps
  refine BIBase.Entails.trans h ?_
  iintro ⟨%f, H, Hk⟩
  iapply (wp_load Variants.none (c : Thread nD τ) none Set.univ (M.view.setOn_subset_set _)) $$ H
  iintro H
  iapply (le_wp_ret)
  iapply Hk; iexact H

theorem Keeps.store {c : Dev nD} {I : sProp 𝕄} {cs : CoreSpace} {s : Shape} {e : EltTy} {M : Memref sig .tc cs s e} {r : Rect s} {w : r.shape.Idx → Elt F e}
    {hx : (M.access r).Stores Finset.univ} {hm : Finset.univ = Finset.univ ∨ ∀ a, r.stride a = 1}
    (h : Writes (F := F) c I M) : Keeps c I (Prog.lift (.store M r w Finset.univ hx hm)) := by
  unfold Keeps
  refine BIBase.Entails.trans h ?_
  iintro ⟨%f, H, Hk⟩
  iapply (wp_store Variants.none (c : Thread nD τ) none Set.univ (m := M) (r := r) (w := w) (hx := hx) (hm := hm) (k := Prog.ret) (f := f) (S := M.view.set) (Mk := Finset.univ) ((View.setOn_subset_set _ _).trans (View.set_slice_subset _ _))) $$ H
  iintro H
  iapply (le_wp_ret)
  iapply Hk; iexact H

theorem Keeps.for {α : Type} {c : Dev nD} {I : sProp 𝕄} {w : Nat} {lb ub st : BitVec w} {hok : Scf.OK lb ub st} {init : α}
    {body : Fin (Scf.trips lb ub st) → α → Prog (TpuEff nD τ sig (Elt F) Λ₀ .tc) α}
    (h : ∀ k a, Keeps c I (body k a)) : Keeps c I (Scf.for lb ub st hok init body) := by
  unfold Keeps
  have hf := Scf.wp_for frame (wpE (defs₀ (F := F)) Variants.none (c : Thread nD τ) none) Set.univ lb ub st hok init body
    (fun _ _ => I) (fun k a => h k a) (Q := fun _ => I)
  refine BIBase.Entails.trans ?_ hf
  iintro H
  isplitl [H]; · iexact H
  iintro %a H; iexact H

theorem Keeps.ite {α : Type} {c : Dev nD} {I : sProp 𝕄} {p : Prop} [Decidable p] {a b : Prog (TpuEff nD τ sig (Elt F) Λ₀ .tc) α}
    (ha : Keeps c I a) (hb : Keeps c I b) : Keeps c I (if p then a else b) := by
  split
  · exact ha
  · exact hb

theorem Keeps.dite {α : Type} {c : Dev nD} {I : sProp 𝕄} {p : Prop} [Decidable p] {a : p → Prog (TpuEff nD τ sig (Elt F) Λ₀ .tc) α} {b : ¬p → Prog (TpuEff nD τ sig (Elt F) Λ₀ .tc) α}
    (ha : ∀ h, Keeps c I (a h)) (hb : ∀ h, Keeps c I (b h)) : Keeps c I (if h : p then a h else b h) := by
  split
  · exact ha _
  · exact hb _

/-- What the attention body's text asks of an assertion: its seven inputs lent for reading, its result's buffer and its
    five scratch buffers for both. -/
structure Lends (c : Dev nD) (I : sProp 𝕄) (arg2 : Memref sig .tc .vmem S1x256x1024 .bf16) (arg3 : Memref sig .tc .vmem S1x256x1024 .bf16) (arg4 : Memref sig .tc .vmem S1x16x256 .f32) (arg5 : Memref sig .tc .vmem S1x8192x256 .bf16) (arg6 : Memref sig .tc .vmem S1x8192x256 .bf16) (arg7 : Memref sig .tc .vmem S1x8192x256 .bf16) (arg8 : Memref sig .tc .vmem S1x16x8x128 .f32) (arg9 : Memref sig .tc .vmem S1x256x1024 .bf16) (arg10 : Memref sig .tc .vmem S8192x256 .i32) (arg11 : Memref sig .tc .vmem S32x256x256 .i32) (arg12 : Memref sig .tc .vmem S2x128x1024 .f32) (arg13 : Memref sig .tc .vmem S2x1x1024 .f32) (arg14 : Memref sig .tc .vmem S2x1x1024 .f32) : Prop where
  r2 : Reads c I arg2
  r3 : Reads c I arg3
  r4 : Reads c I arg4
  r5 : Reads c I arg5
  r6 : Reads c I arg6
  r7 : Reads c I arg7
  r8 : Reads c I arg8
  r9 : Reads c I arg9
  r10 : Reads c I arg10
  r11 : Reads c I arg11
  r12 : Reads c I arg12
  r13 : Reads c I arg13
  r14 : Reads c I arg14
  w9 : Writes c I arg9
  w10 : Writes c I arg10
  w11 : Writes c I arg11
  w12 : Writes c I arg12
  w13 : Writes c I arg13
  w14 : Writes c I arg14

end Cert.Kernel.Hand

end
-- ==== Proof.KeepsIndex.lean ====
/-
  The first indexer loop's block of the attention body (a block of 2048 keys ranked and packed) keeps what lends its buffers.
-/
module

public import proofs.«01_k».proof.Proof.Keeps

@[expose] public section

set_option maxHeartbeats 2000000

noncomputable section

namespace Cert.Kernel.Hand

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] [Facts]
local notation "𝕄" => MT nD τ sig Unit (Elt F) ℕ (UR sig nD τ) ℕ

variable {i : grid0.Coords} {arg2 : Memref sig .tc .vmem S1x256x1024 .bf16} {arg3 : Memref sig .tc .vmem S1x256x1024 .bf16} {arg4 : Memref sig .tc .vmem S1x16x256 .f32} {arg5 : Memref sig .tc .vmem S1x8192x256 .bf16} {arg6 : Memref sig .tc .vmem S1x8192x256 .bf16} {arg7 : Memref sig .tc .vmem S1x8192x256 .bf16} {arg8 : Memref sig .tc .vmem S1x16x8x128 .f32} {arg9 : Memref sig .tc .vmem S1x256x1024 .bf16} {arg10 : Memref sig .tc .vmem S8192x256 .i32} {arg11 : Memref sig .tc .vmem S32x256x256 .i32} {arg12 : Memref sig .tc .vmem S2x128x1024 .f32} {arg13 : Memref sig .tc .vmem S2x1x1024 .f32} {arg14 : Memref sig .tc .vmem S2x1x1024 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole}

theorem keeps_part196 {c : Dev nD} {I : sProp 𝕄} {v95 c0_i32_46 c1_i32_48 k0_t1} (H : Lends c I arg2 arg3 arg4 arg5 arg6 arg7 arg8 arg9 arg10 arg11 arg12 arg13 arg14) :
    Keeps c I (k0_part196 (F := F) i arg2 harg2 arg3 harg3 arg4 harg4 arg5 harg5 arg6 harg6 arg7 harg7 arg8 harg8 arg9 harg9 arg10 harg10 arg11 harg11 arg12 harg12 arg13 harg13 arg14 harg14 v95 c0_i32_46 c1_i32_48 k0_t1) := by
  obtain ⟨r2, r3, r4, r5, r6, r7, r8, r9, r10, r11, r12, r13, r14, w9, w10, w11, w12, w13, w14⟩ := id H
  delta k0_part196
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)
  all_goals
    delta k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22 k0_part23 k0_part24 k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52 k0_part53 k0_part54 k0_part55 k0_part56 k0_part57 k0_part58 k0_part59 k0_part60
    repeat' (first
      | with_reducible exact Keeps.ret _
      | with_reducible refine Keeps.bind ?_ fun _ => ?_
      | with_reducible exact Keeps.load (by assumption)
      | with_reducible exact Keeps.store (by assumption)
      | with_reducible refine Keeps.for fun _ _ => ?_
      | with_reducible refine Keeps.ite ?_ ?_
      | with_reducible refine Keeps.dite (fun _ => ?_) fun _ => ?_)

theorem keeps_part197 {c : Dev nD} {I : sProp 𝕄} {v95 k0_t1 v285 v2385 v2719 v2725 v2728 v2734 v2737 v2743 v2746 v2755 v2761 v2764 v2770 v2773 v2779 v2782 v2788 v2791 v2797 v2800 v2806 v2809 v2815 v2818 v2824 v2827 v2833 v2836 v2842 v2845 v2851 v2854 v2860 v2863} (H : Lends c I arg2 arg3 arg4 arg5 arg6 arg7 arg8 arg9 arg10 arg11 arg12 arg13 arg14) :
    Keeps c I (k0_part197 (F := F) i arg2 harg2 arg3 harg3 arg4 harg4 arg5 harg5 arg6 harg6 arg7 harg7 arg8 harg8 arg9 harg9 arg10 harg10 arg11 harg11 arg12 harg12 arg13 harg13 arg14 harg14 v95 k0_t1 v285 v2385 v2719 v2725 v2728 v2734 v2737 v2743 v2746 v2755 v2761 v2764 v2770 v2773 v2779 v2782 v2788 v2791 v2797 v2800 v2806 v2809 v2815 v2818 v2824 v2827 v2833 v2836 v2842 v2845 v2851 v2854 v2860 v2863) := by
  obtain ⟨r2, r3, r4, r5, r6, r7, r8, r9, r10, r11, r12, r13, r14, w9, w10, w11, w12, w13, w14⟩ := id H
  delta k0_part197
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)
  all_goals
    delta k0_part61 k0_part62 k0_part63 k0_part64 k0_part65 k0_part66 k0_part67 k0_part68 k0_part69 k0_part70 k0_part71 k0_part72 k0_part73 k0_part74 k0_part75 k0_part76 k0_part77 k0_part78 k0_part79 k0_part80 k0_part81 k0_part82 k0_part83 k0_part84 k0_part85 k0_part86 k0_part87 k0_part88 k0_part89 k0_part90 k0_part91 k0_part92 k0_part93 k0_part94 k0_part95 k0_part96 k0_part97 k0_part98 k0_part99 k0_part100 k0_part101 k0_part102 k0_part103 k0_part104 k0_part105 k0_part106 k0_part107 k0_part108 k0_part109 k0_part110 k0_part111 k0_part112 k0_part113 k0_part114 k0_part115 k0_part116 k0_part117 k0_part118 k0_part119 k0_part120
    repeat' (first
      | with_reducible exact Keeps.ret _
      | with_reducible refine Keeps.bind ?_ fun _ => ?_
      | with_reducible exact Keeps.load (by assumption)
      | with_reducible exact Keeps.store (by assumption)
      | with_reducible refine Keeps.for fun _ _ => ?_
      | with_reducible refine Keeps.ite ?_ ?_
      | with_reducible refine Keeps.dite (fun _ => ?_) fun _ => ?_)

theorem keeps_part198 {c : Dev nD} {I : sProp 𝕄} {v95 k0_t1 v285 v5291 v5294 v5300 v5303 v5309 v5312 v5318 v5321 v5327 v5330 v5336 v5339 v5345 v5348 v5354 v5357 v5363 v5366 v5372 v5375 v5381 v5384 v5402} (H : Lends c I arg2 arg3 arg4 arg5 arg6 arg7 arg8 arg9 arg10 arg11 arg12 arg13 arg14) :
    Keeps c I (k0_part198 (F := F) i arg2 harg2 arg3 harg3 arg4 harg4 arg5 harg5 arg6 harg6 arg7 harg7 arg8 harg8 arg9 harg9 arg10 harg10 arg11 harg11 arg12 harg12 arg13 harg13 arg14 harg14 v95 k0_t1 v285 v5291 v5294 v5300 v5303 v5309 v5312 v5318 v5321 v5327 v5330 v5336 v5339 v5345 v5348 v5354 v5357 v5363 v5366 v5372 v5375 v5381 v5384 v5402) := by
  obtain ⟨r2, r3, r4, r5, r6, r7, r8, r9, r10, r11, r12, r13, r14, w9, w10, w11, w12, w13, w14⟩ := id H
  delta k0_part198
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)
  all_goals
    delta k0_part121 k0_part122 k0_part123 k0_part124 k0_part125 k0_part126 k0_part127 k0_part128 k0_part129 k0_part130 k0_part131 k0_part132 k0_part133 k0_part134 k0_part135 k0_part136 k0_part137 k0_part138 k0_part139 k0_part140 k0_part141 k0_part142 k0_part143 k0_part144 k0_part145 k0_part146 k0_part147 k0_part148 k0_part149 k0_part150 k0_part151 k0_part152 k0_part153 k0_part154 k0_part155 k0_part156 k0_part157 k0_part158 k0_part159 k0_part160 k0_part161 k0_part162 k0_part163 k0_part164 k0_part165 k0_part166 k0_part167 k0_part168 k0_part169 k0_part170 k0_part171 k0_part172 k0_part173 k0_part174 k0_part175 k0_part176 k0_part177 k0_part178 k0_part179 k0_part180
    repeat' (first
      | with_reducible exact Keeps.ret _
      | with_reducible refine Keeps.bind ?_ fun _ => ?_
      | with_reducible exact Keeps.load (by assumption)
      | with_reducible exact Keeps.store (by assumption)
      | with_reducible refine Keeps.for fun _ _ => ?_
      | with_reducible refine Keeps.ite ?_ ?_
      | with_reducible refine Keeps.dite (fun _ => ?_) fun _ => ?_)

theorem keeps_part199 {c : Dev nD} {I : sProp 𝕄} {k0_t1 v7630 v7820 v7829 v7838 v7847 v7856 v7862 v7865 v7871 v7874 v7880 v7883 v7892 v7901 v7910 v7919 v7925 v7928 v7934 v7937 v7943 v7946 v7952 v7955 v7961 v7964 v7970 v7973 v7979 v7982 v7988 v7991 v7997 v7999} (H : Lends c I arg2 arg3 arg4 arg5 arg6 arg7 arg8 arg9 arg10 arg11 arg12 arg13 arg14) :
    Keeps c I (k0_part199 (F := F) i arg2 harg2 arg3 harg3 arg4 harg4 arg5 harg5 arg6 harg6 arg7 harg7 arg8 harg8 arg9 harg9 arg10 harg10 arg11 harg11 arg12 harg12 arg13 harg13 arg14 harg14 k0_t1 v7630 v7820 v7829 v7838 v7847 v7856 v7862 v7865 v7871 v7874 v7880 v7883 v7892 v7901 v7910 v7919 v7925 v7928 v7934 v7937 v7943 v7946 v7952 v7955 v7961 v7964 v7970 v7973 v7979 v7982 v7988 v7991 v7997 v7999) := by
  obtain ⟨r2, r3, r4, r5, r6, r7, r8, r9, r10, r11, r12, r13, r14, w9, w10, w11, w12, w13, w14⟩ := id H
  delta k0_part199
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)
  all_goals
    delta k0_part181 k0_part182 k0_part183 k0_part184 k0_part185 k0_part186 k0_part187 k0_part188 k0_part189 k0_part190 k0_part191 k0_part192 k0_part193 k0_part194 k0_part195
    repeat' (first
      | with_reducible exact Keeps.ret _
      | with_reducible refine Keeps.bind ?_ fun _ => ?_
      | with_reducible exact Keeps.load (by assumption)
      | with_reducible exact Keeps.store (by assumption)
      | with_reducible refine Keeps.for fun _ _ => ?_
      | with_reducible refine Keeps.ite ?_ ?_
      | with_reducible refine Keeps.dite (fun _ => ?_) fun _ => ?_)

end Cert.Kernel.Hand

end
-- ==== Proof.KeepsIndexB.lean ====
/-
  The second indexer loop's block of the attention body keeps what lends its buffers: the same text at the other loop's trips.
-/
module

public import proofs.«01_k».proof.Proof.Keeps

@[expose] public section

set_option maxHeartbeats 2000000

noncomputable section

namespace Cert.Kernel.Hand

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] [Facts]
local notation "𝕄" => MT nD τ sig Unit (Elt F) ℕ (UR sig nD τ) ℕ

variable {i : grid0.Coords} {arg2 : Memref sig .tc .vmem S1x256x1024 .bf16} {arg3 : Memref sig .tc .vmem S1x256x1024 .bf16} {arg4 : Memref sig .tc .vmem S1x16x256 .f32} {arg5 : Memref sig .tc .vmem S1x8192x256 .bf16} {arg6 : Memref sig .tc .vmem S1x8192x256 .bf16} {arg7 : Memref sig .tc .vmem S1x8192x256 .bf16} {arg8 : Memref sig .tc .vmem S1x16x8x128 .f32} {arg9 : Memref sig .tc .vmem S1x256x1024 .bf16} {arg10 : Memref sig .tc .vmem S8192x256 .i32} {arg11 : Memref sig .tc .vmem S32x256x256 .i32} {arg12 : Memref sig .tc .vmem S2x128x1024 .f32} {arg13 : Memref sig .tc .vmem S2x1x1024 .f32} {arg14 : Memref sig .tc .vmem S2x1x1024 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole}

theorem keeps_part395 {c : Dev nD} {I : sProp 𝕄} {v95 v101 c1_i32_49 k0_t2} (H : Lends c I arg2 arg3 arg4 arg5 arg6 arg7 arg8 arg9 arg10 arg11 arg12 arg13 arg14) :
    Keeps c I (k0_part395 (F := F) i arg2 harg2 arg3 harg3 arg4 harg4 arg5 harg5 arg6 harg6 arg7 harg7 arg8 harg8 arg9 harg9 arg10 harg10 arg11 harg11 arg12 harg12 arg13 harg13 arg14 harg14 v95 v101 c1_i32_49 k0_t2) := by
  obtain ⟨r2, r3, r4, r5, r6, r7, r8, r9, r10, r11, r12, r13, r14, w9, w10, w11, w12, w13, w14⟩ := id H
  delta k0_part395
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)
  all_goals
    delta k0_part200 k0_part201 k0_part202 k0_part203 k0_part204 k0_part205 k0_part206 k0_part207 k0_part208 k0_part209 k0_part210 k0_part211 k0_part212 k0_part213 k0_part214 k0_part215 k0_part216 k0_part217 k0_part218 k0_part219 k0_part220 k0_part221 k0_part222 k0_part223 k0_part224 k0_part225 k0_part226 k0_part227 k0_part228 k0_part229 k0_part230 k0_part231 k0_part232 k0_part233 k0_part234 k0_part235 k0_part236 k0_part237 k0_part238 k0_part239 k0_part240 k0_part241 k0_part242 k0_part243 k0_part244 k0_part245 k0_part246 k0_part247 k0_part248 k0_part249 k0_part250 k0_part251 k0_part252 k0_part253 k0_part254 k0_part255 k0_part256 k0_part257 k0_part258 k0_part259
    repeat' (first
      | with_reducible exact Keeps.ret _
      | with_reducible refine Keeps.bind ?_ fun _ => ?_
      | with_reducible exact Keeps.load (by assumption)
      | with_reducible exact Keeps.store (by assumption)
      | with_reducible refine Keeps.for fun _ _ => ?_
      | with_reducible refine Keeps.ite ?_ ?_
      | with_reducible refine Keeps.dite (fun _ => ?_) fun _ => ?_)

theorem keeps_part396 {c : Dev nD} {I : sProp 𝕄} {v95 k0_t2 v285 v2385 v2719 v2725 v2728 v2734 v2737 v2743 v2746 v2755 v2761 v2764 v2770 v2773 v2779 v2782 v2788 v2791 v2797 v2800 v2806 v2809 v2815 v2818 v2824 v2827 v2833 v2836 v2842 v2845 v2851 v2854 v2860 v2863} (H : Lends c I arg2 arg3 arg4 arg5 arg6 arg7 arg8 arg9 arg10 arg11 arg12 arg13 arg14) :
    Keeps c I (k0_part396 (F := F) i arg2 harg2 arg3 harg3 arg4 harg4 arg5 harg5 arg6 harg6 arg7 harg7 arg8 harg8 arg9 harg9 arg10 harg10 arg11 harg11 arg12 harg12 arg13 harg13 arg14 harg14 v95 k0_t2 v285 v2385 v2719 v2725 v2728 v2734 v2737 v2743 v2746 v2755 v2761 v2764 v2770 v2773 v2779 v2782 v2788 v2791 v2797 v2800 v2806 v2809 v2815 v2818 v2824 v2827 v2833 v2836 v2842 v2845 v2851 v2854 v2860 v2863) := by
  obtain ⟨r2, r3, r4, r5, r6, r7, r8, r9, r10, r11, r12, r13, r14, w9, w10, w11, w12, w13, w14⟩ := id H
  delta k0_part396
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)
  all_goals
    delta k0_part260 k0_part261 k0_part262 k0_part263 k0_part264 k0_part265 k0_part266 k0_part267 k0_part268 k0_part269 k0_part270 k0_part271 k0_part272 k0_part273 k0_part274 k0_part275 k0_part276 k0_part277 k0_part278 k0_part279 k0_part280 k0_part281 k0_part282 k0_part283 k0_part284 k0_part285 k0_part286 k0_part287 k0_part288 k0_part289 k0_part290 k0_part291 k0_part292 k0_part293 k0_part294 k0_part295 k0_part296 k0_part297 k0_part298 k0_part299 k0_part300 k0_part301 k0_part302 k0_part303 k0_part304 k0_part305 k0_part306 k0_part307 k0_part308 k0_part309 k0_part310 k0_part311 k0_part312 k0_part313 k0_part314 k0_part315 k0_part316 k0_part317 k0_part318 k0_part319
    repeat' (first
      | with_reducible exact Keeps.ret _
      | with_reducible refine Keeps.bind ?_ fun _ => ?_
      | with_reducible exact Keeps.load (by assumption)
      | with_reducible exact Keeps.store (by assumption)
      | with_reducible refine Keeps.for fun _ _ => ?_
      | with_reducible refine Keeps.ite ?_ ?_
      | with_reducible refine Keeps.dite (fun _ => ?_) fun _ => ?_)

theorem keeps_part397 {c : Dev nD} {I : sProp 𝕄} {v95 k0_t2 v285 v5291 v5294 v5300 v5303 v5309 v5312 v5318 v5321 v5327 v5330 v5336 v5339 v5345 v5348 v5354 v5357 v5363 v5366 v5372 v5375 v5381 v5384 v5402} (H : Lends c I arg2 arg3 arg4 arg5 arg6 arg7 arg8 arg9 arg10 arg11 arg12 arg13 arg14) :
    Keeps c I (k0_part397 (F := F) i arg2 harg2 arg3 harg3 arg4 harg4 arg5 harg5 arg6 harg6 arg7 harg7 arg8 harg8 arg9 harg9 arg10 harg10 arg11 harg11 arg12 harg12 arg13 harg13 arg14 harg14 v95 k0_t2 v285 v5291 v5294 v5300 v5303 v5309 v5312 v5318 v5321 v5327 v5330 v5336 v5339 v5345 v5348 v5354 v5357 v5363 v5366 v5372 v5375 v5381 v5384 v5402) := by
  obtain ⟨r2, r3, r4, r5, r6, r7, r8, r9, r10, r11, r12, r13, r14, w9, w10, w11, w12, w13, w14⟩ := id H
  delta k0_part397
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)
  all_goals
    delta k0_part320 k0_part321 k0_part322 k0_part323 k0_part324 k0_part325 k0_part326 k0_part327 k0_part328 k0_part329 k0_part330 k0_part331 k0_part332 k0_part333 k0_part334 k0_part335 k0_part336 k0_part337 k0_part338 k0_part339 k0_part340 k0_part341 k0_part342 k0_part343 k0_part344 k0_part345 k0_part346 k0_part347 k0_part348 k0_part349 k0_part350 k0_part351 k0_part352 k0_part353 k0_part354 k0_part355 k0_part356 k0_part357 k0_part358 k0_part359 k0_part360 k0_part361 k0_part362 k0_part363 k0_part364 k0_part365 k0_part366 k0_part367 k0_part368 k0_part369 k0_part370 k0_part371 k0_part372 k0_part373 k0_part374 k0_part375 k0_part376 k0_part377 k0_part378 k0_part379
    repeat' (first
      | with_reducible exact Keeps.ret _
      | with_reducible refine Keeps.bind ?_ fun _ => ?_
      | with_reducible exact Keeps.load (by assumption)
      | with_reducible exact Keeps.store (by assumption)
      | with_reducible refine Keeps.for fun _ _ => ?_
      | with_reducible refine Keeps.ite ?_ ?_
      | with_reducible refine Keeps.dite (fun _ => ?_) fun _ => ?_)

theorem keeps_part398 {c : Dev nD} {I : sProp 𝕄} {k0_t2 v7630 v7820 v7829 v7838 v7847 v7856 v7862 v7865 v7871 v7874 v7880 v7883 v7892 v7901 v7910 v7919 v7925 v7928 v7934 v7937 v7943 v7946 v7952 v7955 v7961 v7964 v7970 v7973 v7979 v7982 v7988 v7991 v7997 v7999} (H : Lends c I arg2 arg3 arg4 arg5 arg6 arg7 arg8 arg9 arg10 arg11 arg12 arg13 arg14) :
    Keeps c I (k0_part398 (F := F) i arg2 harg2 arg3 harg3 arg4 harg4 arg5 harg5 arg6 harg6 arg7 harg7 arg8 harg8 arg9 harg9 arg10 harg10 arg11 harg11 arg12 harg12 arg13 harg13 arg14 harg14 k0_t2 v7630 v7820 v7829 v7838 v7847 v7856 v7862 v7865 v7871 v7874 v7880 v7883 v7892 v7901 v7910 v7919 v7925 v7928 v7934 v7937 v7943 v7946 v7952 v7955 v7961 v7964 v7970 v7973 v7979 v7982 v7988 v7991 v7997 v7999) := by
  obtain ⟨r2, r3, r4, r5, r6, r7, r8, r9, r10, r11, r12, r13, r14, w9, w10, w11, w12, w13, w14⟩ := id H
  delta k0_part398
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)
  all_goals
    delta k0_part380 k0_part381 k0_part382 k0_part383 k0_part384 k0_part385 k0_part386 k0_part387 k0_part388 k0_part389 k0_part390 k0_part391 k0_part392 k0_part393 k0_part394
    repeat' (first
      | with_reducible exact Keeps.ret _
      | with_reducible refine Keeps.bind ?_ fun _ => ?_
      | with_reducible exact Keeps.load (by assumption)
      | with_reducible exact Keeps.store (by assumption)
      | with_reducible refine Keeps.for fun _ _ => ?_
      | with_reducible refine Keeps.ite ?_ ?_
      | with_reducible refine Keeps.dite (fun _ => ?_) fun _ => ?_)

end Cert.Kernel.Hand

end
-- ==== Proof.KeepsTail.lean ====
/-
  The attention body's remaining indexer blocks and its tie-break search keep what lends its buffers.
-/
module

public import proofs.«01_k».proof.Proof.Keeps

@[expose] public section

set_option maxHeartbeats 2000000

noncomputable section

namespace Cert.Kernel.Hand

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] [Facts]
local notation "𝕄" => MT nD τ sig Unit (Elt F) ℕ (UR sig nD τ) ℕ

variable {i : grid0.Coords} {arg2 : Memref sig .tc .vmem S1x256x1024 .bf16} {arg3 : Memref sig .tc .vmem S1x256x1024 .bf16} {arg4 : Memref sig .tc .vmem S1x16x256 .f32} {arg5 : Memref sig .tc .vmem S1x8192x256 .bf16} {arg6 : Memref sig .tc .vmem S1x8192x256 .bf16} {arg7 : Memref sig .tc .vmem S1x8192x256 .bf16} {arg8 : Memref sig .tc .vmem S1x16x8x128 .f32} {arg9 : Memref sig .tc .vmem S1x256x1024 .bf16} {arg10 : Memref sig .tc .vmem S8192x256 .i32} {arg11 : Memref sig .tc .vmem S32x256x256 .i32} {arg12 : Memref sig .tc .vmem S2x128x1024 .f32} {arg13 : Memref sig .tc .vmem S2x1x1024 .f32} {arg14 : Memref sig .tc .vmem S2x1x1024 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole}

theorem keeps_part448 {c : Dev nD} {I : sProp 𝕄} {v36 v95 v96 c0_i32_51 c1_i32_53 k0_t3} (H : Lends c I arg2 arg3 arg4 arg5 arg6 arg7 arg8 arg9 arg10 arg11 arg12 arg13 arg14) :
    Keeps c I (k0_part448 (F := F) i arg2 harg2 arg3 harg3 arg4 harg4 arg5 harg5 arg6 harg6 arg7 harg7 arg8 harg8 arg9 harg9 arg10 harg10 arg11 harg11 arg12 harg12 arg13 harg13 arg14 harg14 v36 v95 v96 c0_i32_51 c1_i32_53 k0_t3) := by
  obtain ⟨r2, r3, r4, r5, r6, r7, r8, r9, r10, r11, r12, r13, r14, w9, w10, w11, w12, w13, w14⟩ := id H
  delta k0_part448
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)
  all_goals
    delta k0_part399 k0_part400 k0_part401 k0_part402 k0_part403 k0_part404 k0_part405 k0_part406 k0_part407 k0_part408 k0_part409 k0_part410 k0_part411 k0_part412 k0_part413 k0_part414 k0_part415 k0_part416 k0_part417 k0_part418 k0_part419 k0_part420 k0_part421 k0_part422 k0_part423 k0_part424 k0_part425 k0_part426 k0_part427 k0_part428 k0_part429 k0_part430 k0_part431 k0_part432 k0_part433 k0_part434 k0_part435 k0_part436 k0_part437 k0_part438 k0_part439 k0_part440 k0_part441 k0_part442 k0_part443 k0_part444 k0_part445 k0_part446 k0_part447
    repeat' (first
      | with_reducible exact Keeps.ret _
      | with_reducible refine Keeps.bind ?_ fun _ => ?_
      | with_reducible exact Keeps.load (by assumption)
      | with_reducible exact Keeps.store (by assumption)
      | with_reducible refine Keeps.for fun _ _ => ?_
      | with_reducible refine Keeps.ite ?_ ?_
      | with_reducible refine Keeps.dite (fun _ => ?_) fun _ => ?_)

theorem keeps_part498 {c : Dev nD} {I : sProp 𝕄} {v36 v95 v96 v106 c1_i32_54 k0_t4} (H : Lends c I arg2 arg3 arg4 arg5 arg6 arg7 arg8 arg9 arg10 arg11 arg12 arg13 arg14) :
    Keeps c I (k0_part498 (F := F) i arg2 harg2 arg3 harg3 arg4 harg4 arg5 harg5 arg6 harg6 arg7 harg7 arg8 harg8 arg9 harg9 arg10 harg10 arg11 harg11 arg12 harg12 arg13 harg13 arg14 harg14 v36 v95 v96 v106 c1_i32_54 k0_t4) := by
  obtain ⟨r2, r3, r4, r5, r6, r7, r8, r9, r10, r11, r12, r13, r14, w9, w10, w11, w12, w13, w14⟩ := id H
  delta k0_part498
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)
  all_goals
    delta k0_part449 k0_part450 k0_part451 k0_part452 k0_part453 k0_part454 k0_part455 k0_part456 k0_part457 k0_part458 k0_part459 k0_part460 k0_part461 k0_part462 k0_part463 k0_part464 k0_part465 k0_part466 k0_part467 k0_part468 k0_part469 k0_part470 k0_part471 k0_part472 k0_part473 k0_part474 k0_part475 k0_part476 k0_part477 k0_part478 k0_part479 k0_part480 k0_part481 k0_part482 k0_part483 k0_part484 k0_part485 k0_part486 k0_part487 k0_part488 k0_part489 k0_part490 k0_part491 k0_part492 k0_part493 k0_part494 k0_part495 k0_part496 k0_part497
    repeat' (first
      | with_reducible exact Keeps.ret _
      | with_reducible refine Keeps.bind ?_ fun _ => ?_
      | with_reducible exact Keeps.load (by assumption)
      | with_reducible exact Keeps.store (by assumption)
      | with_reducible refine Keeps.for fun _ _ => ?_
      | with_reducible refine Keeps.ite ?_ ?_
      | with_reducible refine Keeps.dite (fun _ => ?_) fun _ => ?_)

theorem keeps_part499 {c : Dev nD} {I : sProp 𝕄} {v54 v75 v151} (H : Lends c I arg2 arg3 arg4 arg5 arg6 arg7 arg8 arg9 arg10 arg11 arg12 arg13 arg14) :
    Keeps c I (k0_part499 (F := F) i arg2 harg2 arg3 harg3 arg4 harg4 arg5 harg5 arg6 harg6 arg7 harg7 arg8 harg8 arg9 harg9 arg10 harg10 arg11 harg11 arg12 harg12 arg13 harg13 arg14 harg14 v54 v75 v151) := by
  obtain ⟨r2, r3, r4, r5, r6, r7, r8, r9, r10, r11, r12, r13, r14, w9, w10, w11, w12, w13, w14⟩ := id H
  delta k0_part499
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)

end Cert.Kernel.Hand

end
-- ==== Proof.KeepsBody.lean ====
/-
  The attention body keeps what lends its buffers: the indexer, the search of the selected class, the tie-break and the attention.
-/
module

public import proofs.«01_k».proof.Proof.KeepsIndex
public import proofs.«01_k».proof.Proof.KeepsIndexB
public import proofs.«01_k».proof.Proof.KeepsTail

@[expose] public section

set_option maxHeartbeats 2000000

noncomputable section

namespace Cert.Kernel.Hand

open Cert.Kernel
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F] [Facts]
local notation "𝕄" => MT nD τ sig Unit (Elt F) ℕ (UR sig nD τ) ℕ

variable {i : grid0.Coords} {arg2 : Memref sig .tc .vmem S1x256x1024 .bf16} {arg3 : Memref sig .tc .vmem S1x256x1024 .bf16} {arg4 : Memref sig .tc .vmem S1x16x256 .f32} {arg5 : Memref sig .tc .vmem S1x8192x256 .bf16} {arg6 : Memref sig .tc .vmem S1x8192x256 .bf16} {arg7 : Memref sig .tc .vmem S1x8192x256 .bf16} {arg8 : Memref sig .tc .vmem S1x16x8x128 .f32} {arg9 : Memref sig .tc .vmem S1x256x1024 .bf16} {arg10 : Memref sig .tc .vmem S8192x256 .i32} {arg11 : Memref sig .tc .vmem S32x256x256 .i32} {arg12 : Memref sig .tc .vmem S2x128x1024 .f32} {arg13 : Memref sig .tc .vmem S2x1x1024 .f32} {arg14 : Memref sig .tc .vmem S2x1x1024 .f32}
  {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole}

theorem keeps_part520 {c : Dev nD} {I : sProp 𝕄} (H : Lends c I arg2 arg3 arg4 arg5 arg6 arg7 arg8 arg9 arg10 arg11 arg12 arg13 arg14) :
    Keeps c I (k0_part520 (F := F) i arg2 harg2 arg3 harg3 arg4 harg4 arg5 harg5 arg6 harg6 arg7 harg7 arg8 harg8 arg9 harg9 arg10 harg10 arg11 harg11 arg12 harg12 arg13 harg13 arg14 harg14) := by
  obtain ⟨r2, r3, r4, r5, r6, r7, r8, r9, r10, r11, r12, r13, r14, w9, w10, w11, w12, w13, w14⟩ := id H
  delta k0_part520
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)

theorem keeps_part521 {c : Dev nD} {I : sProp 𝕄} {v4 v37 c2048_i32 v38 v39} (H : Lends c I arg2 arg3 arg4 arg5 arg6 arg7 arg8 arg9 arg10 arg11 arg12 arg13 arg14) :
    Keeps c I (k0_part521 (F := F) i arg2 harg2 arg3 harg3 arg4 harg4 arg5 harg5 arg6 harg6 arg7 harg7 arg8 harg8 arg9 harg9 arg10 harg10 arg11 harg11 arg12 harg12 arg13 harg13 arg14 harg14 v4 v37 c2048_i32 v38 v39) := by
  obtain ⟨r2, r3, r4, r5, r6, r7, r8, r9, r10, r11, r12, r13, r14, w9, w10, w11, w12, w13, w14⟩ := id H
  delta k0_part521
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)

theorem keeps_part522 {c : Dev nD} {I : sProp 𝕄} {v54 v75 v79} (H : Lends c I arg2 arg3 arg4 arg5 arg6 arg7 arg8 arg9 arg10 arg11 arg12 arg13 arg14) :
    Keeps c I (k0_part522 (F := F) i arg2 harg2 arg3 harg3 arg4 harg4 arg5 harg5 arg6 harg6 arg7 harg7 arg8 harg8 arg9 harg9 arg10 harg10 arg11 harg11 arg12 harg12 arg13 harg13 arg14 harg14 v54 v75 v79) := by
  obtain ⟨r2, r3, r4, r5, r6, r7, r8, r9, r10, r11, r12, r13, r14, w9, w10, w11, w12, w13, w14⟩ := id H
  delta k0_part522
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_
    | with_reducible exact keeps_part196 H
    | with_reducible exact keeps_part197 H
    | with_reducible exact keeps_part198 H
    | with_reducible exact keeps_part199 H
    | with_reducible exact keeps_part395 H
    | with_reducible exact keeps_part396 H
    | with_reducible exact keeps_part397 H
    | with_reducible exact keeps_part398 H)

theorem keeps_part523 {c : Dev nD} {I : sProp 𝕄} {v36 v78 v95 v96 c0_i32_51 v106 c1_i32_53} (H : Lends c I arg2 arg3 arg4 arg5 arg6 arg7 arg8 arg9 arg10 arg11 arg12 arg13 arg14) :
    Keeps c I (k0_part523 (F := F) i arg2 harg2 arg3 harg3 arg4 harg4 arg5 harg5 arg6 harg6 arg7 harg7 arg8 harg8 arg9 harg9 arg10 harg10 arg11 harg11 arg12 harg12 arg13 harg13 arg14 harg14 v36 v78 v95 v96 c0_i32_51 v106 c1_i32_53) := by
  obtain ⟨r2, r3, r4, r5, r6, r7, r8, r9, r10, r11, r12, r13, r14, w9, w10, w11, w12, w13, w14⟩ := id H
  delta k0_part523
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_
    | with_reducible exact keeps_part448 H
    | with_reducible exact keeps_part498 H)

theorem keeps_part524 {c : Dev nD} {I : sProp 𝕄} {v54 v75 v78 c7_i32 v144} (H : Lends c I arg2 arg3 arg4 arg5 arg6 arg7 arg8 arg9 arg10 arg11 arg12 arg13 arg14) :
    Keeps c I (k0_part524 (F := F) i arg2 harg2 arg3 harg3 arg4 harg4 arg5 harg5 arg6 harg6 arg7 harg7 arg8 harg8 arg9 harg9 arg10 harg10 arg11 harg11 arg12 harg12 arg13 harg13 arg14 harg14 v54 v75 v78 c7_i32 v144) := by
  obtain ⟨r2, r3, r4, r5, r6, r7, r8, r9, r10, r11, r12, r13, r14, w9, w10, w11, w12, w13, w14⟩ := id H
  delta k0_part524
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)
  all_goals
    delta k0_part499
    repeat' (first
      | with_reducible exact Keeps.ret _
      | with_reducible refine Keeps.bind ?_ fun _ => ?_
      | with_reducible exact Keeps.load (by assumption)
      | with_reducible exact Keeps.store (by assumption)
      | with_reducible refine Keeps.for fun _ _ => ?_
      | with_reducible refine Keeps.ite ?_ ?_
      | with_reducible refine Keeps.dite (fun _ => ?_) fun _ => ?_)

theorem keeps_part525 {c : Dev nD} {I : sProp 𝕄} {v172 v174 v176} (H : Lends c I arg2 arg3 arg4 arg5 arg6 arg7 arg8 arg9 arg10 arg11 arg12 arg13 arg14) :
    Keeps c I (k0_part525 (F := F) i arg2 harg2 arg3 harg3 arg4 harg4 arg5 harg5 arg6 harg6 arg7 harg7 arg8 harg8 arg9 harg9 arg10 harg10 arg11 harg11 arg12 harg12 arg13 harg13 arg14 harg14 v172 v174 v176) := by
  obtain ⟨r2, r3, r4, r5, r6, r7, r8, r9, r10, r11, r12, r13, r14, w9, w10, w11, w12, w13, w14⟩ := id H
  delta k0_part525
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)

theorem keeps_part526 {c : Dev nD} {I : sProp 𝕄} {v54 v75 v151 v172 v181 v204 v211} (H : Lends c I arg2 arg3 arg4 arg5 arg6 arg7 arg8 arg9 arg10 arg11 arg12 arg13 arg14) :
    Keeps c I (k0_part526 (F := F) i arg2 harg2 arg3 harg3 arg4 harg4 arg5 harg5 arg6 harg6 arg7 harg7 arg8 harg8 arg9 harg9 arg10 harg10 arg11 harg11 arg12 harg12 arg13 harg13 arg14 harg14 v54 v75 v151 v172 v181 v204 v211) := by
  obtain ⟨r2, r3, r4, r5, r6, r7, r8, r9, r10, r11, r12, r13, r14, w9, w10, w11, w12, w13, w14⟩ := id H
  delta k0_part526
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)
  all_goals
    delta k0_part500 k0_part501 k0_part502 k0_part503 k0_part504 k0_part505 k0_part506 k0_part507 k0_part508 k0_part509 k0_part510 k0_part511 k0_part512 k0_part513 k0_part514 k0_part515 k0_part516 k0_part517 k0_part518 k0_part519
    repeat' (first
      | with_reducible exact Keeps.ret _
      | with_reducible refine Keeps.bind ?_ fun _ => ?_
      | with_reducible exact Keeps.load (by assumption)
      | with_reducible exact Keeps.store (by assumption)
      | with_reducible refine Keeps.for fun _ _ => ?_
      | with_reducible refine Keeps.ite ?_ ?_
      | with_reducible refine Keeps.dite (fun _ => ?_) fun _ => ?_)

theorem keeps_part527 {c : Dev nD} {I : sProp 𝕄} {v228} (H : Lends c I arg2 arg3 arg4 arg5 arg6 arg7 arg8 arg9 arg10 arg11 arg12 arg13 arg14) :
    Keeps c I (k0_part527 (F := F) i arg2 harg2 arg3 harg3 arg4 harg4 arg5 harg5 arg6 harg6 arg7 harg7 arg8 harg8 arg9 harg9 arg10 harg10 arg11 harg11 arg12 harg12 arg13 harg13 arg14 harg14 v228) := by
  obtain ⟨r2, r3, r4, r5, r6, r7, r8, r9, r10, r11, r12, r13, r14, w9, w10, w11, w12, w13, w14⟩ := id H
  delta k0_part527
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_)

theorem keeps_cc0_attn {c : Dev nD} {I : sProp 𝕄} (H : Lends c I arg2 arg3 arg4 arg5 arg6 arg7 arg8 arg9 arg10 arg11 arg12 arg13 arg14) :
    Keeps c I (cc0_attn (F := F) i arg2 harg2 arg3 harg3 arg4 harg4 arg5 harg5 arg6 harg6 arg7 harg7 arg8 harg8 arg9 harg9 arg10 harg10 arg11 harg11 arg12 harg12 arg13 harg13 arg14 harg14) := by
  obtain ⟨r2, r3, r4, r5, r6, r7, r8, r9, r10, r11, r12, r13, r14, w9, w10, w11, w12, w13, w14⟩ := id H
  delta cc0_attn
  repeat' (first
    | with_reducible exact Keeps.ret _
    | with_reducible refine Keeps.bind ?_ fun _ => ?_
    | with_reducible exact Keeps.load (by assumption)
    | with_reducible exact Keeps.store (by assumption)
    | with_reducible refine Keeps.for fun _ _ => ?_
    | with_reducible refine Keeps.ite ?_ ?_
    | with_reducible refine Keeps.dite (fun _ => ?_) fun _ => ?_
    | with_reducible exact keeps_part520 H
    | with_reducible exact keeps_part521 H
    | with_reducible exact keeps_part522 H
    | with_reducible exact keeps_part523 H
    | with_reducible exact keeps_part524 H
    | with_reducible exact keeps_part525 H
    | with_reducible exact keeps_part526 H
    | with_reducible exact keeps_part527 H)

end Cert.Kernel.Hand

end
-- ==== Proof.AttnFrame.lean ====
/-
  THE FRAME OF THE ATTENTION CALL. At one grid point the body is run from the assertion `Held`: the seven staged inputs at
  contents fixed for the point, the result's staging buffer and the five scratch buffers at some contents. The body's text keeps it
  (`keeps_cc0_attn`), whatever it reads. The pipeline's run is then the library's, with the result's window forgotten.
-/
module

public import proofs.«01_k».proof.Proof.Gen.Kernel.Frame
public import proofs.«01_k».proof.Proof.Gen.Kernel
public import proofs.«01_k».proof.Proof.KeepsBody

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## Lending out of a separating conjunction -/

theorem Reads.left {c : Dev nD} {A B : sProp 𝕄} {sp : Space} {s : Shape} {e : EltTy} {M : Memref sig .tc sp s e} (h : Reads (F := F) c A M) :
    Reads (F := F) c iprop(A ∗ B) M := by
  unfold Reads at h ⊢
  iintro ⟨HA, HB⟩
  ihave H := h $$ HA
  icases H with ⟨%f, H, Hk⟩
  iexists f
  isplitl [H]; · iexact H
  iintro H
  isplitl [Hk H]
  · iapply Hk; iexact H
  · iexact HB

theorem Reads.right {c : Dev nD} {A B : sProp 𝕄} {sp : Space} {s : Shape} {e : EltTy} {M : Memref sig .tc sp s e} (h : Reads (F := F) c B M) :
    Reads (F := F) c iprop(A ∗ B) M := by
  unfold Reads at h ⊢
  iintro ⟨HA, HB⟩
  ihave H := h $$ HB
  icases H with ⟨%f, H, Hk⟩
  iexists f
  isplitl [H]; · iexact H
  iintro H
  isplitl [HA]
  · iexact HA
  · iapply Hk; iexact H

theorem Writes.left {c : Dev nD} {A B : sProp 𝕄} {sp : Space} {s : Shape} {e : EltTy} {M : Memref sig .tc sp s e} (h : Writes (F := F) c A M) :
    Writes (F := F) c iprop(A ∗ B) M := by
  unfold Writes at h ⊢
  iintro ⟨HA, HB⟩
  ihave H := h $$ HA
  icases H with ⟨%f, H, Hk⟩
  iexists f
  isplitl [H]; · iexact H
  iintro %f' H
  isplitl [Hk H]
  · iapply Hk; iexact H
  · iexact HB

theorem Writes.right {c : Dev nD} {A B : sProp 𝕄} {sp : Space} {s : Shape} {e : EltTy} {M : Memref sig .tc sp s e} (h : Writes (F := F) c B M) :
    Writes (F := F) c iprop(A ∗ B) M := by
  unfold Writes at h ⊢
  iintro ⟨HA, HB⟩
  ihave H := h $$ HB
  icases H with ⟨%f, H, Hk⟩
  iexists f
  isplitl [H]; · iexact H
  iintro %f' H
  isplitl [HA]
  · iexact HA
  · iapply Hk; iexact H

/-- A buffer held whole at fixed contents. -/
def At (c : Dev nD) {sp : Space} {s : Shape} {e : EltTy} (M : Memref sig .tc sp s e) (f : Buf (Elt F) (M.view.loc (c : Thread nD τ))) : sProp 𝕄 :=
  iprop(M.view.loc (c : Thread nD τ) ↦[M.view.set]{fullShare} f)

/-- A buffer held whole at some contents. -/
def Some' (c : Dev nD) {sp : Space} {s : Shape} {e : EltTy} (M : Memref sig .tc sp s e) : sProp 𝕄 :=
  iprop(∃ f, (M.view.loc (c : Thread nD τ) ↦[M.view.set]{fullShare} f))

theorem reads_at (c : Dev nD) {sp : Space} {s : Shape} {e : EltTy} (M : Memref sig .tc sp s e) (f : Buf (Elt F) (M.view.loc (c : Thread nD τ))) :
    Reads (F := F) c (At c M f) M := by
  unfold Reads At
  iintro H; iexists f
  isplitl [H]; · iexact H
  iintro H; iexact H

theorem writes_some (c : Dev nD) {sp : Space} {s : Shape} {e : EltTy} (M : Memref sig .tc sp s e) : Writes (F := F) c (Some' c M) M := by
  unfold Writes Some'
  iintro ⟨%f, H⟩; iexists f
  isplitl [H]; · iexact H
  iintro %f' H; iexists f'; iexact H

/-! ## The assertion one grid point keeps -/

section Body

variable (c : Dev nD) (arg2 : Memref sig .tc .vmem S1x256x1024 .bf16) (arg3 : Memref sig .tc .vmem S1x256x1024 .bf16) (arg4 : Memref sig .tc .vmem S1x16x256 .f32) (arg5 : Memref sig .tc .vmem S1x8192x256 .bf16) (arg6 : Memref sig .tc .vmem S1x8192x256 .bf16) (arg7 : Memref sig .tc .vmem S1x8192x256 .bf16) (arg8 : Memref sig .tc .vmem S1x16x8x128 .f32) (arg9 : Memref sig .tc .vmem S1x256x1024 .bf16) (arg10 : Memref sig .tc .vmem S8192x256 .i32) (arg11 : Memref sig .tc .vmem S32x256x256 .i32) (arg12 : Memref sig .tc .vmem S2x128x1024 .f32) (arg13 : Memref sig .tc .vmem S2x1x1024 .f32) (arg14 : Memref sig .tc .vmem S2x1x1024 .f32)
  (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ)))

/-- The inputs at fixed contents, the result's buffer and the scratch at some. -/
def Held : sProp 𝕄 :=
  iprop(At c arg2 f2 ∗ At c arg3 f3 ∗ At c arg4 f4 ∗ At c arg5 f5 ∗ At c arg6 f6 ∗ At c arg7 f7 ∗ At c arg8 f8
    ∗ Some' c arg9 ∗ Some' c arg10 ∗ Some' c arg11 ∗ Some' c arg12 ∗ Some' c arg13 ∗ Some' c arg14)

theorem lends_held : Lends (F := F) c (Held c arg2 arg3 arg4 arg5 arg6 arg7 arg8 arg9 arg10 arg11 arg12 arg13 arg14 f2 f3 f4 f5 f6 f7 f8)
    arg2 arg3 arg4 arg5 arg6 arg7 arg8 arg9 arg10 arg11 arg12 arg13 arg14 := by
  have w9 : Writes (F := F) c (Held c arg2 arg3 arg4 arg5 arg6 arg7 arg8 arg9 arg10 arg11 arg12 arg13 arg14 f2 f3 f4 f5 f6 f7 f8) arg9 :=
    .right <| .right <| .right <| .right <| .right <| .right <| .right <| .left <| writes_some c arg9
  have w10 : Writes (F := F) c (Held c arg2 arg3 arg4 arg5 arg6 arg7 arg8 arg9 arg10 arg11 arg12 arg13 arg14 f2 f3 f4 f5 f6 f7 f8) arg10 :=
    .right <| .right <| .right <| .right <| .right <| .right <| .right <| .right <| .left <| writes_some c arg10
  have w11 : Writes (F := F) c (Held c arg2 arg3 arg4 arg5 arg6 arg7 arg8 arg9 arg10 arg11 arg12 arg13 arg14 f2 f3 f4 f5 f6 f7 f8) arg11 :=
    .right <| .right <| .right <| .right <| .right <| .right <| .right <| .right <| .right <| .left <| writes_some c arg11
  have w12 : Writes (F := F) c (Held c arg2 arg3 arg4 arg5 arg6 arg7 arg8 arg9 arg10 arg11 arg12 arg13 arg14 f2 f3 f4 f5 f6 f7 f8) arg12 :=
    .right <| .right <| .right <| .right <| .right <| .right <| .right <| .right <| .right <| .right <| .left <| writes_some c arg12
  have w13 : Writes (F := F) c (Held c arg2 arg3 arg4 arg5 arg6 arg7 arg8 arg9 arg10 arg11 arg12 arg13 arg14 f2 f3 f4 f5 f6 f7 f8) arg13 :=
    .right <| .right <| .right <| .right <| .right <| .right <| .right <| .right <| .right <| .right <| .right <| .left <| writes_some c arg13
  have w14 : Writes (F := F) c (Held c arg2 arg3 arg4 arg5 arg6 arg7 arg8 arg9 arg10 arg11 arg12 arg13 arg14 f2 f3 f4 f5 f6 f7 f8) arg14 :=
    .right <| .right <| .right <| .right <| .right <| .right <| .right <| .right <| .right <| .right <| .right <| .right <| writes_some c arg14
  exact
    { r2 := .left <| reads_at c arg2 f2
      r3 := .right <| .left <| reads_at c arg3 f3
      r4 := .right <| .right <| .left <| reads_at c arg4 f4
      r5 := .right <| .right <| .right <| .left <| reads_at c arg5 f5
      r6 := .right <| .right <| .right <| .right <| .left <| reads_at c arg6 f6
      r7 := .right <| .right <| .right <| .right <| .right <| .left <| reads_at c arg7 f7
      r8 := .right <| .right <| .right <| .right <| .right <| .right <| .left <| reads_at c arg8 f8
      r9 := w9.reads, r10 := w10.reads, r11 := w11.reads, r12 := w12.reads, r13 := w13.reads, r14 := w14.reads
      w9 := w9, w10 := w10, w11 := w11, w12 := w12, w13 := w13, w14 := w14 }

end Body

/-! ## The pipeline's proof data: the result's window forgotten -/

variable (m : (ℓ : Loc nD τ sig) → Buf (Elt F) ℓ) (ρ : Dev nD → PrngReg)

/-- The one window whose contents nothing is said of: the result's. -/
def forgets : Fin cfg0.W → Bool := fun w => decide (w.val = 7)

/-- Each input's staging buffer is left with its block in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Dat.unnamed (cfg := cfg0) ⟨7, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ X, owns (c : Thread nD τ) (st0_7 t) fullShare X))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, owns (c : Thread nD τ) (st0_7 t) fullShare X))

/-- A scratch buffer held whole, as the region's rest states it, is `Some'` of its memref. -/
theorem some_whole (c : Dev nD) (b : Ref sig .tc) :
    (Some' (F := F) c (Memref.whole b) : sProp 𝕄) = iprop(∃ f : Buf (Elt F) ((c : Thread nD τ).loc b), ((c : Thread nD τ).loc b) ↦{fullShare} f) := by
  unfold Some'
  simp only [Memref.view_whole, View.set_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl]
  unfold Pipeline.ΦA
  rw [scopedRest0_eq]
  simp only [← some_whole (F := F)]
  unfold Dat.owesAt Pipeline.owesWithin
  rw [show (dats m 0 c).owed t.castSucc = 0 from rfl, show (dats m 0 c).owed t.succ = 0 from rfl]
  simp only [before0_0_of m (dats m 0 c) (A_eq m c 0) (after0_0 m c), before0_1_of m (dats m 0 c) (A_eq m c 1) (after0_1 m c),
    before0_2_of m (dats m 0 c) (A_eq m c 2) (after0_2 m c), before0_3_of m (dats m 0 c) (A_eq m c 3) (after0_3 m c),
    before0_4_of m (dats m 0 c) (A_eq m c 4) (after0_4 m c), before0_5_of m (dats m 0 c) (A_eq m c 5) (after0_5 m c),
    before0_6_of m (dats m 0 c) (A_eq m c 6) (after0_6 m c), after0_0, after0_1, after0_2, after0_3, after0_4, after0_5, after0_6]
  unfold owns
  iintro ⟨⟨⟨HS0, HS1, HS2, HS3, HS4⟩, Hg⟩, ⟨%W, -, HW⟩, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%X7, %f7, %e7, H7⟩⟩
  have hk := keeps_cc0_attn (F := F) (c := c) (i := grid0.coords t)
    (harg2 := hstage0_0 ((cfg0.slots t 0).cast nbuf0_0))
    (harg3 := hstage0_1 ((cfg0.slots t 1).cast nbuf0_1))
    (harg4 := hstage0_2 ((cfg0.slots t 2).cast nbuf0_2))
    (harg5 := hstage0_3 ((cfg0.slots t 3).cast nbuf0_3))
    (harg6 := hstage0_4 ((cfg0.slots t 4).cast nbuf0_4))
    (harg7 := hstage0_5 ((cfg0.slots t 5).cast nbuf0_5))
    (harg8 := hstage0_6 ((cfg0.slots t 6).cast nbuf0_6))
    (harg9 := hstage0_7 ((cfg0.slots t 7).cast nbuf0_7))
    (harg10 := Memref.isWhole_whole cc0_scratch0)
    (harg11 := Memref.isWhole_whole cc0_scratch1)
    (harg12 := Memref.isWhole_whole cc0_scratch2)
    (harg13 := Memref.isWhole_whole cc0_scratch3)
    (harg14 := Memref.isWhole_whole cc0_scratch4)
    (lends_held c _ _ _ _ _ _ _ _ _ _ _ _ _ f0 f1 f2 f3 f4 f5 f6)
  unfold Keeps at hk
  iapply (wp_wand_r frame (wpE (defs₀ (F := F)) Variants.none (c : Thread nD τ) none) Set.univ)
  isplitl [H0 H1 H2 H3 H4 H5 H6 H7 HS0 HS1 HS2 HS3 HS4]
  · iapply hk
    unfold Held At
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold Some'; iexists f7; iexact H7
    isplitl [HS0]; · iexact HS0
    isplitl [HS1]; · iexact HS1
    isplitl [HS2]; · iexact HS2
    isplitl [HS3]; · iexact HS3
    iexact HS4
  iintro %u
  unfold Held At
  iintro ⟨H0, H1, H2, H3, H4, H5, H6, H7, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [HW]
  · iexists W; isplitr; · ipureintro; exact fun _ _ => Or.inl trivial
    iexact HW
  isplitl [H0]; · iexists f0; isplitr; · (ipureintro; exact e0)
                  iexact H0
  isplitl [H1]; · iexists f1; isplitr; · (ipureintro; exact e1)
                  iexact H1
  isplitl [H2]; · iexists f2; isplitr; · (ipureintro; exact e2)
                  iexact H2
  isplitl [H3]; · iexists f3; isplitr; · (ipureintro; exact e3)
                  iexact H3
  isplitl [H4]; · iexists f4; isplitr; · (ipureintro; exact e4)
                  iexact H4
  isplitl [H5]; · iexists f5; isplitr; · (ipureintro; exact e5)
                  iexact H5
  isplitl [H6]; · iexists f6; isplitr; · (ipureintro; exact e6)
                  iexact H6
  unfold Some'
  icases H7 with ⟨%g7, H7⟩
  iexists _; iexists g7; isplitr; · ipureintro; rfl
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
theorem run_main : θ_run defs (onTc (τ := τ) (main (F := F))) (s₀ m ρ)
    (fun r => Pipeline.RDat.FramePost cfg0 (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

variable {m} in
theorem kept {r : PUnit × MemSt nD τ sig (Elt F)}
    (h : Pipeline.RDat.FramePost cfg0 (fun c => (dats (F := F) m 0 c).toRForget forgets) (V m) r) (c : Dev nD) (w : Fin cfg0.W)
    (hw : (cfg0.win w).isOut = false) :
    r.2.mem ((cfg0.spec w).arr.view.loc (c.tc : Thread nD τ)) = V m c (Pipeline.arrRef spec0 w) :=
  (Pipeline.RDat.FramePost.arr_in h c w hw).trans (A_eq m c w)

/-- THE FRAME: the arguments end as launched and every counter reads zero. -/
theorem frame_attn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨kept h.1 c 0 rfl, kept h.1 c 1 rfl, kept h.1 c 2 rfl, kept h.1 c 3 rfl,
    kept h.1 c 4 rfl, kept h.1 c 5 rfl, kept h.1 c 6 rfl⟩, h.2⟩) (run_main m ρ)

end Cert.Kernel.Hand

end
-- ==== Proof.ProjRow.lean ====
/- The input projection at one row, free of any program: a row scaled by the inverse root of its mean square and by the
   gain (`normed`), and its product with one column (`proj`). -/
module

public import Idealize.ShloMosaic.Lib.Pointwise

@[expose] public section

noncomputable section

namespace Cert.Proj

open Idealize.ShloMosaic
open scoped BigOperators

/-- Entry `d` of the row `f` over the root of its mean square plus `10⁻⁶`, times the gain. -/
def normed (f g : Fin 2048 → EReal) (d : Fin 2048) : EReal :=
  f d * Ideal.rsqrt (Ideal.div (∑ e : Fin 2048, f e * f e) (Ideal.ofBits .f32 0x45000000#32) + Ideal.ofBits .f32 0x358637BD#32) * g d

/-- The normed row's product with a column. -/
def proj (f g w : Fin 2048 → EReal) : EReal := ∑ d : Fin 2048, normed f g d * w d

theorem idx_eq {R C : ℕ} (x : (⟨2, ![R, C]⟩ : Shape).Idx) (i : Fin R) (j : Fin C) (h0 : (x 0).val = i.val) (h1 : (x 1).val = j.val) :
    x = ix2 i j := by
  funext a
  apply Fin.ext
  match a with
  | ⟨0, _⟩ => exact h0
  | ⟨1, _⟩ => exact h1

end Cert.Proj

end
-- ==== Proof.ProjPack.lean ====
module

public import proofs.«01_k».proof.Proof.Gen.Kernel4Ideal
public import Idealize.ShloMosaic.Lib.Pointwise

@[expose] public section

set_option maxRecDepth 16384

/-! # The projection's columns, regrouped

The kernel multiplies by a matrix whose columns are the weights' segments in another order, three of them padded
with zeros to a whole lane group. -/

noncomputable section

namespace Cert.Proj

open Cert.Kernel4Ideal Cert.Kernel4Ideal.Gen Idealize.ShloMosaic

/-- The weights with a leading axis of extent one. -/
def lifted (w : Vec Ideal S2048x4704 .f32) : Vec Ideal S1x2048x4704 .f32 :=
  broadcastInDim S1x2048x4704 ![1, 2] bcast_S2048x4704_S1x2048x4704_1_2 w

/-- The regrouped weights. -/
def packed (w : Vec Ideal S2048x4704 .f32) : Vec Ideal S2048x4992 .bf16 :=
  shapeCast S2048x4992 (truncf .bf16 (concatenate S1x2048x4992 2
    [⟨S1x2048x1024, extractStridedSlice S1x2048x1024 ![0, 0, 0] (lifted w) slices_S1x2048x4704_S1x2048x1024_0_0_0⟩,
     ⟨S1x2048x1024, extractStridedSlice S1x2048x1024 ![0, 0, 1536] (lifted w) slices_S1x2048x4704_S1x2048x1024_0_0_1536⟩,
     ⟨S1x2048x512, extractStridedSlice S1x2048x512 ![0, 0, 3152] (lifted w) slices_S1x2048x4704_S1x2048x512_0_0_3152⟩,
     ⟨S1x2048x512, extractStridedSlice S1x2048x512 ![0, 0, 3680] (lifted w) slices_S1x2048x4704_S1x2048x512_0_0_3680⟩,
     ⟨S1x2048x512, extractStridedSlice S1x2048x512 ![0, 0, 4192] (lifted w) slices_S1x2048x4704_S1x2048x512_0_0_4192⟩,
     ⟨S1x2048x256, extractStridedSlice S1x2048x256 ![0, 0, 1024] (lifted w) slices_S1x2048x4704_S1x2048x256_0_0_1024⟩,
     ⟨S1x2048x256, extractStridedSlice S1x2048x256 ![0, 0, 1280] (lifted w) slices_S1x2048x4704_S1x2048x256_0_0_1280⟩,
     ⟨S1x2048x256, extractStridedSlice S1x2048x256 ![0, 0, 2640] (lifted w) slices_S1x2048x4704_S1x2048x256_0_0_2640⟩,
     ⟨S1x2048x256, extractStridedSlice S1x2048x256 ![0, 0, 2896] (lifted w) slices_S1x2048x4704_S1x2048x256_0_0_2896⟩,
     ⟨S1x2048x128, pad S1x2048x128 ![0, 0, 0] ![0, 0, 64] ![0, 0, 0] (extractStridedSlice S1x2048x64 ![0, 0, 2560] (lifted w) slices_S1x2048x4704_S1x2048x64_0_0_2560) (sitofp .f32 (constantI S_ 32 0#32)) pads_S1x2048x64_S1x2048x128_000_000_0640 h_S_⟩,
     ⟨S1x2048x128, pad S1x2048x128 ![0, 0, 0] ![0, 0, 112] ![0, 0, 0] (extractStridedSlice S1x2048x16 ![0, 0, 2624] (lifted w) slices_S1x2048x4704_S1x2048x16_0_0_2624) (sitofp .f32 (constantI S_ 32 0#32)) pads_S1x2048x16_S1x2048x128_000_000_01120 h_S_⟩,
     ⟨S1x2048x128, pad S1x2048x128 ![0, 0, 0] ![0, 0, 112] ![0, 0, 0] (extractStridedSlice S1x2048x16 ![0, 0, 3664] (lifted w) slices_S1x2048x4704_S1x2048x16_0_0_3664) (sitofp .f32 (constantI S_ 32 0#32)) pads_S1x2048x16_S1x2048x128_000_000_01120 h_S_⟩]
    concatenates_S1x2048x1024_S1x2048x1024_S1x2048x512_S1x2048x512_S1x2048x512_S1x2048x256_S1x2048x256_S1x2048x256_S1x2048x256_S1x2048x128_S1x2048x128_S1x2048x128_S1x2048x4992_d2 : FVec Ideal S1x2048x4992 .f32) bitsLt_bf16_f32) shapeCasts_S1x2048x4992_S2048x4992

/-- Packed column `k` holds column `j` of the weights. -/
def Placed (k j : ℕ) : Prop :=
  (k < 1024 ∧ j = k) ∨ (1024 ≤ k ∧ k < 2048 ∧ j = k + 512) ∨ (2048 ≤ k ∧ k < 2560 ∧ j = k + 1104)
    ∨ (2560 ≤ k ∧ k < 3584 ∧ j = k + 1120) ∨ (3584 ≤ k ∧ k < 4096 ∧ j + 2560 = k)
    ∨ (4096 ≤ k ∧ k < 4608 ∧ j + 1456 = k) ∨ (4608 ≤ k ∧ k < 4672 ∧ j + 2048 = k)
    ∨ (4736 ≤ k ∧ k < 4752 ∧ j + 2112 = k) ∨ (4864 ≤ k ∧ k < 4880 ∧ j + 1200 = k)

theorem either {α : Type} {p : Prop} [Decidable p] {f : p → α} {g : ¬p → α} {y : α} (hp : ∀ h, f h = y) (hn : ∀ h, g h = y) :
    dite p f g = y := by
  by_cases h : p
  · exact (dif_pos h).trans (hp h)
  · exact (dif_neg h).trans (hn h)

set_option maxHeartbeats 2000000 in
/-- Twelve vectors side by side, each holding a stretch of the weights' columns at its front. -/
theorem regroup (w : Vec Ideal S2048x4704 .f32)
    (va : Vec Ideal S1x2048x1024 .f32) (ha : ∀ (d : Fin 2048) (x : Fin 1024) (y : Fin 4704), y.val = 0 + x.val → va (ix3 0 d x) = w (ix2 d y))
    (vb : Vec Ideal S1x2048x1024 .f32) (hb : ∀ (d : Fin 2048) (x : Fin 1024) (y : Fin 4704), y.val = 1536 + x.val → vb (ix3 0 d x) = w (ix2 d y))
    (vc : Vec Ideal S1x2048x512 .f32) (hc : ∀ (d : Fin 2048) (x : Fin 512) (y : Fin 4704), y.val = 3152 + x.val → vc (ix3 0 d x) = w (ix2 d y))
    (ve : Vec Ideal S1x2048x512 .f32) (he : ∀ (d : Fin 2048) (x : Fin 512) (y : Fin 4704), y.val = 3680 + x.val → ve (ix3 0 d x) = w (ix2 d y))
    (vf : Vec Ideal S1x2048x512 .f32) (hf : ∀ (d : Fin 2048) (x : Fin 512) (y : Fin 4704), y.val = 4192 + x.val → vf (ix3 0 d x) = w (ix2 d y))
    (vg : Vec Ideal S1x2048x256 .f32) (hg : ∀ (d : Fin 2048) (x : Fin 256) (y : Fin 4704), y.val = 1024 + x.val → vg (ix3 0 d x) = w (ix2 d y))
    (vh : Vec Ideal S1x2048x256 .f32) (hh : ∀ (d : Fin 2048) (x : Fin 256) (y : Fin 4704), y.val = 1280 + x.val → vh (ix3 0 d x) = w (ix2 d y))
    (vi : Vec Ideal S1x2048x256 .f32) (hi : ∀ (d : Fin 2048) (x : Fin 256) (y : Fin 4704), y.val = 2640 + x.val → vi (ix3 0 d x) = w (ix2 d y))
    (vk : Vec Ideal S1x2048x256 .f32) (hk : ∀ (d : Fin 2048) (x : Fin 256) (y : Fin 4704), y.val = 2896 + x.val → vk (ix3 0 d x) = w (ix2 d y))
    (vp : Vec Ideal S1x2048x128 .f32) (hp : ∀ (d : Fin 2048) (x : Fin 128) (y : Fin 4704), x.val < 64 → y.val = 2560 + x.val → vp (ix3 0 d x) = w (ix2 d y))
    (vq : Vec Ideal S1x2048x128 .f32) (hq : ∀ (d : Fin 2048) (x : Fin 128) (y : Fin 4704), x.val < 16 → y.val = 2624 + x.val → vq (ix3 0 d x) = w (ix2 d y))
    (vr : Vec Ideal S1x2048x128 .f32) (hr : ∀ (d : Fin 2048) (x : Fin 128) (y : Fin 4704), x.val < 16 → y.val = 3664 + x.val → vr (ix3 0 d x) = w (ix2 d y))
    (d : Fin 2048) (n : Fin 4992) (j : Fin 4704) (hn : Placed n.val j.val) :
    shapeCast S2048x4992 (truncf .bf16 (concatenate S1x2048x4992 2
      [⟨S1x2048x1024, va⟩, ⟨S1x2048x1024, vb⟩, ⟨S1x2048x512, vc⟩, ⟨S1x2048x512, ve⟩, ⟨S1x2048x512, vf⟩, ⟨S1x2048x256, vg⟩, ⟨S1x2048x256, vh⟩, ⟨S1x2048x256, vi⟩, ⟨S1x2048x256, vk⟩, ⟨S1x2048x128, vp⟩, ⟨S1x2048x128, vq⟩, ⟨S1x2048x128, vr⟩]
      concatenates_S1x2048x1024_S1x2048x1024_S1x2048x512_S1x2048x512_S1x2048x512_S1x2048x256_S1x2048x256_S1x2048x256_S1x2048x256_S1x2048x128_S1x2048x128_S1x2048x128_S1x2048x4992_d2 : FVec Ideal S1x2048x4992 .f32) bitsLt_bf16_f32) shapeCasts_S1x2048x4992_S2048x4992 (ix2 d n) = w (ix2 d j) := by
  pointwise
  unfold Placed at hn
  refine either (fun _ => ha d _ j (by dsimp only; omega)) fun _ => ?_
  refine either (fun _ => hb d _ j (by dsimp only; omega)) fun _ => ?_
  refine either (fun _ => hc d _ j (by dsimp only; omega)) fun _ => ?_
  refine either (fun _ => he d _ j (by dsimp only; omega)) fun _ => ?_
  refine either (fun _ => hf d _ j (by dsimp only; omega)) fun _ => ?_
  refine either (fun _ => hg d _ j (by dsimp only; omega)) fun _ => ?_
  refine either (fun _ => hh d _ j (by dsimp only; omega)) fun _ => ?_
  refine either (fun _ => hi d _ j (by dsimp only; omega)) fun _ => ?_
  refine either (fun _ => hk d _ j (by dsimp only; omega)) fun _ => ?_
  refine either (fun _ => hp d _ j (by dsimp only; omega) (by dsimp only; omega)) fun _ => ?_
  refine either (fun _ => hq d _ j (by dsimp only; omega) (by dsimp only; omega)) fun _ => ?_
  exact hr d _ j (by dsimp only; omega) (by dsimp only; omega)

theorem packed_eq (w : Vec Ideal S2048x4704 .f32) (d : Fin 2048) (k : Fin 4992) (j : Fin 4704) (h : Placed k.val j.val) :
    packed w (ix2 d k) = w (ix2 d j) := by
  unfold packed
  refine regroup w _ ?_ _ ?_ _ ?_ _ ?_ _ ?_ _ ?_ _ ?_ _ ?_ _ ?_ _ ?_ _ ?_ _ ?_ d k j h <;> intro d x y
  all_goals
    first
      | (intro hx hy; pointwise [lifted]; exact (dif_pos hx).trans (congrArg w (congrArg (ix2 d) (Fin.ext (by dsimp only; omega)))))
      | (intro hy; pointwise [lifted]; exact congrArg w (congrArg (ix2 d) (Fin.ext (by dsimp only; omega))))

end Cert.Proj

end
-- ==== Proof.ProjPrompt.lean ====
module

public import proofs.«01_k».proof.Proof.Gen.Kernel4Ideal.Frame
public import proofs.«01_k».proof.Proof.ProjRow
public import proofs.«01_k».proof.Proof.ProjPack
public import Idealize.ShloMosaic.Lib.Pipeline.ValueKit
public import Idealize.ShloMosaic.Lib.Pipeline.ReadBack

@[expose] public section

set_option maxRecDepth 16384

noncomputable section

namespace Cert.Kernel4Ideal.Hand

open Cert.Kernel4Ideal Cert.Kernel4Ideal.Gen
open Idealize.ShloMosaic Idealize.ShloMosaic.TcCoe Idealize.SL.Sem
open scoped BigOperators

variable (m : (ℓ : Loc nD τ sig) → Buf (Elt Ideal) ℓ)

theorem pay1 (x : Vec Ideal S1024x2048 .f32) (g : Vec Ideal S1x2048 .f32) (r : Fin 1024) (d : Fin 2048) :
    k0_pay1 x g (ix2 r d) = Proj.normed (fun e => x (ix2 r e)) (fun e => g (ix2 0 e)) d := by
  pointwise [k0_pay1, Proj.normed]

theorem pay2 (y : Vec Ideal S1024x2048 .bf16) (w : Vec Ideal S2048x1664 .bf16) (r : Fin 1024) (j : Fin 1664) :
    k0_pay2 y w (ix2 r j) = ∑ d : Fin 2048, y (ix2 r d) * w (ix2 d j) := by
  pointwise [k0_pay2]

/-- At the first point of a row block the carried buffer is filled with the block's normed rows, -/
theorem fill (c : Dev nD) (t : Fin cfg0.N) (h : t.val % 3 = 0) :
    outsAt0 m c t.val t.isLt = (k0_pay2 (k0_pay1 (iblk m c 0 t) (iblk m c 1 t)) (iblk m c 2 t), k0_pay1 (iblk m c 0 t) (iblk m c 1 t)) := by
  rw [outsAt0_A m c t h]
  frame_out

/-- and the points after it leave the buffer alone. -/
theorem keep (c : Dev nD) (t : Fin cfg0.N) (h : ¬t.val % 3 = 0) :
    outsAt0 m c t.val t.isLt = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h]
  frame_out
  simp only [read_unread_whole]
  rfl

theorem packed (c : Dev nD) : V m c main_v18 = Proj.packed (m ((c.tc : Thread nD τ).loc main_arg2)) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil, List.cons_append, List.nil_append]
  after_results <;> rfl

theorem rows (c : Dev nD) : V m c main_v19 = shapeCast S32768x2048 (m ((c.tc : Thread nD τ).loc main_arg0)) shapeCasts_S4x8192x2048_S32768x2048 := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil, List.cons_append, List.nil_append]
  after_results <;> rfl

theorem gains (c : Dev nD) : V m c main_v20 = shapeCast S1x2048 (m ((c.tc : Thread nD τ).loc main_arg1)) shapeCasts_S2048_S1x2048 := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil, List.cons_append, List.nil_append]
  after_results <;> rfl

/-- The block each window is on at point `t`: row block `t / 3`, column block `t % 3`. -/
theorem blocks : ∀ t : Fin cfg0.N,
    (win0_0.index t (0 : Fin 2) = t.val / 3 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 3)
    ∧ (win0_3.index t (0 : Fin 2) = t.val / 3 ∧ win0_3.index t (1 : Fin 2) = t.val % 3) :=
  (by decide +kernel : ∀ t : Fin grid0.N, _)

theorem in0 (c : Dev nD) (t : Fin cfg0.N) (r : Fin 1024) (e : Fin 2048) (p : Fin 32768) (hp : p.val = t.val / 3 * 1024 + r.val) :
    iblk m c 0 t (ix2 r e) = V m c main_v19 (ix2 p e) := by
  obtain ⟨⟨a, b⟩, -⟩ := blocks t
  refine congrArg (V m c main_v19) (Proj.idx_eq _ p e ?_ ?_)
  · show win0_0.index t (0 : Fin 2) * 1024 + 1 * r.val = p.val; rw [a, hp, Nat.one_mul]
  · show win0_0.index t (1 : Fin 2) * 2048 + 1 * e.val = e.val; rw [b]; omega

theorem in1 (c : Dev nD) (t : Fin cfg0.N) (e : Fin 2048) :
    iblk m c 1 t (ix2 0 e) = V m c main_v20 (ix2 0 e) := by
  obtain ⟨-, ⟨a, b⟩, -⟩ := blocks t
  refine congrArg (V m c main_v20) (Proj.idx_eq _ 0 e ?_ ?_)
  · show win0_1.index t (0 : Fin 2) * 1 + 1 * 0 = 0; rw [a]
  · show win0_1.index t (1 : Fin 2) * 2048 + 1 * e.val = e.val; rw [b]; omega

theorem in2 (c : Dev nD) (t : Fin cfg0.N) (d : Fin 2048) (j : Fin 1664) (q : Fin 4992) (hq : q.val = t.val % 3 * 1664 + j.val) :
    iblk m c 2 t (ix2 d j) = V m c main_v18 (ix2 d q) := by
  obtain ⟨-, -, ⟨a, b⟩, -⟩ := blocks t
  refine congrArg (V m c main_v18) (Proj.idx_eq _ d q ?_ ?_)
  · show win0_2.index t (0 : Fin 2) * 2048 + 1 * d.val = d.val; rw [a]; omega
  · show win0_2.index t (1 : Fin 2) * 1664 + 1 * j.val = q.val; rw [b, hq, Nat.one_mul]

/-- So at every point of a row block the carried buffer holds that block's normed rows. -/
theorem carried (c : Dev nD) (n : ℕ) : ∀ (hn : n < cfg0.N) (r : Fin 1024) (d : Fin 2048) (p : Fin 32768), p.val = n / 3 * 1024 + r.val →
    (outsAt0 m c n hn).2 (ix2 r d) = Proj.normed (fun e => V m c main_v19 (ix2 p e)) (fun e => V m c main_v20 (ix2 0 e)) d := by
  have first : ∀ (n : ℕ) (hn : n < cfg0.N), n % 3 = 0 → ∀ (r : Fin 1024) (d : Fin 2048) (p : Fin 32768), p.val = n / 3 * 1024 + r.val →
      (outsAt0 m c n hn).2 (ix2 r d) = Proj.normed (fun e => V m c main_v19 (ix2 p e)) (fun e => V m c main_v20 (ix2 0 e)) d := by
    intro n hn h r d p hp
    rw [fill m c ⟨n, hn⟩ h]
    refine (pay1 _ _ r d).trans ?_
    rw [funext fun e => in0 m c ⟨n, hn⟩ r e p hp, funext fun e => in1 m c ⟨n, hn⟩ e]
  induction n with
  | zero => exact fun hn => first 0 hn rfl
  | succ n ih =>
    intro hn r d p hp
    by_cases h : (n + 1) % 3 = 0
    · exact first _ hn h r d p hp
    · rw [keep m c ⟨n + 1, hn⟩ h]
      exact ih (Nat.lt_of_succ_lt hn) r d p (by omega)

/-- The block a point writes: the product of the carried rows with the point's columns. -/
theorem block (c : Dev nD) (t : Fin cfg0.N) (r : Fin 1024) (j : Fin 1664) (p : Fin 32768) (q : Fin 4992)
    (hp : p.val = t.val / 3 * 1024 + r.val) (hq : q.val = t.val % 3 * 1664 + j.val) :
    (outsAt0 m c t.val t.isLt).1 (ix2 r j) = Proj.proj (fun e => V m c main_v19 (ix2 p e)) (fun e => V m c main_v20 (ix2 0 e))
      (fun d => V m c main_v18 (ix2 d q)) := by
  have e : (outsAt0 m c t.val t.isLt).1 = k0_pay2 (outsAt0 m c t.val t.isLt).2 (iblk m c 2 t) := by
    by_cases h : t.val % 3 = 0
    · rw [fill m c t h]
    · rw [keep m c t h]
  rw [e, pay2]
  exact Finset.sum_congr rfl fun d _ => by rw [carried m c t.val t.isLt r d p hp, in2 m c t d j q hq]

/-- The array after the run. -/
theorem array (c : Dev nD) : (dats m 0 c).arrAt 3 cfg0.N = fun i : S32768x4992.Idx =>
    Proj.proj (fun e => V m c main_v19 (ix2 (i 0) e)) (fun e => V m c main_v20 (ix2 0 e)) (fun d => V m c main_v18 (ix2 d (i 1))) := by
  refine (dats m 0 c).arrAt_eq_of_covers 3 _ (by decide +kernel) fun t _ y => ?_
  rw [after0_3]
  obtain ⟨r, j, rfl⟩ : ∃ (r : Fin 1024) (j : Fin 1664), y = ix2 r j := ⟨y 0, y 1, eq_ix2 y⟩
  obtain ⟨-, -, -, a, b⟩ := blocks t
  refine block m c t r j _ _ ?_ ?_
  · show win0_3.index t (0 : Fin 2) * 1024 + 1 * r.val = _; rw [a, Nat.one_mul]
  · show win0_3.index t (1 : Fin 2) * 1664 + 1 * j.val = _; rw [b, Nat.one_mul]

theorem shape (x : Vec Ideal S4x8192x2048 .f32) (b : Fin 4) (t : Fin 8192) (p : Fin 32768) (e : Fin 2048) (hp : p.val = b.val * 8192 + t.val) :
    shapeCast S32768x2048 x shapeCasts_S4x8192x2048_S32768x2048 (ix2 p e) = x (ix3 b t e) := by
  have ht := t.isLt
  pointwise
  have h1 : (⟨p.val / 8192, by omega⟩ : Fin 4) = b := Fin.ext (by dsimp only; omega)
  have h2 : (⟨p.val % 8192, by omega⟩ : Fin 8192) = t := Fin.ext (by dsimp only; omega)
  rw [h1, h2]

theorem unshape (x : Vec Ideal S32768x4992 .f32) (b : Fin 4) (t : Fin 8192) (p : Fin 32768) (e : Fin 4992) (hp : p.val = b.val * 8192 + t.val) :
    shapeCast S4x8192x4992 x shapeCasts_S32768x4992_S4x8192x4992 (ix3 b t e) = x (ix2 p e) := by
  pointwise
  exact congrArg (fun q => x (ix2 q e)) (Fin.ext hp.symm)

/-- The rows of the result, by the weights' own columns. -/
theorem value (c : Dev nD) (b : Fin 4) (t : Fin 8192) (k : Fin 4992) (j : Fin 4704) (h : Proj.Placed k.val j.val) :
    shapeCast S4x8192x4992 ((dats m 0 c).arrAt 3 cfg0.N) shapeCasts_S32768x4992_S4x8192x4992 (ix3 b t k) =
      Proj.proj (fun e => m ((c.tc : Thread nD τ).loc main_arg0) (ix3 b t e)) (fun e => m ((c.tc : Thread nD τ).loc main_arg1) (ix1 e))
        (fun d => m ((c.tc : Thread nD τ).loc main_arg2) (ix2 d j)) := by
  have hb := b.isLt
  have ht := t.isLt
  rw [unshape _ b t ⟨b.val * 8192 + t.val, by omega⟩ k rfl, array]
  show Proj.proj (fun e => V m c main_v19 (ix2 _ e)) (fun e => V m c main_v20 (ix2 0 e)) (fun d => V m c main_v18 (ix2 d k)) = _
  rw [rows, gains, packed]
  congr 1
  · funext e; exact shape _ b t _ e rfl
  · funext e; pointwise
  · funext d; exact Proj.packed_eq _ d k j h

end Cert.Kernel4Ideal.Hand

end
-- ==== Proof.ProjPromptRef.lean ====
module

public import proofs.«01_k».proof.Proof.Gen.Reference4Ideal.Run
public import proofs.«01_k».proof.Proof.ProjRow

@[expose] public section

set_option maxRecDepth 16384

/-! # The plain projection of the prompt rows, at an index -/

noncomputable section

namespace Cert.Reference4Ideal.Hand

open Cert.Reference4Ideal Cert.Reference4Ideal.Gen
open Idealize.ShloMosaic

/-- All the columns the reference computes. -/
def cols (x : FVec Ideal S4x8192x2048 .f32) (g : FVec Ideal S2048 .f32) (w : FVec Ideal S2048x4704 .f32) : FVec Ideal S4x8192x4704 .f32 :=
  Host.dotGeneral dot_S4x8192x2048_S2048x4704_S4x8192x4704_2_0_01_1_n_n none (mulf (mulf x (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf x x) (constant (F := Ideal) S_ .f32 0x00000000#32) reducesTo_S4x8192x2048_S4x8192_d2 h_S_)) (broadcastInDim S4x8192x1 ![] bcast_S_S4x8192x1 (constant (F := Ideal) S_ .f32 0x45000000#32))) (broadcastInDim S4x8192x1 ![] bcast_S_S4x8192x1 (constant (F := Ideal) S_ .f32 0x358637BD#32)))))) (broadcastInDim S4x8192x2048 ![0, 1, 2] bcast_S1x1x2048_S4x8192x2048_0_1_2 (broadcastInDim S1x1x2048 ![2] bcast_S2048_S1x1x2048_2 g))) w

theorem cols_eq (x : Vec Ideal S4x8192x2048 .f32) (g : Vec Ideal S2048 .f32) (w : Vec Ideal S2048x4704 .f32) (b : Fin 4) (t : Fin 8192) (j : Fin 4704) :
    cols x g w (ix3 b t j) = Proj.proj (fun e => x (ix3 b t e)) (fun e => g (ix1 e)) (fun d => w (ix2 d j)) := by
  pointwise [cols, Proj.proj, Proj.normed]

/-- The last fifteen rows of the pooled columns, behind an empty history. -/
def pool (D : Vec Ideal S4x8192x4704 .f32) : Vec Ideal S4x15x512 .f32 :=
  extractStridedSlice S4x15x512 ![0, 8192, 0] (concatenate S4x8207x512 1 [⟨S4x15x512, (broadcastInDim S4x15x512 ![] bcast_S_S4x15x512 (constant (F := Ideal) S_ .f32 0x00000000#32))⟩, ⟨S4x8192x512, (extractStridedSlice S4x8192x512 ![0, 0, 4192] D slices_S4x8192x4704_S4x8192x512_0_0_4192)⟩] concatenates_S4x15x512_S4x8192x512_S4x8207x512_d1) slices_S4x8207x512_S4x15x512_0_8192_0

end Cert.Reference4Ideal.Hand

end
-- ==== Proof.ProjPromptEq.lean ====
module

public import proofs.«01_k».proof.Proof.ProjPrompt
public import proofs.«01_k».proof.Proof.ProjPromptRef

@[expose] public section

set_option maxRecDepth 16384

/-! # The projection of the prompt rows: the kernel's results are the reference's -/

noncomputable section

namespace Cert.Kernel4Ideal.Hand

open Cert.Kernel4Ideal Cert.Kernel4Ideal.Gen
open Idealize.ShloMosaic Idealize.ShloMosaic.TcCoe Idealize.SL.Sem

/-- Cutting the segments out of the regrouped columns gives what cutting them out of the plain ones gives. -/
theorem agree (U : Vec Ideal S4x8192x4992 .f32) (D : Vec Ideal Cert.Reference4Ideal.S4x8192x4704 .f32)
    (h : ∀ (b : Fin 4) (t : Fin 8192) (k : Fin 4992) (j : Fin 4704), Proj.Placed k.val j.val → U (ix3 b t k) = D (ix3 b t j)) :
    shapeCast S4x8192x2x128 (extractStridedSlice S4x8192x256 ![0, 0, 3840] U slices_S4x8192x4992_S4x8192x256_0_0_3840) shapeCasts_S4x8192x256_S4x8192x2x128 = shapeCast Cert.Reference4Ideal.S4x8192x2x128 (extractStridedSlice Cert.Reference4Ideal.S4x8192x256 ![0, 0, 1280] D Cert.Reference4Ideal.Gen.slices_S4x8192x4704_S4x8192x256_0_0_1280) Cert.Reference4Ideal.Gen.shapeCasts_S4x8192x256_S4x8192x2x128
    ∧ extractStridedSlice S4x15x512 ![0, 8177, 3072] U slices_S4x8192x4992_S4x15x512_0_8177_3072 = Cert.Reference4Ideal.Hand.pool D
    ∧ extractStridedSlice S4x8192x1024 ![0, 0, 0] U slices_S4x8192x4992_S4x8192x1024_0_0_0 = extractStridedSlice Cert.Reference4Ideal.S4x8192x1024 ![0, 0, 0] D Cert.Reference4Ideal.Gen.slices_S4x8192x4704_S4x8192x1024_0_0_0
    ∧ extractStridedSlice S4x8192x256 ![0, 0, 3584] U slices_S4x8192x4992_S4x8192x256_0_0_3584 = extractStridedSlice Cert.Reference4Ideal.S4x8192x256 ![0, 0, 1024] D Cert.Reference4Ideal.Gen.slices_S4x8192x4704_S4x8192x256_0_0_1024
    ∧ extractStridedSlice S4x8192x1024 ![0, 0, 1024] U slices_S4x8192x4992_S4x8192x1024_0_0_1024 = extractStridedSlice Cert.Reference4Ideal.S4x8192x1024 ![0, 0, 1536] D Cert.Reference4Ideal.Gen.slices_S4x8192x4704_S4x8192x1024_0_0_1536
    ∧ extractStridedSlice S4x8192x64 ![0, 0, 4608] U slices_S4x8192x4992_S4x8192x64_0_0_4608 = extractStridedSlice Cert.Reference4Ideal.S4x8192x64 ![0, 0, 2560] D Cert.Reference4Ideal.Gen.slices_S4x8192x4704_S4x8192x64_0_0_2560
    ∧ extractStridedSlice S4x8192x16 ![0, 0, 4736] U slices_S4x8192x4992_S4x8192x16_0_0_4736 = extractStridedSlice Cert.Reference4Ideal.S4x8192x16 ![0, 0, 2624] D Cert.Reference4Ideal.Gen.slices_S4x8192x4704_S4x8192x16_0_0_2624
    ∧ extractStridedSlice S4x8192x256 ![0, 0, 4096] U slices_S4x8192x4992_S4x8192x256_0_0_4096 = extractStridedSlice Cert.Reference4Ideal.S4x8192x256 ![0, 0, 2640] D Cert.Reference4Ideal.Gen.slices_S4x8192x4704_S4x8192x256_0_0_2640
    ∧ extractStridedSlice S4x8192x256 ![0, 0, 4352] U slices_S4x8192x4992_S4x8192x256_0_0_4352 = extractStridedSlice Cert.Reference4Ideal.S4x8192x256 ![0, 0, 2896] D Cert.Reference4Ideal.Gen.slices_S4x8192x4704_S4x8192x256_0_0_2896
    ∧ extractStridedSlice S4x8192x512 ![0, 0, 2048] U slices_S4x8192x4992_S4x8192x512_0_0_2048 = extractStridedSlice Cert.Reference4Ideal.S4x8192x512 ![0, 0, 3152] D Cert.Reference4Ideal.Gen.slices_S4x8192x4704_S4x8192x512_0_0_3152
    ∧ extractStridedSlice S4x8192x16 ![0, 0, 4864] U slices_S4x8192x4992_S4x8192x16_0_0_4864 = extractStridedSlice Cert.Reference4Ideal.S4x8192x16 ![0, 0, 3664] D Cert.Reference4Ideal.Gen.slices_S4x8192x4704_S4x8192x16_0_0_3664
    ∧ extractStridedSlice S4x8192x512 ![0, 0, 2560] U slices_S4x8192x4992_S4x8192x512_0_0_2560 = extractStridedSlice Cert.Reference4Ideal.S4x8192x512 ![0, 0, 3680] D Cert.Reference4Ideal.Gen.slices_S4x8192x4704_S4x8192x512_0_0_3680
    ∧ extractStridedSlice S4x8192x512 ![0, 0, 3072] U slices_S4x8192x4992_S4x8192x512_0_0_3072 = extractStridedSlice Cert.Reference4Ideal.S4x8192x512 ![0, 0, 4192] D Cert.Reference4Ideal.Gen.slices_S4x8192x4704_S4x8192x512_0_0_4192 := by
  refine ⟨?_, ?_, ?_, ?_, ?_, ?_, ?_, ?_, ?_, ?_, ?_, ?_, ?_⟩ <;> funext i <;> idx_vars i <;> pointwise [Cert.Reference4Ideal.Hand.pool]
  all_goals
    first
      | exact h _ _ _ _ (by unfold Proj.Placed; dsimp only; omega)
      | (refine (Proj.either (fun hh => absurd hh (by omega)) fun _ => (congrArg (fun q => D (ix3 i0 q _)) (Fin.ext ?_)).trans
          (h i0 ⟨8177 + i1.val, by omega⟩ _ _ ?_).symm).symm
         · dsimp only; omega
         · unfold Proj.Placed; dsimp only; omega)

variable (m : (ℓ : Loc nD τ sig) → Buf (Elt Ideal) ℓ) (ρ : Dev nD → PrngReg)

/-- All the columns the kernel computes, by batch and position. -/
def cols (c : Dev nD) : Vec Ideal S4x8192x4992 .f32 :=
  shapeCast S4x8192x4992 ((dats m 0 c).arrAt 3 cfg0.N) shapeCasts_S32768x4992_S4x8192x4992

theorem after_region (c : Dev nD) : Pipeline.withArrays spec0 c (V0 m c) (fun w => (dats m 0 c).arrAt w cfg0.N) (Proc.devRef .tc main_v21)
    = (dats m 0 c).arrAt 3 cfg0.N :=
  Pipeline.withArrays_arr spec0 (by decide) c (V0 m c) _ 3

theorem tail36 (c : Dev nD) : Pipeline.afterTail₀ cfgs (dats m) 0 (V0 m) [hostOps1] c main_v36 = shapeCast S4x8192x2x128 (extractStridedSlice S4x8192x256 ![0, 0, 3840] (cols m c) slices_S4x8192x4992_S4x8192x256_0_0_3840) shapeCasts_S4x8192x256_S4x8192x2x128 := by
  show StableHlo.after hostOps1 _ _ = _
  simp only [hostOps1]
  after_results
  rw [after_region]
  rfl

theorem tail23 (c : Dev nD) : Pipeline.afterTail₀ cfgs (dats m) 0 (V0 m) [hostOps1] c main_v23 = extractStridedSlice S4x15x512 ![0, 8177, 3072] (cols m c) slices_S4x8192x4992_S4x15x512_0_8177_3072 := by
  show StableHlo.after hostOps1 _ _ = _
  simp only [hostOps1]
  after_results
  rw [after_region]
  rfl

theorem tail24 (c : Dev nD) : Pipeline.afterTail₀ cfgs (dats m) 0 (V0 m) [hostOps1] c main_v24 = extractStridedSlice S4x8192x1024 ![0, 0, 0] (cols m c) slices_S4x8192x4992_S4x8192x1024_0_0_0 := by
  show StableHlo.after hostOps1 _ _ = _
  simp only [hostOps1]
  after_results
  rw [after_region]
  rfl

theorem tail25 (c : Dev nD) : Pipeline.afterTail₀ cfgs (dats m) 0 (V0 m) [hostOps1] c main_v25 = extractStridedSlice S4x8192x256 ![0, 0, 3584] (cols m c) slices_S4x8192x4992_S4x8192x256_0_0_3584 := by
  show StableHlo.after hostOps1 _ _ = _
  simp only [hostOps1]
  after_results
  rw [after_region]
  rfl

theorem tail26 (c : Dev nD) : Pipeline.afterTail₀ cfgs (dats m) 0 (V0 m) [hostOps1] c main_v26 = extractStridedSlice S4x8192x1024 ![0, 0, 1024] (cols m c) slices_S4x8192x4992_S4x8192x1024_0_0_1024 := by
  show StableHlo.after hostOps1 _ _ = _
  simp only [hostOps1]
  after_results
  rw [after_region]
  rfl

theorem tail27 (c : Dev nD) : Pipeline.afterTail₀ cfgs (dats m) 0 (V0 m) [hostOps1] c main_v27 = extractStridedSlice S4x8192x64 ![0, 0, 4608] (cols m c) slices_S4x8192x4992_S4x8192x64_0_0_4608 := by
  show StableHlo.after hostOps1 _ _ = _
  simp only [hostOps1]
  after_results
  rw [after_region]
  rfl

theorem tail28 (c : Dev nD) : Pipeline.afterTail₀ cfgs (dats m) 0 (V0 m) [hostOps1] c main_v28 = extractStridedSlice S4x8192x16 ![0, 0, 4736] (cols m c) slices_S4x8192x4992_S4x8192x16_0_0_4736 := by
  show StableHlo.after hostOps1 _ _ = _
  simp only [hostOps1]
  after_results
  rw [after_region]
  rfl

theorem tail29 (c : Dev nD) : Pipeline.afterTail₀ cfgs (dats m) 0 (V0 m) [hostOps1] c main_v29 = extractStridedSlice S4x8192x256 ![0, 0, 4096] (cols m c) slices_S4x8192x4992_S4x8192x256_0_0_4096 := by
  show StableHlo.after hostOps1 _ _ = _
  simp only [hostOps1]
  after_results
  rw [after_region]
  rfl

theorem tail30 (c : Dev nD) : Pipeline.afterTail₀ cfgs (dats m) 0 (V0 m) [hostOps1] c main_v30 = extractStridedSlice S4x8192x256 ![0, 0, 4352] (cols m c) slices_S4x8192x4992_S4x8192x256_0_0_4352 := by
  show StableHlo.after hostOps1 _ _ = _
  simp only [hostOps1]
  after_results
  rw [after_region]
  rfl

theorem tail31 (c : Dev nD) : Pipeline.afterTail₀ cfgs (dats m) 0 (V0 m) [hostOps1] c main_v31 = extractStridedSlice S4x8192x512 ![0, 0, 2048] (cols m c) slices_S4x8192x4992_S4x8192x512_0_0_2048 := by
  show StableHlo.after hostOps1 _ _ = _
  simp only [hostOps1]
  after_results
  rw [after_region]
  rfl

theorem tail32 (c : Dev nD) : Pipeline.afterTail₀ cfgs (dats m) 0 (V0 m) [hostOps1] c main_v32 = extractStridedSlice S4x8192x16 ![0, 0, 4864] (cols m c) slices_S4x8192x4992_S4x8192x16_0_0_4864 := by
  show StableHlo.after hostOps1 _ _ = _
  simp only [hostOps1]
  after_results
  rw [after_region]
  rfl

theorem tail33 (c : Dev nD) : Pipeline.afterTail₀ cfgs (dats m) 0 (V0 m) [hostOps1] c main_v33 = extractStridedSlice S4x8192x512 ![0, 0, 2560] (cols m c) slices_S4x8192x4992_S4x8192x512_0_0_2560 := by
  show StableHlo.after hostOps1 _ _ = _
  simp only [hostOps1]
  after_results
  rw [after_region]
  rfl

theorem tail34 (c : Dev nD) : Pipeline.afterTail₀ cfgs (dats m) 0 (V0 m) [hostOps1] c main_v34 = extractStridedSlice S4x8192x512 ![0, 0, 3072] (cols m c) slices_S4x8192x4992_S4x8192x512_0_0_3072 := by
  show StableHlo.after hostOps1 _ _ = _
  simp only [hostOps1]
  after_results
  rw [after_region]
  rfl

/-- The run: each result is a cut of those columns, and the arguments are unchanged. -/
theorem run : θ_run defs (onTc (τ := τ) (main (F := Ideal))) ⟨m, fun _ => 0, ρ⟩ fun r => ∀ c : Dev nD,
      r.2.mem ((c.tc : Thread nD τ).loc main_v36) = shapeCast S4x8192x2x128 (extractStridedSlice S4x8192x256 ![0, 0, 3840] (cols m c) slices_S4x8192x4992_S4x8192x256_0_0_3840) shapeCasts_S4x8192x256_S4x8192x2x128
      ∧ r.2.mem ((c.tc : Thread nD τ).loc main_v23) = extractStridedSlice S4x15x512 ![0, 8177, 3072] (cols m c) slices_S4x8192x4992_S4x15x512_0_8177_3072
      ∧ r.2.mem ((c.tc : Thread nD τ).loc main_v24) = extractStridedSlice S4x8192x1024 ![0, 0, 0] (cols m c) slices_S4x8192x4992_S4x8192x1024_0_0_0
      ∧ r.2.mem ((c.tc : Thread nD τ).loc main_v25) = extractStridedSlice S4x8192x256 ![0, 0, 3584] (cols m c) slices_S4x8192x4992_S4x8192x256_0_0_3584
      ∧ r.2.mem ((c.tc : Thread nD τ).loc main_v26) = extractStridedSlice S4x8192x1024 ![0, 0, 1024] (cols m c) slices_S4x8192x4992_S4x8192x1024_0_0_1024
      ∧ r.2.mem ((c.tc : Thread nD τ).loc main_v27) = extractStridedSlice S4x8192x64 ![0, 0, 4608] (cols m c) slices_S4x8192x4992_S4x8192x64_0_0_4608
      ∧ r.2.mem ((c.tc : Thread nD τ).loc main_v28) = extractStridedSlice S4x8192x16 ![0, 0, 4736] (cols m c) slices_S4x8192x4992_S4x8192x16_0_0_4736
      ∧ r.2.mem ((c.tc : Thread nD τ).loc main_v29) = extractStridedSlice S4x8192x256 ![0, 0, 4096] (cols m c) slices_S4x8192x4992_S4x8192x256_0_0_4096
      ∧ r.2.mem ((c.tc : Thread nD τ).loc main_v30) = extractStridedSlice S4x8192x256 ![0, 0, 4352] (cols m c) slices_S4x8192x4992_S4x8192x256_0_0_4352
      ∧ r.2.mem ((c.tc : Thread nD τ).loc main_v31) = extractStridedSlice S4x8192x512 ![0, 0, 2048] (cols m c) slices_S4x8192x4992_S4x8192x512_0_0_2048
      ∧ r.2.mem ((c.tc : Thread nD τ).loc main_v32) = extractStridedSlice S4x8192x16 ![0, 0, 4864] (cols m c) slices_S4x8192x4992_S4x8192x16_0_0_4864
      ∧ r.2.mem ((c.tc : Thread nD τ).loc main_v33) = extractStridedSlice S4x8192x512 ![0, 0, 2560] (cols m c) slices_S4x8192x4992_S4x8192x512_0_0_2560
      ∧ r.2.mem ((c.tc : Thread nD τ).loc main_v34) = extractStridedSlice S4x8192x512 ![0, 0, 3072] (cols m c) slices_S4x8192x4992_S4x8192x512_0_0_3072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨
     ((h.1 c).2 main_v36 (Pipeline.mem_restRefs_of main_v36 (by decide) (by decide))).trans (tail36 m c),
     ((h.1 c).2 main_v23 (Pipeline.mem_restRefs_of main_v23 (by decide) (by decide))).trans (tail23 m c),
     ((h.1 c).2 main_v24 (Pipeline.mem_restRefs_of main_v24 (by decide) (by decide))).trans (tail24 m c),
     ((h.1 c).2 main_v25 (Pipeline.mem_restRefs_of main_v25 (by decide) (by decide))).trans (tail25 m c),
     ((h.1 c).2 main_v26 (Pipeline.mem_restRefs_of main_v26 (by decide) (by decide))).trans (tail26 m c),
     ((h.1 c).2 main_v27 (Pipeline.mem_restRefs_of main_v27 (by decide) (by decide))).trans (tail27 m c),
     ((h.1 c).2 main_v28 (Pipeline.mem_restRefs_of main_v28 (by decide) (by decide))).trans (tail28 m c),
     ((h.1 c).2 main_v29 (Pipeline.mem_restRefs_of main_v29 (by decide) (by decide))).trans (tail29 m c),
     ((h.1 c).2 main_v30 (Pipeline.mem_restRefs_of main_v30 (by decide) (by decide))).trans (tail30 m c),
     ((h.1 c).2 main_v31 (Pipeline.mem_restRefs_of main_v31 (by decide) (by decide))).trans (tail31 m c),
     ((h.1 c).2 main_v32 (Pipeline.mem_restRefs_of main_v32 (by decide) (by decide))).trans (tail32 m c),
     ((h.1 c).2 main_v33 (Pipeline.mem_restRefs_of main_v33 (by decide) (by decide))).trans (tail33 m c),
     ((h.1 c).2 main_v34 (Pipeline.mem_restRefs_of main_v34 (by decide) (by decide))).trans (tail34 m c),
     h.2 c⟩) (θ_run_and (run_main m ρ) (unchanged m ρ))

end Cert.Kernel4Ideal.Hand

end
-- ==== Proof.ProjSample.lean ====
module

public import proofs.«01_k».proof.Proof.Gen.Kernel5Ideal.Frame
public import proofs.«01_k».proof.Proof.ProjRow
public import proofs.«01_k».proof.Proof.ProjPack
public import Idealize.ShloMosaic.Lib.Pipeline.ValueKit
public import Idealize.ShloMosaic.Lib.Pipeline.ReadBack

@[expose] public section

set_option maxRecDepth 16384

noncomputable section

namespace Cert.Kernel5Ideal.Hand

open Cert.Kernel5Ideal Cert.Kernel5Ideal.Gen
open Idealize.ShloMosaic Idealize.ShloMosaic.TcCoe Idealize.SL.Sem
open scoped BigOperators

variable (m : (ℓ : Loc nD τ sig) → Buf (Elt Ideal) ℓ)

theorem pay1 (x : Vec Ideal S256x2048 .f32) (g : Vec Ideal S1x2048 .f32) (r : Fin 256) (d : Fin 2048) :
    k0_pay1 x g (ix2 r d) = Proj.normed (fun e => x (ix2 r e)) (fun e => g (ix2 0 e)) d := by
  pointwise [k0_pay1, Proj.normed]

theorem pay2 (y : Vec Ideal S256x2048 .bf16) (w : Vec Ideal S2048x1664 .bf16) (r : Fin 256) (j : Fin 1664) :
    k0_pay2 y w (ix2 r j) = ∑ d : Fin 2048, y (ix2 r d) * w (ix2 d j) := by
  pointwise [k0_pay2]

/-- At the first point of a row block the carried buffer is filled with the block's normed rows, -/
theorem fill (c : Dev nD) (t : Fin cfg0.N) (h : t.val % 3 = 0) :
    outsAt0 m c t.val t.isLt = (k0_pay2 (k0_pay1 (iblk m c 0 t) (iblk m c 1 t)) (iblk m c 2 t), k0_pay1 (iblk m c 0 t) (iblk m c 1 t)) := by
  rw [outsAt0_A m c t h]
  frame_out

/-- and the points after it leave the buffer alone. -/
theorem keep (c : Dev nD) (t : Fin cfg0.N) (h : ¬t.val % 3 = 0) :
    outsAt0 m c t.val t.isLt = (k0_pay2 (outsAt0 m c (t.val - 1) (Nat.lt_of_le_of_lt (Nat.sub_le _ _) t.isLt)).2 (iblk m c 2 t),
      (outsAt0 m c (t.val - 1) (Nat.lt_of_le_of_lt (Nat.sub_le _ _) t.isLt)).2) := by
  rw [outsAt0_B m c t h]
  frame_out
  simp only [read_unread_whole]
  rfl

theorem packed (c : Dev nD) : V m c main_v18 = Proj.packed (m ((c.tc : Thread nD τ).loc main_arg3)) := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil, List.cons_append, List.nil_append]
  after_results <;> rfl

theorem rows (c : Dev nD) : V m c main_v19 = shapeCast S256x2048 (m ((c.tc : Thread nD τ).loc main_arg0)) shapeCasts_S16x16x2048_S256x2048 := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil, List.cons_append, List.nil_append]
  after_results <;> rfl

theorem gains (c : Dev nD) : V m c main_v20 = shapeCast S1x2048 (m ((c.tc : Thread nD τ).loc main_arg2)) shapeCasts_S2048_S1x2048 := by
  show StableHlo.after (List.flatten [hostOps0, hostOps0_1, hostOps0_2, hostOps0_3, hostOps0_4, hostOps0_5, hostOps0_6]) _ _ = _
  simp only [hostOps0, hostOps0_1, hostOps0_2, hostOps0_3, hostOps0_4, hostOps0_5, hostOps0_6, List.flatten_cons, List.flatten_nil, List.append_nil, List.cons_append, List.nil_append]
  after_results <;> rfl

/-- The block each window is on at point `t`: row block `t / 3`, column block `t % 3`. -/
theorem blocks : ∀ t : Fin cfg0.N,
    (win0_0.index t (0 : Fin 2) = t.val / 3 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 3)
    ∧ (win0_3.index t (0 : Fin 2) = t.val / 3 ∧ win0_3.index t (1 : Fin 2) = t.val % 3) :=
  (by decide +kernel : ∀ t : Fin grid0.N, _)

theorem in0 (c : Dev nD) (t : Fin cfg0.N) (r : Fin 256) (e : Fin 2048) (p : Fin 256) (hp : p.val = t.val / 3 * 256 + r.val) :
    iblk m c 0 t (ix2 r e) = V m c main_v19 (ix2 p e) := by
  obtain ⟨⟨a, b⟩, -⟩ := blocks t
  refine congrArg (V m c main_v19) (Proj.idx_eq _ p e ?_ ?_)
  · show win0_0.index t (0 : Fin 2) * 256 + 1 * r.val = p.val; rw [a, hp, Nat.one_mul]
  · show win0_0.index t (1 : Fin 2) * 2048 + 1 * e.val = e.val; rw [b]; omega

theorem in1 (c : Dev nD) (t : Fin cfg0.N) (e : Fin 2048) :
    iblk m c 1 t (ix2 0 e) = V m c main_v20 (ix2 0 e) := by
  obtain ⟨-, ⟨a, b⟩, -⟩ := blocks t
  refine congrArg (V m c main_v20) (Proj.idx_eq _ 0 e ?_ ?_)
  · show win0_1.index t (0 : Fin 2) * 1 + 1 * 0 = 0; rw [a]
  · show win0_1.index t (1 : Fin 2) * 2048 + 1 * e.val = e.val; rw [b]; omega

theorem in2 (c : Dev nD) (t : Fin cfg0.N) (d : Fin 2048) (j : Fin 1664) (q : Fin 4992) (hq : q.val = t.val % 3 * 1664 + j.val) :
    iblk m c 2 t (ix2 d j) = V m c main_v18 (ix2 d q) := by
  obtain ⟨-, -, ⟨a, b⟩, -⟩ := blocks t
  refine congrArg (V m c main_v18) (Proj.idx_eq _ d q ?_ ?_)
  · show win0_2.index t (0 : Fin 2) * 2048 + 1 * d.val = d.val; rw [a]; omega
  · show win0_2.index t (1 : Fin 2) * 1664 + 1 * j.val = q.val; rw [b, hq, Nat.one_mul]

/-- So at every point of a row block the carried buffer holds that block's normed rows. -/
theorem carried (c : Dev nD) (n : ℕ) : ∀ (hn : n < cfg0.N) (r : Fin 256) (d : Fin 2048) (p : Fin 256), p.val = n / 3 * 256 + r.val →
    (outsAt0 m c n hn).2 (ix2 r d) = Proj.normed (fun e => V m c main_v19 (ix2 p e)) (fun e => V m c main_v20 (ix2 0 e)) d := by
  have first : ∀ (n : ℕ) (hn : n < cfg0.N), n % 3 = 0 → ∀ (r : Fin 256) (d : Fin 2048) (p : Fin 256), p.val = n / 3 * 256 + r.val →
      (outsAt0 m c n hn).2 (ix2 r d) = Proj.normed (fun e => V m c main_v19 (ix2 p e)) (fun e => V m c main_v20 (ix2 0 e)) d := by
    intro n hn h r d p hp
    rw [fill m c ⟨n, hn⟩ h]
    refine (pay1 _ _ r d).trans ?_
    rw [funext fun e => in0 m c ⟨n, hn⟩ r e p hp, funext fun e => in1 m c ⟨n, hn⟩ e]
  induction n with
  | zero => exact fun hn => first 0 hn rfl
  | succ n ih =>
    intro hn r d p hp
    by_cases h : (n + 1) % 3 = 0
    · exact first _ hn h r d p hp
    · rw [keep m c ⟨n + 1, hn⟩ h]
      exact ih (Nat.lt_of_succ_lt hn) r d p (by omega)

/-- The block a point writes: the product of the carried rows with the point's columns. -/
theorem block (c : Dev nD) (t : Fin cfg0.N) (r : Fin 256) (j : Fin 1664) (p : Fin 256) (q : Fin 4992)
    (hp : p.val = t.val / 3 * 256 + r.val) (hq : q.val = t.val % 3 * 1664 + j.val) :
    (outsAt0 m c t.val t.isLt).1 (ix2 r j) = Proj.proj (fun e => V m c main_v19 (ix2 p e)) (fun e => V m c main_v20 (ix2 0 e))
      (fun d => V m c main_v18 (ix2 d q)) := by
  have e : (outsAt0 m c t.val t.isLt).1 = k0_pay2 (outsAt0 m c t.val t.isLt).2 (iblk m c 2 t) := by
    by_cases h : t.val % 3 = 0
    · rw [fill m c t h]
    · rw [keep m c t h]
  rw [e, pay2]
  exact Finset.sum_congr rfl fun d _ => by rw [carried m c t.val t.isLt r d p hp, in2 m c t d j q hq]

/-- The array after the run. -/
theorem array (c : Dev nD) : (dats m 0 c).arrAt 3 cfg0.N = fun i : S256x4992.Idx =>
    Proj.proj (fun e => V m c main_v19 (ix2 (i 0) e)) (fun e => V m c main_v20 (ix2 0 e)) (fun d => V m c main_v18 (ix2 d (i 1))) := by
  refine (dats m 0 c).arrAt_eq_of_covers 3 _ (by decide +kernel) fun t _ y => ?_
  rw [after0_3]
  obtain ⟨r, j, rfl⟩ : ∃ (r : Fin 256) (j : Fin 1664), y = ix2 r j := ⟨y 0, y 1, eq_ix2 y⟩
  obtain ⟨-, -, -, a, b⟩ := blocks t
  refine block m c t r j _ _ ?_ ?_
  · show win0_3.index t (0 : Fin 2) * 256 + 1 * r.val = _; rw [a, Nat.one_mul]
  · show win0_3.index t (1 : Fin 2) * 1664 + 1 * j.val = _; rw [b, Nat.one_mul]

theorem shape (x : Vec Ideal S16x16x2048 .f32) (b : Fin 16) (t : Fin 16) (p : Fin 256) (e : Fin 2048) (hp : p.val = b.val * 16 + t.val) :
    shapeCast S256x2048 x shapeCasts_S16x16x2048_S256x2048 (ix2 p e) = x (ix3 b t e) := by
  have ht := t.isLt
  pointwise
  have h1 : (⟨p.val / 16, by omega⟩ : Fin 16) = b := Fin.ext (by dsimp only; omega)
  have h2 : (⟨p.val % 16, by omega⟩ : Fin 16) = t := Fin.ext (by dsimp only; omega)
  rw [h1, h2]

theorem unshape (x : Vec Ideal S256x4992 .f32) (b : Fin 16) (t : Fin 16) (p : Fin 256) (e : Fin 4992) (hp : p.val = b.val * 16 + t.val) :
    shapeCast S16x16x4992 x shapeCasts_S256x4992_S16x16x4992 (ix3 b t e) = x (ix2 p e) := by
  pointwise
  exact congrArg (fun q => x (ix2 q e)) (Fin.ext hp.symm)

/-- The rows of the result, by the weights' own columns. -/
theorem value (c : Dev nD) (b : Fin 16) (t : Fin 16) (k : Fin 4992) (j : Fin 4704) (h : Proj.Placed k.val j.val) :
    shapeCast S16x16x4992 ((dats m 0 c).arrAt 3 cfg0.N) shapeCasts_S256x4992_S16x16x4992 (ix3 b t k) =
      Proj.proj (fun e => m ((c.tc : Thread nD τ).loc main_arg0) (ix3 b t e)) (fun e => m ((c.tc : Thread nD τ).loc main_arg2) (ix1 e))
        (fun d => m ((c.tc : Thread nD τ).loc main_arg3) (ix2 d j)) := by
  have hb := b.isLt
  have ht := t.isLt
  rw [unshape _ b t ⟨b.val * 16 + t.val, by omega⟩ k rfl, array]
  show Proj.proj (fun e => V m c main_v19 (ix2 _ e)) (fun e => V m c main_v20 (ix2 0 e)) (fun d => V m c main_v18 (ix2 d k)) = _
  rw [rows, gains, packed]
  congr 1
  · funext e; exact shape _ b t _ e rfl
  · funext e; pointwise
  · funext d; exact Proj.packed_eq _ d k j h

end Cert.Kernel5Ideal.Hand

end
-- ==== Proof.ProjSampleRef.lean ====
module

public import proofs.«01_k».proof.Proof.Gen.Reference5Ideal.Run
public import proofs.«01_k».proof.Proof.ProjRow

@[expose] public section

set_option maxRecDepth 16384

/-! # The plain projection of the sample rows, at an index -/

noncomputable section

namespace Cert.Reference5Ideal.Hand

open Cert.Reference5Ideal Cert.Reference5Ideal.Gen
open Idealize.ShloMosaic

/-- All the columns the reference computes. -/
def cols (x : FVec Ideal S16x16x2048 .f32) (g : FVec Ideal S2048 .f32) (w : FVec Ideal S2048x4704 .f32) : FVec Ideal S16x16x4704 .f32 :=
  Host.dotGeneral dot_S16x16x2048_S2048x4704_S16x16x4704_2_0_01_1_n_n none (mulf (mulf x (broadcastInDim S16x16x2048 ![0, 1, 2] bcast_S16x16x1_S16x16x2048_0_1_2 (Host.rsqrt (addf (Host.divf (broadcastInDim S16x16x1 ![0, 1] bcast_S16x16_S16x16x1_0_1 (Host.reduceAdd (mulf x x) (constant (F := Ideal) S_ .f32 0x00000000#32) reducesTo_S16x16x2048_S16x16_d2 h_S_)) (broadcastInDim S16x16x1 ![] bcast_S_S16x16x1 (constant (F := Ideal) S_ .f32 0x45000000#32))) (broadcastInDim S16x16x1 ![] bcast_S_S16x16x1 (constant (F := Ideal) S_ .f32 0x358637BD#32)))))) (broadcastInDim S16x16x2048 ![0, 1, 2] bcast_S1x1x2048_S16x16x2048_0_1_2 (broadcastInDim S1x1x2048 ![2] bcast_S2048_S1x1x2048_2 g))) w

theorem cols_eq (x : Vec Ideal S16x16x2048 .f32) (g : Vec Ideal S2048 .f32) (w : Vec Ideal S2048x4704 .f32) (b : Fin 16) (t : Fin 16) (j : Fin 4704) :
    cols x g w (ix3 b t j) = Proj.proj (fun e => x (ix3 b t e)) (fun e => g (ix1 e)) (fun d => w (ix2 d j)) := by
  pointwise [cols, Proj.proj, Proj.normed]

/-- The last fifteen rows of the pooled columns, behind the history given. -/
def pool (C : Vec Ideal S16x15x512 .f32) (D : Vec Ideal S16x16x4704 .f32) : Vec Ideal S16x15x512 .f32 :=
  extractStridedSlice S16x15x512 ![0, 16, 0] (concatenate S16x31x512 1 [⟨S16x15x512, C⟩, ⟨S16x16x512, (extractStridedSlice S16x16x512 ![0, 0, 4192] D slices_S16x16x4704_S16x16x512_0_0_4192)⟩] concatenates_S16x15x512_S16x16x512_S16x31x512_d1) slices_S16x31x512_S16x15x512_0_16_0

end Cert.Reference5Ideal.Hand

end
-- ==== Proof.ProjSampleEq.lean ====
module

public import proofs.«01_k».proof.Proof.ProjSample
public import proofs.«01_k».proof.Proof.ProjSampleRef

@[expose] public section

set_option maxRecDepth 16384

/-! # The projection of the sample rows: the kernel's results are the reference's -/

noncomputable section

namespace Cert.Kernel5Ideal.Hand

open Cert.Kernel5Ideal Cert.Kernel5Ideal.Gen
open Idealize.ShloMosaic Idealize.ShloMosaic.TcCoe Idealize.SL.Sem

/-- Cutting the segments out of the regrouped columns gives what cutting them out of the plain ones gives. -/
theorem agree (C : Vec Ideal S16x15x512 .f32) (U : Vec Ideal S16x16x4992 .f32) (D : Vec Ideal Cert.Reference5Ideal.S16x16x4704 .f32)
    (h : ∀ (b : Fin 16) (t : Fin 16) (k : Fin 4992) (j : Fin 4704), Proj.Placed k.val j.val → U (ix3 b t k) = D (ix3 b t j)) :
    shapeCast S16x16x2x128 (extractStridedSlice S16x16x256 ![0, 0, 3840] U slices_S16x16x4992_S16x16x256_0_0_3840) shapeCasts_S16x16x256_S16x16x2x128 = shapeCast Cert.Reference5Ideal.S16x16x2x128 (extractStridedSlice Cert.Reference5Ideal.S16x16x256 ![0, 0, 1280] D Cert.Reference5Ideal.Gen.slices_S16x16x4704_S16x16x256_0_0_1280) Cert.Reference5Ideal.Gen.shapeCasts_S16x16x256_S16x16x2x128
    ∧ extractStridedSlice S16x15x512 ![0, 1, 3072] U slices_S16x16x4992_S16x15x512_0_1_3072 = Cert.Reference5Ideal.Hand.pool C D
    ∧ extractStridedSlice S16x16x1024 ![0, 0, 0] U slices_S16x16x4992_S16x16x1024_0_0_0 = extractStridedSlice Cert.Reference5Ideal.S16x16x1024 ![0, 0, 0] D Cert.Reference5Ideal.Gen.slices_S16x16x4704_S16x16x1024_0_0_0
    ∧ extractStridedSlice S16x16x256 ![0, 0, 3584] U slices_S16x16x4992_S16x16x256_0_0_3584 = extractStridedSlice Cert.Reference5Ideal.S16x16x256 ![0, 0, 1024] D Cert.Reference5Ideal.Gen.slices_S16x16x4704_S16x16x256_0_0_1024
    ∧ extractStridedSlice S16x16x1024 ![0, 0, 1024] U slices_S16x16x4992_S16x16x1024_0_0_1024 = extractStridedSlice Cert.Reference5Ideal.S16x16x1024 ![0, 0, 1536] D Cert.Reference5Ideal.Gen.slices_S16x16x4704_S16x16x1024_0_0_1536
    ∧ extractStridedSlice S16x16x64 ![0, 0, 4608] U slices_S16x16x4992_S16x16x64_0_0_4608 = extractStridedSlice Cert.Reference5Ideal.S16x16x64 ![0, 0, 2560] D Cert.Reference5Ideal.Gen.slices_S16x16x4704_S16x16x64_0_0_2560
    ∧ extractStridedSlice S16x16x16 ![0, 0, 4736] U slices_S16x16x4992_S16x16x16_0_0_4736 = extractStridedSlice Cert.Reference5Ideal.S16x16x16 ![0, 0, 2624] D Cert.Reference5Ideal.Gen.slices_S16x16x4704_S16x16x16_0_0_2624
    ∧ extractStridedSlice S16x16x256 ![0, 0, 4096] U slices_S16x16x4992_S16x16x256_0_0_4096 = extractStridedSlice Cert.Reference5Ideal.S16x16x256 ![0, 0, 2640] D Cert.Reference5Ideal.Gen.slices_S16x16x4704_S16x16x256_0_0_2640
    ∧ extractStridedSlice S16x16x256 ![0, 0, 4352] U slices_S16x16x4992_S16x16x256_0_0_4352 = extractStridedSlice Cert.Reference5Ideal.S16x16x256 ![0, 0, 2896] D Cert.Reference5Ideal.Gen.slices_S16x16x4704_S16x16x256_0_0_2896
    ∧ extractStridedSlice S16x16x512 ![0, 0, 2048] U slices_S16x16x4992_S16x16x512_0_0_2048 = extractStridedSlice Cert.Reference5Ideal.S16x16x512 ![0, 0, 3152] D Cert.Reference5Ideal.Gen.slices_S16x16x4704_S16x16x512_0_0_3152
    ∧ extractStridedSlice S16x16x16 ![0, 0, 4864] U slices_S16x16x4992_S16x16x16_0_0_4864 = extractStridedSlice Cert.Reference5Ideal.S16x16x16 ![0, 0, 3664] D Cert.Reference5Ideal.Gen.slices_S16x16x4704_S16x16x16_0_0_3664
    ∧ extractStridedSlice S16x16x512 ![0, 0, 2560] U slices_S16x16x4992_S16x16x512_0_0_2560 = extractStridedSlice Cert.Reference5Ideal.S16x16x512 ![0, 0, 3680] D Cert.Reference5Ideal.Gen.slices_S16x16x4704_S16x16x512_0_0_3680
    ∧ extractStridedSlice S16x16x512 ![0, 0, 3072] U slices_S16x16x4992_S16x16x512_0_0_3072 = extractStridedSlice Cert.Reference5Ideal.S16x16x512 ![0, 0, 4192] D Cert.Reference5Ideal.Gen.slices_S16x16x4704_S16x16x512_0_0_4192 := by
  refine ⟨?_, ?_, ?_, ?_, ?_, ?_, ?_, ?_, ?_, ?_, ?_, ?_, ?_⟩ <;> funext i <;> idx_vars i <;> pointwise [Cert.Reference5Ideal.Hand.pool]
  all_goals
    first
      | exact h _ _ _ _ (by unfold Proj.Placed; dsimp only; omega)
      | (refine (Proj.either (fun hh => absurd hh (by omega)) fun _ => (congrArg (fun q => D (ix3 i0 q _)) (Fin.ext ?_)).trans
          (h i0 ⟨1 + i1.val, by omega⟩ _ _ ?_).symm).symm
         · dsimp only; omega
         · unfold Proj.Placed; dsimp only; omega)

variable (m : (ℓ : Loc nD τ sig) → Buf (Elt Ideal) ℓ) (ρ : Dev nD → PrngReg)

/-- All the columns the kernel computes, by batch and position. -/
def cols (c : Dev nD) : Vec Ideal S16x16x4992 .f32 :=
  shapeCast S16x16x4992 ((dats m 0 c).arrAt 3 cfg0.N) shapeCasts_S256x4992_S16x16x4992

theorem after_region (c : Dev nD) : Pipeline.withArrays spec0 c (V0 m c) (fun w => (dats m 0 c).arrAt w cfg0.N) (Proc.devRef .tc main_v21)
    = (dats m 0 c).arrAt 3 cfg0.N :=
  Pipeline.withArrays_arr spec0 (by decide) c (V0 m c) _ 3

theorem tail36 (c : Dev nD) : Pipeline.afterTail₀ cfgs (dats m) 0 (V0 m) [hostOps1] c main_v36 = shapeCast S16x16x2x128 (extractStridedSlice S16x16x256 ![0, 0, 3840] (cols m c) slices_S16x16x4992_S16x16x256_0_0_3840) shapeCasts_S16x16x256_S16x16x2x128 := by
  show StableHlo.after hostOps1 _ _ = _
  simp only [hostOps1]
  after_results
  rw [after_region]
  rfl

theorem tail23 (c : Dev nD) : Pipeline.afterTail₀ cfgs (dats m) 0 (V0 m) [hostOps1] c main_v23 = extractStridedSlice S16x15x512 ![0, 1, 3072] (cols m c) slices_S16x16x4992_S16x15x512_0_1_3072 := by
  show StableHlo.after hostOps1 _ _ = _
  simp only [hostOps1]
  after_results
  rw [after_region]
  rfl

theorem tail24 (c : Dev nD) : Pipeline.afterTail₀ cfgs (dats m) 0 (V0 m) [hostOps1] c main_v24 = extractStridedSlice S16x16x1024 ![0, 0, 0] (cols m c) slices_S16x16x4992_S16x16x1024_0_0_0 := by
  show StableHlo.after hostOps1 _ _ = _
  simp only [hostOps1]
  after_results
  rw [after_region]
  rfl

theorem tail25 (c : Dev nD) : Pipeline.afterTail₀ cfgs (dats m) 0 (V0 m) [hostOps1] c main_v25 = extractStridedSlice S16x16x256 ![0, 0, 3584] (cols m c) slices_S16x16x4992_S16x16x256_0_0_3584 := by
  show StableHlo.after hostOps1 _ _ = _
  simp only [hostOps1]
  after_results
  rw [after_region]
  rfl

theorem tail26 (c : Dev nD) : Pipeline.afterTail₀ cfgs (dats m) 0 (V0 m) [hostOps1] c main_v26 = extractStridedSlice S16x16x1024 ![0, 0, 1024] (cols m c) slices_S16x16x4992_S16x16x1024_0_0_1024 := by
  show StableHlo.after hostOps1 _ _ = _
  simp only [hostOps1]
  after_results
  rw [after_region]
  rfl

theorem tail27 (c : Dev nD) : Pipeline.afterTail₀ cfgs (dats m) 0 (V0 m) [hostOps1] c main_v27 = extractStridedSlice S16x16x64 ![0, 0, 4608] (cols m c) slices_S16x16x4992_S16x16x64_0_0_4608 := by
  show StableHlo.after hostOps1 _ _ = _
  simp only [hostOps1]
  after_results
  rw [after_region]
  rfl

theorem tail28 (c : Dev nD) : Pipeline.afterTail₀ cfgs (dats m) 0 (V0 m) [hostOps1] c main_v28 = extractStridedSlice S16x16x16 ![0, 0, 4736] (cols m c) slices_S16x16x4992_S16x16x16_0_0_4736 := by
  show StableHlo.after hostOps1 _ _ = _
  simp only [hostOps1]
  after_results
  rw [after_region]
  rfl

theorem tail29 (c : Dev nD) : Pipeline.afterTail₀ cfgs (dats m) 0 (V0 m) [hostOps1] c main_v29 = extractStridedSlice S16x16x256 ![0, 0, 4096] (cols m c) slices_S16x16x4992_S16x16x256_0_0_4096 := by
  show StableHlo.after hostOps1 _ _ = _
  simp only [hostOps1]
  after_results
  rw [after_region]
  rfl

theorem tail30 (c : Dev nD) : Pipeline.afterTail₀ cfgs (dats m) 0 (V0 m) [hostOps1] c main_v30 = extractStridedSlice S16x16x256 ![0, 0, 4352] (cols m c) slices_S16x16x4992_S16x16x256_0_0_4352 := by
  show StableHlo.after hostOps1 _ _ = _
  simp only [hostOps1]
  after_results
  rw [after_region]
  rfl

theorem tail31 (c : Dev nD) : Pipeline.afterTail₀ cfgs (dats m) 0 (V0 m) [hostOps1] c main_v31 = extractStridedSlice S16x16x512 ![0, 0, 2048] (cols m c) slices_S16x16x4992_S16x16x512_0_0_2048 := by
  show StableHlo.after hostOps1 _ _ = _
  simp only [hostOps1]
  after_results
  rw [after_region]
  rfl

theorem tail32 (c : Dev nD) : Pipeline.afterTail₀ cfgs (dats m) 0 (V0 m) [hostOps1] c main_v32 = extractStridedSlice S16x16x16 ![0, 0, 4864] (cols m c) slices_S16x16x4992_S16x16x16_0_0_4864 := by
  show StableHlo.after hostOps1 _ _ = _
  simp only [hostOps1]
  after_results
  rw [after_region]
  rfl

theorem tail33 (c : Dev nD) : Pipeline.afterTail₀ cfgs (dats m) 0 (V0 m) [hostOps1] c main_v33 = extractStridedSlice S16x16x512 ![0, 0, 2560] (cols m c) slices_S16x16x4992_S16x16x512_0_0_2560 := by
  show StableHlo.after hostOps1 _ _ = _
  simp only [hostOps1]
  after_results
  rw [after_region]
  rfl

theorem tail34 (c : Dev nD) : Pipeline.afterTail₀ cfgs (dats m) 0 (V0 m) [hostOps1] c main_v34 = extractStridedSlice S16x16x512 ![0, 0, 3072] (cols m c) slices_S16x16x4992_S16x16x512_0_0_3072 := by
  show StableHlo.after hostOps1 _ _ = _
  simp only [hostOps1]
  after_results
  rw [after_region]
  rfl

/-- The run: each result is a cut of those columns, and the arguments are unchanged. -/
theorem run : θ_run defs (onTc (τ := τ) (main (F := Ideal))) ⟨m, fun _ => 0, ρ⟩ fun r => ∀ c : Dev nD,
      r.2.mem ((c.tc : Thread nD τ).loc main_v36) = shapeCast S16x16x2x128 (extractStridedSlice S16x16x256 ![0, 0, 3840] (cols m c) slices_S16x16x4992_S16x16x256_0_0_3840) shapeCasts_S16x16x256_S16x16x2x128
      ∧ r.2.mem ((c.tc : Thread nD τ).loc main_v23) = extractStridedSlice S16x15x512 ![0, 1, 3072] (cols m c) slices_S16x16x4992_S16x15x512_0_1_3072
      ∧ r.2.mem ((c.tc : Thread nD τ).loc main_v24) = extractStridedSlice S16x16x1024 ![0, 0, 0] (cols m c) slices_S16x16x4992_S16x16x1024_0_0_0
      ∧ r.2.mem ((c.tc : Thread nD τ).loc main_v25) = extractStridedSlice S16x16x256 ![0, 0, 3584] (cols m c) slices_S16x16x4992_S16x16x256_0_0_3584
      ∧ r.2.mem ((c.tc : Thread nD τ).loc main_v26) = extractStridedSlice S16x16x1024 ![0, 0, 1024] (cols m c) slices_S16x16x4992_S16x16x1024_0_0_1024
      ∧ r.2.mem ((c.tc : Thread nD τ).loc main_v27) = extractStridedSlice S16x16x64 ![0, 0, 4608] (cols m c) slices_S16x16x4992_S16x16x64_0_0_4608
      ∧ r.2.mem ((c.tc : Thread nD τ).loc main_v28) = extractStridedSlice S16x16x16 ![0, 0, 4736] (cols m c) slices_S16x16x4992_S16x16x16_0_0_4736
      ∧ r.2.mem ((c.tc : Thread nD τ).loc main_v29) = extractStridedSlice S16x16x256 ![0, 0, 4096] (cols m c) slices_S16x16x4992_S16x16x256_0_0_4096
      ∧ r.2.mem ((c.tc : Thread nD τ).loc main_v30) = extractStridedSlice S16x16x256 ![0, 0, 4352] (cols m c) slices_S16x16x4992_S16x16x256_0_0_4352
      ∧ r.2.mem ((c.tc : Thread nD τ).loc main_v31) = extractStridedSlice S16x16x512 ![0, 0, 2048] (cols m c) slices_S16x16x4992_S16x16x512_0_0_2048
      ∧ r.2.mem ((c.tc : Thread nD τ).loc main_v32) = extractStridedSlice S16x16x16 ![0, 0, 4864] (cols m c) slices_S16x16x4992_S16x16x16_0_0_4864
      ∧ r.2.mem ((c.tc : Thread nD τ).loc main_v33) = extractStridedSlice S16x16x512 ![0, 0, 2560] (cols m c) slices_S16x16x4992_S16x16x512_0_0_2560
      ∧ r.2.mem ((c.tc : Thread nD τ).loc main_v34) = extractStridedSlice S16x16x512 ![0, 0, 3072] (cols m c) slices_S16x16x4992_S16x16x512_0_0_3072
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨
     ((h.1 c).2 main_v36 (Pipeline.mem_restRefs_of main_v36 (by decide) (by decide))).trans (tail36 m c),
     ((h.1 c).2 main_v23 (Pipeline.mem_restRefs_of main_v23 (by decide) (by decide))).trans (tail23 m c),
     ((h.1 c).2 main_v24 (Pipeline.mem_restRefs_of main_v24 (by decide) (by decide))).trans (tail24 m c),
     ((h.1 c).2 main_v25 (Pipeline.mem_restRefs_of main_v25 (by decide) (by decide))).trans (tail25 m c),
     ((h.1 c).2 main_v26 (Pipeline.mem_restRefs_of main_v26 (by decide) (by decide))).trans (tail26 m c),
     ((h.1 c).2 main_v27 (Pipeline.mem_restRefs_of main_v27 (by decide) (by decide))).trans (tail27 m c),
     ((h.1 c).2 main_v28 (Pipeline.mem_restRefs_of main_v28 (by decide) (by decide))).trans (tail28 m c),
     ((h.1 c).2 main_v29 (Pipeline.mem_restRefs_of main_v29 (by decide) (by decide))).trans (tail29 m c),
     ((h.1 c).2 main_v30 (Pipeline.mem_restRefs_of main_v30 (by decide) (by decide))).trans (tail30 m c),
     ((h.1 c).2 main_v31 (Pipeline.mem_restRefs_of main_v31 (by decide) (by decide))).trans (tail31 m c),
     ((h.1 c).2 main_v32 (Pipeline.mem_restRefs_of main_v32 (by decide) (by decide))).trans (tail32 m c),
     ((h.1 c).2 main_v33 (Pipeline.mem_restRefs_of main_v33 (by decide) (by decide))).trans (tail33 m c),
     ((h.1 c).2 main_v34 (Pipeline.mem_restRefs_of main_v34 (by decide) (by decide))).trans (tail34 m c),
     h.2 c⟩) (θ_run_and (run_main m ρ) (unchanged m ρ))

end Cert.Kernel5Ideal.Hand

end
-- ==== Proof.OutRow.lean ====
module

public import proofs.«01_k».proof.Proof.ProjRow

@[expose] public section

/-! # The output projection of one row

The three mixers' outputs stand side by side in one row of 2048; multiplying that row by a column of the weights is
the sum of three shorter products, each with its own stretch of the column. -/

noncomputable section

namespace Cert.Out

open Idealize.ShloMosaic
open scoped BigOperators

/-- The three mixers' outputs against one column of the weights, stretch by stretch. -/
def mixed (a : Fin 1024 → EReal) (b c : Fin 512 → EReal) (w : Fin 2048 → EReal) : EReal :=
  ∑ i : Fin 1024, a i * w ⟨i.val, by omega⟩ + ∑ i : Fin 512, b i * w ⟨1024 + i.val, by omega⟩
    + ∑ i : Fin 512, c i * w ⟨1536 + i.val, by omega⟩

/-- A sum over three stretches laid end to end. -/
theorem split (n a b c d : ℕ) (hd : d = a + b) (hn : n = d + c) (f : Fin n → EReal) :
    ∑ j, f j = ∑ i : Fin a, f ⟨i.val, by omega⟩ + ∑ i : Fin b, f ⟨a + i.val, by omega⟩ + ∑ i : Fin c, f ⟨d + i.val, by omega⟩ := by
  subst hd hn
  rw [Fin.sum_univ_add, Fin.sum_univ_add]
  rfl

/-- The same as one sum along the joined row. -/
theorem mixed_eq (a : Fin 1024 → EReal) (b c : Fin 512 → EReal) (w f : Fin 2048 → EReal)
    (ha : ∀ (i : Fin 1024) (j : Fin 2048), j.val = i.val → f j = a i)
    (hb : ∀ (i : Fin 512) (j : Fin 2048), j.val = 1024 + i.val → f j = b i)
    (hc : ∀ (i : Fin 512) (j : Fin 2048), j.val = 1536 + i.val → f j = c i) :
    ∑ j : Fin 2048, f j * w j = mixed a b c w := by
  rw [split 2048 1024 512 512 1536 (by norm_num) (by norm_num) fun j => f j * w j]
  simp only [fun i => ha i ⟨i.val, by omega⟩ rfl, fun i => hb i ⟨1024 + i.val, by omega⟩ rfl, fun i => hc i ⟨1536 + i.val, by omega⟩ rfl]
  rfl

theorem normed_congr {f f' g g' : Fin 2048 → EReal} {d d' : Fin 2048} (hf : ∀ e, f e = f' e) (hg : ∀ e, g e = g' e) (hd : d = d') :
    Proj.normed f g d = Proj.normed f' g' d' := by
  rw [funext hf, funext hg, hd]

end Cert.Out

end
-- ==== Proof.OutPrompt.lean ====
module

public import proofs.«01_k».proof.Proof.Gen.Kernel6Ideal.Value
public import proofs.«01_k».proof.Proof.OutRow
public import Idealize.ShloMosaic.Lib.Pipeline.ValueKit

@[expose] public section

set_option maxRecDepth 16384

/-! # The output projection of the prompt rows, at an index -/

noncomputable section

namespace Cert.Kernel6Ideal.Hand

open Cert.Kernel6Ideal Cert.Kernel6Ideal.Gen
open Idealize.ShloMosaic Idealize.ShloMosaic.TcCoe Idealize.SL.Sem
open scoped BigOperators

variable (m : (ℓ : Loc nD τ sig) → Buf (Elt Ideal) ℓ)

theorem pay2 (v0 : Vec Ideal S512x1024 .bf16) (v2 : Vec Ideal S1024x2048 .bf16) (v5 : Vec Ideal S512x512 .bf16) (v7 : Vec Ideal S512x2048 .bf16)
    (v11 : Vec Ideal S512x512 .bf16) (v13 : Vec Ideal S512x2048 .bf16) (v17 : Vec Ideal S512x2048 .f32) (r : Fin 512) (d : Fin 2048) :
    k0_pay2 v0 v2 v5 v7 v11 v13 v17 (ix2 r d) = v17 (ix2 r d) + (∑ i : Fin 1024, v0 (ix2 r i) * v2 (ix2 i d)
      + ∑ i : Fin 512, v5 (ix2 r i) * v7 (ix2 i d) + ∑ i : Fin 512, v11 (ix2 r i) * v13 (ix2 i d)) := by
  pointwise [k0_pay2]

theorem pay3 (v0 : Vec Ideal S512x1024 .bf16) (v2 : Vec Ideal S1024x2048 .bf16) (v5 : Vec Ideal S512x512 .bf16) (v7 : Vec Ideal S512x2048 .bf16)
    (v11 : Vec Ideal S512x512 .bf16) (v13 : Vec Ideal S512x2048 .bf16) (v17 : Vec Ideal S512x2048 .f32) (v30 : Vec Ideal S1x2048 .f32)
    (r : Fin 512) (d : Fin 2048) :
    k0_pay1 (k0_pay3 v0 v2 v5 v7 v11 v13 v17 v30) (ix2 r d)
      = Proj.normed (fun e => k0_pay2 v0 v2 v5 v7 v11 v13 v17 (ix2 r e)) (fun e => v30 (ix2 0 e)) d := by
  unfold k0_pay1 k0_pay3
  generalize k0_pay2 v0 v2 v5 v7 v11 v13 v17 = h
  pointwise [Proj.normed]

/-- One entry of the residual, in the blocks. -/
def entry (x0 : Vec Ideal S512x2048 .f32) (x1 : Vec Ideal S512x1024 .bf16) (x2 x3 : Vec Ideal S512x512 .bf16) (x4 : Vec Ideal S2048x2048 .bf16)
    (r : Fin 512) (d : Fin 2048) : EReal :=
  x0 (ix2 r d) + Out.mixed (fun i => x1 (ix2 r i)) (fun i => x2 (ix2 r i)) (fun i => x3 (ix2 r i)) (fun j => x4 (ix2 j d))

/-- One row of the residual the body leaves, -/
theorem out6 (x0 : Vec Ideal S512x2048 .f32) (x1 : Vec Ideal S512x1024 .bf16) (x2 x3 : Vec Ideal S512x512 .bf16) (x4 : Vec Ideal S2048x2048 .bf16)
    (x5 : Vec Ideal S1x2048 .f32) (r : Fin 512) (d : Fin 2048) : out0_6 x0 x1 x2 x3 x4 x5 (ix2 r d) = entry x0 x1 x2 x3 x4 r d := by
  frame_out
  rw [pay2]
  pointwise [entry, Out.mixed]

/-- and one row of its norm. -/
theorem out7 (x0 : Vec Ideal S512x2048 .f32) (x1 : Vec Ideal S512x1024 .bf16) (x2 x3 : Vec Ideal S512x512 .bf16) (x4 : Vec Ideal S2048x2048 .bf16)
    (x5 : Vec Ideal S1x2048 .f32) (r : Fin 512) (d : Fin 2048) :
    out0_7 x0 x1 x2 x3 x4 x5 (ix2 r d) = Proj.normed (entry x0 x1 x2 x3 x4 r) (fun e => x5 (ix2 0 e)) d := by
  frame_out
  rw [pay3]
  refine Out.normed_congr (fun e => ?_) (fun e => ?_) rfl
  · rw [pay2]
    pointwise [entry, Out.mixed]
  · pointwise

/-- The block each window is on at point `t`: row block `t` of the rows, all of the weights and gains. -/
theorem blocks : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-! The arrays the region starts on: rounded copies of the mixers' outputs and the weights, the same at the ideal
    instance; the gains as a row. -/

theorem arr1 (c : Dev nD) : V m c main_v0 = m ((c.tc : Thread nD τ).loc main_arg1) := by
  show StableHlo.after hostOps0 _ _ = _; simp only [hostOps0]; after_results; rfl
theorem arr2 (c : Dev nD) : V m c main_v1 = m ((c.tc : Thread nD τ).loc main_arg2) := by
  show StableHlo.after hostOps0 _ _ = _; simp only [hostOps0]; after_results; rfl
theorem arr3 (c : Dev nD) : V m c main_v2 = m ((c.tc : Thread nD τ).loc main_arg3) := by
  show StableHlo.after hostOps0 _ _ = _; simp only [hostOps0]; after_results; rfl
theorem arr4 (c : Dev nD) : V m c main_v3 = m ((c.tc : Thread nD τ).loc main_arg4) := by
  show StableHlo.after hostOps0 _ _ = _; simp only [hostOps0]; after_results; rfl
theorem arr5 (c : Dev nD) : V m c main_v4 = shapeCast S1x2048 (m ((c.tc : Thread nD τ).loc main_arg5)) shapeCasts_S2048_S1x2048 := by
  show StableHlo.after hostOps0 _ _ = _; simp only [hostOps0]; after_results; rfl

/-! Each window's block at an index, in the arguments. -/

section
variable (c : Dev nD) (t : Fin cfg0.N) (r : Fin 512) (p : Fin 32768) (hp : p.val = t.val * 512 + r.val)
include hp

theorem in0 (d : Fin 2048) : iblk m c 0 t (ix2 r d) = m ((c.tc : Thread nD τ).loc main_arg0) (ix2 p d) := by
  obtain ⟨⟨a, b⟩, -⟩ := blocks t
  refine (congrArg (V m c main_arg0) (Proj.idx_eq _ p d ?_ ?_)).trans (congrFun (V_main_arg0 m c) _)
  · show win0_0.index t (0 : Fin 2) * 512 + 1 * r.val = p.val; rw [a, hp, Nat.one_mul]
  · show win0_0.index t (1 : Fin 2) * 2048 + 1 * d.val = d.val; rw [b]; omega

theorem in1 (i : Fin 1024) : iblk m c 1 t (ix2 r i) = m ((c.tc : Thread nD τ).loc main_arg1) (ix2 p i) := by
  obtain ⟨-, ⟨a, b⟩, -⟩ := blocks t
  refine (congrArg (V m c main_v0) (Proj.idx_eq _ p i ?_ ?_)).trans (congrFun (arr1 m c) _)
  · show win0_1.index t (0 : Fin 2) * 512 + 1 * r.val = p.val; rw [a, hp, Nat.one_mul]
  · show win0_1.index t (1 : Fin 2) * 1024 + 1 * i.val = i.val; rw [b]; omega

theorem in2 (i : Fin 512) : iblk m c 2 t (ix2 r i) = m ((c.tc : Thread nD τ).loc main_arg2) (ix2 p i) := by
  obtain ⟨-, -, ⟨a, b⟩, -⟩ := blocks t
  refine (congrArg (V m c main_v1) (Proj.idx_eq _ p i ?_ ?_)).trans (congrFun (arr2 m c) _)
  · show win0_2.index t (0 : Fin 2) * 512 + 1 * r.val = p.val; rw [a, hp, Nat.one_mul]
  · show win0_2.index t (1 : Fin 2) * 512 + 1 * i.val = i.val; rw [b]; omega

theorem in3 (i : Fin 512) : iblk m c 3 t (ix2 r i) = m ((c.tc : Thread nD τ).loc main_arg3) (ix2 p i) := by
  obtain ⟨-, -, -, ⟨a, b⟩, -⟩ := blocks t
  refine (congrArg (V m c main_v2) (Proj.idx_eq _ p i ?_ ?_)).trans (congrFun (arr3 m c) _)
  · show win0_3.index t (0 : Fin 2) * 512 + 1 * r.val = p.val; rw [a, hp, Nat.one_mul]
  · show win0_3.index t (1 : Fin 2) * 512 + 1 * i.val = i.val; rw [b]; omega
end

theorem in4 (c : Dev nD) (t : Fin cfg0.N) (j d : Fin 2048) : iblk m c 4 t (ix2 j d) = m ((c.tc : Thread nD τ).loc main_arg4) (ix2 j d) := by
  obtain ⟨-, -, -, -, ⟨a, b⟩, -⟩ := blocks t
  refine (congrArg (V m c main_v3) (Proj.idx_eq _ j d ?_ ?_)).trans (congrFun (arr4 m c) _)
  · show win0_4.index t (0 : Fin 2) * 2048 + 1 * j.val = j.val; rw [a]; omega
  · show win0_4.index t (1 : Fin 2) * 2048 + 1 * d.val = d.val; rw [b]; omega

theorem in5 (c : Dev nD) (t : Fin cfg0.N) (d : Fin 2048) : iblk m c 5 t (ix2 0 d) = m ((c.tc : Thread nD τ).loc main_arg5) (ix1 d) := by
  obtain ⟨-, -, -, -, -, ⟨a, b⟩, -⟩ := blocks t
  refine (congrArg (V m c main_v4) (Proj.idx_eq _ 0 d ?_ ?_)).trans ((congrFun (arr5 m c) _).trans ?_)
  · show win0_5.index t (0 : Fin 2) * 1 + 1 * 0 = 0; rw [a]
  · show win0_5.index t (1 : Fin 2) * 2048 + 1 * d.val = d.val; rw [b]; omega
  · pointwise

/-- The residual at row `p`, column `d`. -/
def residual (x : Vec Ideal S32768x2048 .f32) (a : Vec Ideal S32768x1024 .f32) (b c : Vec Ideal S32768x512 .f32) (w : Vec Ideal S2048x2048 .f32)
    (p : Fin 32768) (d : Fin 2048) : EReal :=
  x (ix2 p d) + Out.mixed (fun i => a (ix2 p i)) (fun i => b (ix2 p i)) (fun i => c (ix2 p i)) (fun j => w (ix2 j d))

/-- The arguments' residual. -/
def res (c : Dev nD) : Fin 32768 → Fin 2048 → EReal :=
  residual (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem row (c : Dev nD) (t : Fin cfg0.N) (r : Fin 512) (p : Fin 32768) (hp : p.val = t.val * 512 + r.val) (d : Fin 2048) :
    entry (iblk m c 0 t) (iblk m c 1 t) (iblk m c 2 t) (iblk m c 3 t) (iblk m c 4 t) r d = res m c p d := by
  unfold entry
  rw [in0 m c t r p hp, funext fun i => in1 m c t r p hp i, funext fun i => in2 m c t r p hp i, funext fun i => in3 m c t r p hp i,
    funext fun j => in4 m c t j d]
  rfl

/-- The blocks a point writes, -/
theorem block6 (c : Dev nD) (t : Fin cfg0.N) (r : Fin 512) (d : Fin 2048) (p : Fin 32768) (q : Fin 2048) (hp : p.val = t.val * 512 + r.val)
    (hq : q.val = d.val) : out0_6 (iblk m c 0 t) (iblk m c 1 t) (iblk m c 2 t) (iblk m c 3 t) (iblk m c 4 t) (iblk m c 5 t) (ix2 r d) = res m c p q := by
  obtain rfl : q = d := Fin.ext hq
  exact (out6 (iblk m c 0 t) (iblk m c 1 t) (iblk m c 2 t) (iblk m c 3 t) (iblk m c 4 t) (iblk m c 5 t) r q).trans (row m c t r p hp q)

/-- its norm too, -/
theorem block7 (c : Dev nD) (t : Fin cfg0.N) (r : Fin 512) (d : Fin 2048) (p : Fin 32768) (q : Fin 2048) (hp : p.val = t.val * 512 + r.val)
    (hq : q.val = d.val) : out0_7 (iblk m c 0 t) (iblk m c 1 t) (iblk m c 2 t) (iblk m c 3 t) (iblk m c 4 t) (iblk m c 5 t) (ix2 r d)
      = Proj.normed (res m c p) (fun e => m ((c.tc : Thread nD τ).loc main_arg5) (ix1 e)) q := by
  obtain rfl : q = d := Fin.ext hq
  exact (out7 (iblk m c 0 t) (iblk m c 1 t) (iblk m c 2 t) (iblk m c 3 t) (iblk m c 4 t) (iblk m c 5 t) r q).trans (Out.normed_congr (fun e => row m c t r p hp e) (fun e => in5 m c t e) rfl)

/-- and the two arrays after the run. -/
theorem array6 (c : Dev nD) : (dats m 0 c).arrAt 6 cfg0.N = fun i : S32768x2048.Idx => res m c (i 0) (i 1) := by
  refine (dats m 0 c).arrAt_eq_of_covers 6 _ (by decide +kernel) fun t _ y => ?_
  rw [after0_6]
  obtain ⟨r, d, rfl⟩ : ∃ (r : Fin 512) (d : Fin 2048), y = ix2 r d := ⟨y 0, y 1, eq_ix2 y⟩
  obtain ⟨-, -, -, -, -, -, ⟨a, b⟩, -⟩ := blocks t
  have key := block6 m c t r d
  generalize out0_6 (iblk m c 0 t) (iblk m c 1 t) (iblk m c 2 t) (iblk m c 3 t) (iblk m c 4 t) (iblk m c 5 t) = f at key ⊢
  refine key _ _ ?_ ?_
  · show win0_6.index t (0 : Fin 2) * 512 + 1 * r.val = _; rw [a, Nat.one_mul]
  · show win0_6.index t (1 : Fin 2) * 2048 + 1 * d.val = _; rw [b]; omega

theorem array7 (c : Dev nD) : (dats m 0 c).arrAt 7 cfg0.N = fun i : S32768x2048.Idx =>
    Proj.normed (res m c (i 0)) (fun e => m ((c.tc : Thread nD τ).loc main_arg5) (ix1 e)) (i 1) := by
  refine (dats m 0 c).arrAt_eq_of_covers 7 _ (by decide +kernel) fun t _ y => ?_
  rw [after0_7]
  obtain ⟨r, d, rfl⟩ : ∃ (r : Fin 512) (d : Fin 2048), y = ix2 r d := ⟨y 0, y 1, eq_ix2 y⟩
  obtain ⟨-, -, -, -, -, -, -, a, b⟩ := blocks t
  have key := block7 m c t r d
  generalize out0_7 (iblk m c 0 t) (iblk m c 1 t) (iblk m c 2 t) (iblk m c 3 t) (iblk m c 4 t) (iblk m c 5 t) = f at key ⊢
  refine key _ _ ?_ ?_
  · show win0_7.index t (0 : Fin 2) * 512 + 1 * r.val = _; rw [a, Nat.one_mul]
  · show win0_7.index t (1 : Fin 2) * 2048 + 1 * d.val = _; rw [b]; omega

end Cert.Kernel6Ideal.Hand

end
-- ==== Proof.OutPromptRef.lean ====
module

public import proofs.«01_k».proof.Proof.Gen.Reference6Ideal.Run
public import proofs.«01_k».proof.Proof.OutRow

@[expose] public section

set_option maxRecDepth 16384

/-! # The plain output projection of the prompt rows, at an index -/

noncomputable section

namespace Cert.Reference6Ideal.Hand

open Cert.Reference6Ideal Cert.Reference6Ideal.Gen
open Idealize.ShloMosaic

/-- The three mixers' outputs side by side. -/
def joined (a : FVec Ideal S32768x1024 .f32) (b c : FVec Ideal S32768x512 .f32) : FVec Ideal S32768x2048 .f32 :=
  concatenate S32768x2048 1 [⟨S32768x1024, a⟩, ⟨S32768x512, b⟩, ⟨S32768x512, c⟩] concatenates_S32768x1024_S32768x512_S32768x512_S32768x2048_d1

theorem joined_a (a : FVec Ideal S32768x1024 .f32) (b c : FVec Ideal S32768x512 .f32) (p : Fin 32768) (i : Fin 1024) (j : Fin 2048)
    (h : j.val = i.val) : joined a b c (ix2 p j) = a (ix2 p i) := by
  pointwise [joined]
  rw [dif_pos (by omega)]
  exact congrArg (fun k => a (ix2 p k)) (Fin.ext h)

theorem joined_b (a : FVec Ideal S32768x1024 .f32) (b c : FVec Ideal S32768x512 .f32) (p : Fin 32768) (i : Fin 512) (j : Fin 2048)
    (h : j.val = 1024 + i.val) : joined a b c (ix2 p j) = b (ix2 p i) := by
  pointwise [joined]
  rw [dif_neg (by omega), dif_pos (by omega)]
  exact congrArg (fun k => b (ix2 p k)) (Fin.ext (by show j.val - 1024 = _; omega))

theorem joined_c (a : FVec Ideal S32768x1024 .f32) (b c : FVec Ideal S32768x512 .f32) (p : Fin 32768) (i : Fin 512) (j : Fin 2048)
    (h : j.val = 1536 + i.val) : joined a b c (ix2 p j) = c (ix2 p i) := by
  pointwise [joined]
  rw [dif_neg (by omega), dif_neg (by omega)]
  exact congrArg (fun k => c (ix2 p k)) (Fin.ext (by show j.val - 1024 - 512 = _; omega))

/-- The residual the reference computes, -/
def resid (x : FVec Ideal S32768x2048 .f32) (f : FVec Ideal S32768x2048 .f32) (w : FVec Ideal S2048x2048 .f32) : FVec Ideal S32768x2048 .f32 :=
  addf x (Host.dotGeneral dot_S32768x2048_S2048x2048_S32768x2048_1_0_0_1_n_n none f w)

theorem resid_sum (x f : FVec Ideal S32768x2048 .f32) (w : FVec Ideal S2048x2048 .f32) (p : Fin 32768) (d : Fin 2048) :
    resid x f w (ix2 p d) = x (ix2 p d) + ∑ j : Fin 2048, f (ix2 p j) * w (ix2 j d) := by
  pointwise [resid]

theorem resid_eq (x : FVec Ideal S32768x2048 .f32) (a : FVec Ideal S32768x1024 .f32) (b c : FVec Ideal S32768x512 .f32)
    (w : FVec Ideal S2048x2048 .f32) (p : Fin 32768) (d : Fin 2048) :
    resid x (joined a b c) w (ix2 p d) = x (ix2 p d) + Out.mixed (fun i => a (ix2 p i)) (fun i => b (ix2 p i)) (fun i => c (ix2 p i))
      (fun j => w (ix2 j d)) := by
  rw [resid_sum, Out.mixed_eq _ _ _ (fun j => w (ix2 j d)) (fun j => joined a b c (ix2 p j)) (joined_a a b c p) (joined_b a b c p)
    (joined_c a b c p)]

/-- and its norm. -/
def norm (h : FVec Ideal S32768x2048 .f32) (g : FVec Ideal S2048 .f32) : FVec Ideal S32768x2048 .bf16 :=
  truncf .bf16 (mulf (mulf h (broadcastInDim S32768x2048 ![0, 1] bcast_S32768x1_S32768x2048_0_1 (Host.rsqrt (addf (Host.divf (broadcastInDim S32768x1 ![0] bcast_S32768_S32768x1_0 (Host.reduceAdd (mulf h h) (constant (F := Ideal) S_ .f32 0x00000000#32) reducesTo_S32768x2048_S32768_d1 h_S_)) (broadcastInDim S32768x1 ![] bcast_S_S32768x1 (constant (F := Ideal) S_ .f32 0x45000000#32))) (broadcastInDim S32768x1 ![] bcast_S_S32768x1 (constant (F := Ideal) S_ .f32 0x358637BD#32)))))) (broadcastInDim S32768x2048 ![0, 1] bcast_S1x2048_S32768x2048_0_1 (broadcastInDim S1x2048 ![1] bcast_S2048_S1x2048_1 g))) bitsLt_bf16_f32

theorem norm_eq (h : FVec Ideal S32768x2048 .f32) (g : FVec Ideal S2048 .f32) (p : Fin 32768) (d : Fin 2048) :
    norm h g (ix2 p d) = Proj.normed (fun e => h (ix2 p e)) (fun e => g (ix1 e)) d := by
  pointwise [norm, Proj.normed]

end Cert.Reference6Ideal.Hand

end
-- ==== Proof.OutSample.lean ====
module

public import proofs.«01_k».proof.Proof.Gen.Kernel7Ideal.Value
public import proofs.«01_k».proof.Proof.OutRow
public import Idealize.ShloMosaic.Lib.Pipeline.ValueKit

@[expose] public section

set_option maxRecDepth 16384

/-! # The output projection of the sample rows, at an index -/

noncomputable section

namespace Cert.Kernel7Ideal.Hand

open Cert.Kernel7Ideal Cert.Kernel7Ideal.Gen
open Idealize.ShloMosaic Idealize.ShloMosaic.TcCoe Idealize.SL.Sem
open scoped BigOperators

variable (m : (ℓ : Loc nD τ sig) → Buf (Elt Ideal) ℓ)

theorem pay2 (v0 : Vec Ideal S256x1024 .bf16) (v2 : Vec Ideal S1024x2048 .bf16) (v5 : Vec Ideal S256x512 .bf16) (v7 : Vec Ideal S512x2048 .bf16)
    (v11 : Vec Ideal S256x512 .bf16) (v13 : Vec Ideal S512x2048 .bf16) (v17 : Vec Ideal S256x2048 .f32) (r : Fin 256) (d : Fin 2048) :
    k0_pay2 v0 v2 v5 v7 v11 v13 v17 (ix2 r d) = v17 (ix2 r d) + (∑ i : Fin 1024, v0 (ix2 r i) * v2 (ix2 i d)
      + ∑ i : Fin 512, v5 (ix2 r i) * v7 (ix2 i d) + ∑ i : Fin 512, v11 (ix2 r i) * v13 (ix2 i d)) := by
  pointwise [k0_pay2]

theorem pay3 (v0 : Vec Ideal S256x1024 .bf16) (v2 : Vec Ideal S1024x2048 .bf16) (v5 : Vec Ideal S256x512 .bf16) (v7 : Vec Ideal S512x2048 .bf16)
    (v11 : Vec Ideal S256x512 .bf16) (v13 : Vec Ideal S512x2048 .bf16) (v17 : Vec Ideal S256x2048 .f32) (v30 : Vec Ideal S1x2048 .f32)
    (r : Fin 256) (d : Fin 2048) :
    k0_pay1 (k0_pay3 v0 v2 v5 v7 v11 v13 v17 v30) (ix2 r d)
      = Proj.normed (fun e => k0_pay2 v0 v2 v5 v7 v11 v13 v17 (ix2 r e)) (fun e => v30 (ix2 0 e)) d := by
  unfold k0_pay1 k0_pay3
  generalize k0_pay2 v0 v2 v5 v7 v11 v13 v17 = h
  pointwise [Proj.normed]

/-- One entry of the residual, in the blocks. -/
def entry (x0 : Vec Ideal S256x2048 .f32) (x1 : Vec Ideal S256x1024 .bf16) (x2 x3 : Vec Ideal S256x512 .bf16) (x4 : Vec Ideal S2048x2048 .bf16)
    (r : Fin 256) (d : Fin 2048) : EReal :=
  x0 (ix2 r d) + Out.mixed (fun i => x1 (ix2 r i)) (fun i => x2 (ix2 r i)) (fun i => x3 (ix2 r i)) (fun j => x4 (ix2 j d))

/-- One row of the residual the body leaves, -/
theorem out6 (x0 : Vec Ideal S256x2048 .f32) (x1 : Vec Ideal S256x1024 .bf16) (x2 x3 : Vec Ideal S256x512 .bf16) (x4 : Vec Ideal S2048x2048 .bf16)
    (x5 : Vec Ideal S1x2048 .f32) (r : Fin 256) (d : Fin 2048) : out0_6 x0 x1 x2 x3 x4 x5 (ix2 r d) = entry x0 x1 x2 x3 x4 r d := by
  frame_out
  rw [pay2]
  pointwise [entry, Out.mixed]

/-- and one row of its norm. -/
theorem out7 (x0 : Vec Ideal S256x2048 .f32) (x1 : Vec Ideal S256x1024 .bf16) (x2 x3 : Vec Ideal S256x512 .bf16) (x4 : Vec Ideal S2048x2048 .bf16)
    (x5 : Vec Ideal S1x2048 .f32) (r : Fin 256) (d : Fin 2048) :
    out0_7 x0 x1 x2 x3 x4 x5 (ix2 r d) = Proj.normed (entry x0 x1 x2 x3 x4 r) (fun e => x5 (ix2 0 e)) d := by
  frame_out
  rw [pay3]
  refine Out.normed_congr (fun e => ?_) (fun e => ?_) rfl
  · rw [pay2]
    pointwise [entry, Out.mixed]
  · pointwise

/-- The block each window is on at point `t`: row block `t` of the rows, all of the weights and gains. -/
theorem blocks : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

/-! The arrays the region starts on: rounded copies of the mixers' outputs and the weights, the same at the ideal
    instance; the gains as a row. -/

theorem arr1 (c : Dev nD) : V m c main_v0 = m ((c.tc : Thread nD τ).loc main_arg1) := by
  show StableHlo.after hostOps0 _ _ = _; simp only [hostOps0]; after_results; rfl
theorem arr2 (c : Dev nD) : V m c main_v1 = m ((c.tc : Thread nD τ).loc main_arg2) := by
  show StableHlo.after hostOps0 _ _ = _; simp only [hostOps0]; after_results; rfl
theorem arr3 (c : Dev nD) : V m c main_v2 = m ((c.tc : Thread nD τ).loc main_arg3) := by
  show StableHlo.after hostOps0 _ _ = _; simp only [hostOps0]; after_results; rfl
theorem arr4 (c : Dev nD) : V m c main_v3 = m ((c.tc : Thread nD τ).loc main_arg4) := by
  show StableHlo.after hostOps0 _ _ = _; simp only [hostOps0]; after_results; rfl
theorem arr5 (c : Dev nD) : V m c main_v4 = shapeCast S1x2048 (m ((c.tc : Thread nD τ).loc main_arg5)) shapeCasts_S2048_S1x2048 := by
  show StableHlo.after hostOps0 _ _ = _; simp only [hostOps0]; after_results; rfl

/-! Each window's block at an index, in the arguments. -/

section
variable (c : Dev nD) (t : Fin cfg0.N) (r : Fin 256) (p : Fin 256) (hp : p.val = t.val * 256 + r.val)
include hp

theorem in0 (d : Fin 2048) : iblk m c 0 t (ix2 r d) = m ((c.tc : Thread nD τ).loc main_arg0) (ix2 p d) := by
  obtain ⟨⟨a, b⟩, -⟩ := blocks t
  refine (congrArg (V m c main_arg0) (Proj.idx_eq _ p d ?_ ?_)).trans (congrFun (V_main_arg0 m c) _)
  · show win0_0.index t (0 : Fin 2) * 256 + 1 * r.val = p.val; rw [a, hp, Nat.one_mul]
  · show win0_0.index t (1 : Fin 2) * 2048 + 1 * d.val = d.val; rw [b]; omega

theorem in1 (i : Fin 1024) : iblk m c 1 t (ix2 r i) = m ((c.tc : Thread nD τ).loc main_arg1) (ix2 p i) := by
  obtain ⟨-, ⟨a, b⟩, -⟩ := blocks t
  refine (congrArg (V m c main_v0) (Proj.idx_eq _ p i ?_ ?_)).trans (congrFun (arr1 m c) _)
  · show win0_1.index t (0 : Fin 2) * 256 + 1 * r.val = p.val; rw [a, hp, Nat.one_mul]
  · show win0_1.index t (1 : Fin 2) * 1024 + 1 * i.val = i.val; rw [b]; omega

theorem in2 (i : Fin 512) : iblk m c 2 t (ix2 r i) = m ((c.tc : Thread nD τ).loc main_arg2) (ix2 p i) := by
  obtain ⟨-, -, ⟨a, b⟩, -⟩ := blocks t
  refine (congrArg (V m c main_v1) (Proj.idx_eq _ p i ?_ ?_)).trans (congrFun (arr2 m c) _)
  · show win0_2.index t (0 : Fin 2) * 256 + 1 * r.val = p.val; rw [a, hp, Nat.one_mul]
  · show win0_2.index t (1 : Fin 2) * 512 + 1 * i.val = i.val; rw [b]; omega

theorem in3 (i : Fin 512) : iblk m c 3 t (ix2 r i) = m ((c.tc : Thread nD τ).loc main_arg3) (ix2 p i) := by
  obtain ⟨-, -, -, ⟨a, b⟩, -⟩ := blocks t
  refine (congrArg (V m c main_v2) (Proj.idx_eq _ p i ?_ ?_)).trans (congrFun (arr3 m c) _)
  · show win0_3.index t (0 : Fin 2) * 256 + 1 * r.val = p.val; rw [a, hp, Nat.one_mul]
  · show win0_3.index t (1 : Fin 2) * 512 + 1 * i.val = i.val; rw [b]; omega
end

theorem in4 (c : Dev nD) (t : Fin cfg0.N) (j d : Fin 2048) : iblk m c 4 t (ix2 j d) = m ((c.tc : Thread nD τ).loc main_arg4) (ix2 j d) := by
  obtain ⟨-, -, -, -, ⟨a, b⟩, -⟩ := blocks t
  refine (congrArg (V m c main_v3) (Proj.idx_eq _ j d ?_ ?_)).trans (congrFun (arr4 m c) _)
  · show win0_4.index t (0 : Fin 2) * 2048 + 1 * j.val = j.val; rw [a]; omega
  · show win0_4.index t (1 : Fin 2) * 2048 + 1 * d.val = d.val; rw [b]; omega

theorem in5 (c : Dev nD) (t : Fin cfg0.N) (d : Fin 2048) : iblk m c 5 t (ix2 0 d) = m ((c.tc : Thread nD τ).loc main_arg5) (ix1 d) := by
  obtain ⟨-, -, -, -, -, ⟨a, b⟩, -⟩ := blocks t
  refine (congrArg (V m c main_v4) (Proj.idx_eq _ 0 d ?_ ?_)).trans ((congrFun (arr5 m c) _).trans ?_)
  · show win0_5.index t (0 : Fin 2) * 1 + 1 * 0 = 0; rw [a]
  · show win0_5.index t (1 : Fin 2) * 2048 + 1 * d.val = d.val; rw [b]; omega
  · pointwise

/-- The residual at row `p`, column `d`. -/
def residual (x : Vec Ideal S256x2048 .f32) (a : Vec Ideal S256x1024 .f32) (b c : Vec Ideal S256x512 .f32) (w : Vec Ideal S2048x2048 .f32)
    (p : Fin 256) (d : Fin 2048) : EReal :=
  x (ix2 p d) + Out.mixed (fun i => a (ix2 p i)) (fun i => b (ix2 p i)) (fun i => c (ix2 p i)) (fun j => w (ix2 j d))

/-- The arguments' residual. -/
def res (c : Dev nD) : Fin 256 → Fin 2048 → EReal :=
  residual (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4))

theorem row (c : Dev nD) (t : Fin cfg0.N) (r : Fin 256) (p : Fin 256) (hp : p.val = t.val * 256 + r.val) (d : Fin 2048) :
    entry (iblk m c 0 t) (iblk m c 1 t) (iblk m c 2 t) (iblk m c 3 t) (iblk m c 4 t) r d = res m c p d := by
  unfold entry
  rw [in0 m c t r p hp, funext fun i => in1 m c t r p hp i, funext fun i => in2 m c t r p hp i, funext fun i => in3 m c t r p hp i,
    funext fun j => in4 m c t j d]
  rfl

/-- The blocks a point writes, -/
theorem block6 (c : Dev nD) (t : Fin cfg0.N) (r : Fin 256) (d : Fin 2048) (p : Fin 256) (q : Fin 2048) (hp : p.val = t.val * 256 + r.val)
    (hq : q.val = d.val) : out0_6 (iblk m c 0 t) (iblk m c 1 t) (iblk m c 2 t) (iblk m c 3 t) (iblk m c 4 t) (iblk m c 5 t) (ix2 r d) = res m c p q := by
  obtain rfl : q = d := Fin.ext hq
  exact (out6 (iblk m c 0 t) (iblk m c 1 t) (iblk m c 2 t) (iblk m c 3 t) (iblk m c 4 t) (iblk m c 5 t) r q).trans (row m c t r p hp q)

/-- its norm too, -/
theorem block7 (c : Dev nD) (t : Fin cfg0.N) (r : Fin 256) (d : Fin 2048) (p : Fin 256) (q : Fin 2048) (hp : p.val = t.val * 256 + r.val)
    (hq : q.val = d.val) : out0_7 (iblk m c 0 t) (iblk m c 1 t) (iblk m c 2 t) (iblk m c 3 t) (iblk m c 4 t) (iblk m c 5 t) (ix2 r d)
      = Proj.normed (res m c p) (fun e => m ((c.tc : Thread nD τ).loc main_arg5) (ix1 e)) q := by
  obtain rfl : q = d := Fin.ext hq
  exact (out7 (iblk m c 0 t) (iblk m c 1 t) (iblk m c 2 t) (iblk m c 3 t) (iblk m c 4 t) (iblk m c 5 t) r q).trans (Out.normed_congr (fun e => row m c t r p hp e) (fun e => in5 m c t e) rfl)

/-- and the two arrays after the run. -/
theorem array6 (c : Dev nD) : (dats m 0 c).arrAt 6 cfg0.N = fun i : S256x2048.Idx => res m c (i 0) (i 1) := by
  refine (dats m 0 c).arrAt_eq_of_covers 6 _ (by decide +kernel) fun t _ y => ?_
  rw [after0_6]
  obtain ⟨r, d, rfl⟩ : ∃ (r : Fin 256) (d : Fin 2048), y = ix2 r d := ⟨y 0, y 1, eq_ix2 y⟩
  obtain ⟨-, -, -, -, -, -, ⟨a, b⟩, -⟩ := blocks t
  have key := block6 m c t r d
  generalize out0_6 (iblk m c 0 t) (iblk m c 1 t) (iblk m c 2 t) (iblk m c 3 t) (iblk m c 4 t) (iblk m c 5 t) = f at key ⊢
  refine key _ _ ?_ ?_
  · show win0_6.index t (0 : Fin 2) * 256 + 1 * r.val = _; rw [a, Nat.one_mul]
  · show win0_6.index t (1 : Fin 2) * 2048 + 1 * d.val = _; rw [b]; omega

theorem array7 (c : Dev nD) : (dats m 0 c).arrAt 7 cfg0.N = fun i : S256x2048.Idx =>
    Proj.normed (res m c (i 0)) (fun e => m ((c.tc : Thread nD τ).loc main_arg5) (ix1 e)) (i 1) := by
  refine (dats m 0 c).arrAt_eq_of_covers 7 _ (by decide +kernel) fun t _ y => ?_
  rw [after0_7]
  obtain ⟨r, d, rfl⟩ : ∃ (r : Fin 256) (d : Fin 2048), y = ix2 r d := ⟨y 0, y 1, eq_ix2 y⟩
  obtain ⟨-, -, -, -, -, -, -, a, b⟩ := blocks t
  have key := block7 m c t r d
  generalize out0_7 (iblk m c 0 t) (iblk m c 1 t) (iblk m c 2 t) (iblk m c 3 t) (iblk m c 4 t) (iblk m c 5 t) = f at key ⊢
  refine key _ _ ?_ ?_
  · show win0_7.index t (0 : Fin 2) * 256 + 1 * r.val = _; rw [a, Nat.one_mul]
  · show win0_7.index t (1 : Fin 2) * 2048 + 1 * d.val = _; rw [b]; omega

end Cert.Kernel7Ideal.Hand

end
-- ==== Proof.OutSampleRef.lean ====
module

public import proofs.«01_k».proof.Proof.Gen.Reference7Ideal.Run
public import proofs.«01_k».proof.Proof.OutRow

@[expose] public section

set_option maxRecDepth 16384

/-! # The plain output projection of the sample rows, at an index -/

noncomputable section

namespace Cert.Reference7Ideal.Hand

open Cert.Reference7Ideal Cert.Reference7Ideal.Gen
open Idealize.ShloMosaic

/-- The three mixers' outputs side by side. -/
def joined (a : FVec Ideal S256x1024 .f32) (b c : FVec Ideal S256x512 .f32) : FVec Ideal S256x2048 .f32 :=
  concatenate S256x2048 1 [⟨S256x1024, a⟩, ⟨S256x512, b⟩, ⟨S256x512, c⟩] concatenates_S256x1024_S256x512_S256x512_S256x2048_d1

theorem joined_a (a : FVec Ideal S256x1024 .f32) (b c : FVec Ideal S256x512 .f32) (p : Fin 256) (i : Fin 1024) (j : Fin 2048)
    (h : j.val = i.val) : joined a b c (ix2 p j) = a (ix2 p i) := by
  pointwise [joined]
  rw [dif_pos (by omega)]
  exact congrArg (fun k => a (ix2 p k)) (Fin.ext h)

theorem joined_b (a : FVec Ideal S256x1024 .f32) (b c : FVec Ideal S256x512 .f32) (p : Fin 256) (i : Fin 512) (j : Fin 2048)
    (h : j.val = 1024 + i.val) : joined a b c (ix2 p j) = b (ix2 p i) := by
  pointwise [joined]
  rw [dif_neg (by omega), dif_pos (by omega)]
  exact congrArg (fun k => b (ix2 p k)) (Fin.ext (by show j.val - 1024 = _; omega))

theorem joined_c (a : FVec Ideal S256x1024 .f32) (b c : FVec Ideal S256x512 .f32) (p : Fin 256) (i : Fin 512) (j : Fin 2048)
    (h : j.val = 1536 + i.val) : joined a b c (ix2 p j) = c (ix2 p i) := by
  pointwise [joined]
  rw [dif_neg (by omega), dif_neg (by omega)]
  exact congrArg (fun k => c (ix2 p k)) (Fin.ext (by show j.val - 1024 - 512 = _; omega))

/-- The residual the reference computes, -/
def resid (x : FVec Ideal S256x2048 .f32) (f : FVec Ideal S256x2048 .f32) (w : FVec Ideal S2048x2048 .f32) : FVec Ideal S256x2048 .f32 :=
  addf x (Host.dotGeneral dot_S256x2048_S2048x2048_S256x2048_1_0_0_1_n_n none f w)

theorem resid_sum (x f : FVec Ideal S256x2048 .f32) (w : FVec Ideal S2048x2048 .f32) (p : Fin 256) (d : Fin 2048) :
    resid x f w (ix2 p d) = x (ix2 p d) + ∑ j : Fin 2048, f (ix2 p j) * w (ix2 j d) := by
  pointwise [resid]

theorem resid_eq (x : FVec Ideal S256x2048 .f32) (a : FVec Ideal S256x1024 .f32) (b c : FVec Ideal S256x512 .f32)
    (w : FVec Ideal S2048x2048 .f32) (p : Fin 256) (d : Fin 2048) :
    resid x (joined a b c) w (ix2 p d) = x (ix2 p d) + Out.mixed (fun i => a (ix2 p i)) (fun i => b (ix2 p i)) (fun i => c (ix2 p i))
      (fun j => w (ix2 j d)) := by
  rw [resid_sum, Out.mixed_eq _ _ _ (fun j => w (ix2 j d)) (fun j => joined a b c (ix2 p j)) (joined_a a b c p) (joined_b a b c p)
    (joined_c a b c p)]

/-- and its norm. -/
def norm (h : FVec Ideal S256x2048 .f32) (g : FVec Ideal S2048 .f32) : FVec Ideal S256x2048 .bf16 :=
  truncf .bf16 (mulf (mulf h (broadcastInDim S256x2048 ![0, 1] bcast_S256x1_S256x2048_0_1 (Host.rsqrt (addf (Host.divf (broadcastInDim S256x1 ![0] bcast_S256_S256x1_0 (Host.reduceAdd (mulf h h) (constant (F := Ideal) S_ .f32 0x00000000#32) reducesTo_S256x2048_S256_d1 h_S_)) (broadcastInDim S256x1 ![] bcast_S_S256x1 (constant (F := Ideal) S_ .f32 0x45000000#32))) (broadcastInDim S256x1 ![] bcast_S_S256x1 (constant (F := Ideal) S_ .f32 0x358637BD#32)))))) (broadcastInDim S256x2048 ![0, 1] bcast_S1x2048_S256x2048_0_1 (broadcastInDim S1x2048 ![1] bcast_S2048_S1x2048_1 g))) bitsLt_bf16_f32

theorem norm_eq (h : FVec Ideal S256x2048 .f32) (g : FVec Ideal S2048 .f32) (p : Fin 256) (d : Fin 2048) :
    norm h g (ix2 p d) = Proj.normed (fun e => h (ix2 p e)) (fun e => g (ix1 e)) d := by
  pointwise [norm, Proj.normed]

end Cert.Reference7Ideal.Hand

end
-- ==== Proof.GlaRow.lean ====
module

public import Idealize.ShloMosaic.Lib.Pipeline.ValueKit

@[expose] public section

/-! # One entry of the state after a block of positions, and the sums of decays in it -/

noncomputable section

namespace Cert.Gla

open Idealize.ShloMosaic
open scoped BigOperators

/-- The sum of the decays after position `s`. -/
def later (l : Fin 16 → EReal) (s : Fin 16) : EReal := ∑ t, if s < t then l t else 0

/-- What the positions add: each position's contribution times the decay after it. -/
def added (l k v : Fin 16 → EReal) : EReal := ∑ s, k s * Ideal.exp (later l s) * v s

/-- The old entry times the whole decay, plus what the positions add. -/
def state (l k v : Fin 16 → EReal) (o : EReal) : EReal := Ideal.exp (∑ t, l t) * o + added l k v

theorem real_sum (f : Fin 16 → EReal) (h : ∀ t, ∃ r : ℝ, f t = r) : ∃ r : ℝ, ∑ t, f t = r := by
  refine Finset.sum_induction f (fun x => ∃ r : ℝ, x = r) ?_ ⟨0, rfl⟩ fun t _ => h t
  rintro _ _ ⟨a, rfl⟩ ⟨b, rfl⟩
  exact ⟨a + b, rfl⟩

/-- Of real decays the parts left over by the first rounding are zero. -/
theorem split (w x : Fin 16 → EReal) (h : ∀ t, ∃ r : ℝ, x t = r) :
    ∑ t, w t * x t + ∑ t, w t * (x t - x t) + ∑ t, w t * (x t - x t - (x t - x t)) = ∑ t, w t * x t := by
  have z : ∀ t, x t - x t = 0 := fun t => by
    obtain ⟨r, hr⟩ := h t
    rw [hr, ← EReal.coe_sub, sub_self]
    rfl
  simp only [z, sub_zero, mul_zero, Finset.sum_const_zero, add_zero]

/-- The sum after a position is the whole sum minus the sum up to it. -/
theorem later_eq (l : Fin 16 → EReal) (h : ∀ t, ∃ r : ℝ, l t = r) (s : Fin 16) :
    (∑ t, l t) - (∑ t, if t ≤ s then l t else 0) = later l s := by
  obtain ⟨r, hr⟩ := real_sum (fun t => if t ≤ s then l t else 0) fun t => by
    by_cases c : t ≤ s
    · rw [if_pos c]; exact h t
    · rw [if_neg c]; exact ⟨0, rfl⟩
  have e : ∑ t, l t = later l s + ∑ t, if t ≤ s then l t else 0 := by
    rw [later, ← Finset.sum_add_distrib]
    refine Finset.sum_congr rfl fun t _ => ?_
    by_cases c : t ≤ s
    · rw [if_pos c, if_neg (not_lt.mpr c), zero_add]
    · rw [if_neg c, if_pos (not_le.mp c), add_zero]
  rw [e, hr]
  exact EReal.add_sub_cancel_right

end Cert.Gla

end
-- ==== Proof.GlaSample.lean ====
module

public import proofs.«01_k».proof.Proof.Gen.Kernel8Ideal.Frame
public import proofs.«01_k».proof.Proof.GlaRow
public import Idealize.ShloMosaic.Lib.Pipeline.ValueKit
public import Idealize.ShloMosaic.Lib.Pipeline.ReadBack

@[expose] public section

set_option maxRecDepth 16384

/-! # The recurrence on the sample rows: the packed states the kernel writes

The kernel splits the decays into three parts, sums each by a matrix of zeros and ones, and adds the sums again; it keeps the
states of two heads in one block, each on a square of the diagonal. Here an entry of a written block is read off, then the
whole array, then the states packed before the call and taken out after it. -/

noncomputable section

namespace Cert.Kernel8Ideal.Hand

open Cert.Kernel8Ideal Cert.Kernel8Ideal.Gen
open Idealize.ShloMosaic Idealize.ShloMosaic.TcCoe Idealize.SL.Sem
open scoped BigOperators

variable (m : (ℓ : Loc nD τ sig) → Buf (Elt Ideal) ℓ)

theorem pay15 (x : Vec Ideal S1x16x256 .f32) (w : Vec Ideal S96x16 .bf16) (r : Fin 96) (d : Fin 256)
    (fin : ∀ t, ∃ y : ℝ, x (ix3 0 t d) = y) :
    k0_pay15 (k0_pay12 x) (k0_pay13 x) (k0_pay14 x) w (ix2 r d) = Ideal.exp (∑ t : Fin 16, w (ix2 r t) * x (ix3 0 t d)) := by
  pointwise [k0_pay15, k0_pay14, k0_pay13, k0_pay12, k0_pay11]
  rw [Gla.split (fun t => w (ix2 r t)) (fun t => x (ix3 0 t d)) fin]

theorem pay18 (k : Vec Ideal S1x16x256 .f32) (x : Vec Ideal S1x16x256 .f32) (w : Vec Ideal S96x16 .bf16) (s : Fin 16) (d : Fin 256)
    (fin : ∀ t, ∃ y : ℝ, x (ix3 0 t d) = y) (hw : ∀ t : Fin 16, w (ix2 ⟨80 + s.val, by omega⟩ t) = if s < t then 1 else 0) :
    k0_pay18 (k0_pay9 k) (k0_pay12 x) (k0_pay13 x) (k0_pay14 x) w (ix2 s d) =
      k (ix3 0 s d) * Ideal.exp (Gla.later (fun t => x (ix3 0 t d)) s) := by
  pointwise [k0_pay18, k0_pay9]
  rw [pay15 x w _ d fin]
  refine congrArg (fun z => k (ix3 0 s d) * Ideal.exp z) (Finset.sum_congr rfl fun t _ => ?_)
  rw [hw]
  by_cases h : s < t
  · rw [if_pos h, if_pos h, one_mul]
  · rw [if_neg h, if_neg h, zero_mul]

theorem pay19 (x : Vec Ideal S1x16x256 .f32) (w : Vec Ideal S96x16 .bf16) (d : Fin 256)
    (fin : ∀ t, ∃ y : ℝ, x (ix3 0 t d) = y) (hw : ∀ t : Fin 16, w (ix2 79 t) = 1) :
    k0_pay19 (k0_pay12 x) (k0_pay13 x) (k0_pay14 x) w (ix2 0 d) = Ideal.exp (∑ t : Fin 16, x (ix3 0 t d)) := by
  pointwise [k0_pay19, k0_pay16]
  rw [pay15 x w _ d fin]
  refine congrArg Ideal.exp (Finset.sum_congr rfl fun t _ => ?_)
  rw [hw, one_mul]

theorem rowHalf : ∀ a : Fin 128, IntOp.cmpi CmpIPredicate.slt (BitVec.ofNat 32 a.val) 64#32 = if a.val < 64 then 1#1 else 0#1 := by
  decide +kernel

theorem colHalf : ∀ j : Fin 256, IntOp.cmpi CmpIPredicate.slt (BitVec.ofNat 32 j.val) 128#32 = if j.val < 128 then 1#1 else 0#1 := by
  decide +kernel

/-- The mask keeps the two squares on the diagonal. -/
theorem masked (a : Fin 128) (j : Fin 256) (x y : EReal) :
    Scalar.select (IntOp.xori (IntOp.xori (IntOp.cmpi CmpIPredicate.slt (BitVec.ofNat 32 a.val) 64#32)
      (IntOp.cmpi CmpIPredicate.slt (BitVec.ofNat 32 j.val) 128#32)) 1#1) x y = if (a.val < 64 ↔ j.val < 128) then x else y := by
  rw [rowHalf, colHalf]
  by_cases h : a.val < 64 <;> by_cases h' : j.val < 128 <;> simp only [h, h', if_true, if_false, iff_self, iff_false, false_iff, not_true, not_false_iff, true_iff, iff_true] <;> rfl

theorem pay30 (v : Vec Ideal S1x16x512 .bf16) (k : FVec Ideal S16x256 .f32) (e : FVec Ideal S1x256 .f32) (o : Vec Ideal S1x128x256 .f32)
    (a : Fin 128) (j : Fin 256) (p : Fin 256) (q : Fin 512) (hp : p.val = a.val) (hq : q.val = j.val) :
    k0_pay30 k0_pay6 (k0_pay10 v) k e o (ix3 0 a j) = e (ix2 0 p) * o (ix3 0 a j) +
      if (a.val < 64 ↔ j.val < 128) then ∑ s : Fin 16, k (ix2 s p) * v (ix3 0 s q) else 0 := by
  pointwise [k0_pay30, k0_pay27, k0_pay28, k0_pay6, k0_pay10]
  obtain ⟨p, _⟩ := p
  obtain ⟨q, _⟩ := q
  obtain rfl : p = a.val := hp
  obtain rfl : q = j.val := hq
  rw [masked, dite_eq_ite, ite_self]

theorem pay45 (v : Vec Ideal S1x16x512 .bf16) (k : FVec Ideal S16x256 .f32) (e : FVec Ideal S1x256 .f32) (o : Vec Ideal S1x128x256 .f32)
    (a : Fin 128) (j : Fin 256) (p : Fin 256) (q : Fin 512) (hp : p.val = 128 + a.val) (hq : q.val = 256 + j.val) :
    k0_pay45 k0_pay6 k e (k0_pay42 (k0_pay10 v)) (k0_pay43 o) (ix3 0 a j) = e (ix2 0 p) * o (ix3 0 a j) +
      if (a.val < 64 ↔ j.val < 128) then ∑ s : Fin 16, k (ix2 s p) * v (ix3 0 s q) else 0 := by
  pointwise [k0_pay45, k0_pay42, k0_pay43, k0_pay6, k0_pay10]
  obtain ⟨p, _⟩ := p
  obtain ⟨q, _⟩ := q
  obtain rfl : p = 128 + a.val := hp
  obtain rfl : q = 256 + j.val := hq
  rw [masked, dite_eq_ite, ite_self]

theorem ones : ∀ t : Fin 16, lit0 ⟨79 * 16 + t.val, by omega⟩ = 0x3F80#16 := by decide +kernel

theorem laters : ∀ s t : Fin 16, lit0 ⟨(80 + s.val) * 16 + t.val, by omega⟩ = if s < t then 0x3F80#16 else 0#16 := by decide +kernel

/-- The constant the kernel multiplies the decays by, -/
def decays : Vec Ideal S96x16 .bf16 := fun i => FloatOps.ofBits (F := Ideal) .bf16 (lit0 (S96x16.rowMajor i))

theorem weights (c : Dev nD) : V m c main_cst = decays := by
  show StableHlo.after (List.flatten [hostOps0]) _ _ = _
  simp only [hostOps0, List.flatten_cons, List.flatten_nil, List.append_nil]
  after_results <;> rfl

/-- one row of which sums all decays, -/
theorem decays_last (t : Fin 16) : decays (ix2 79 t) = 1 := by
  show FloatOps.ofBits (F := Ideal) .bf16 (lit0 (S96x16.rowMajor (ix2 79 t))) = _
  rw [show S96x16.rowMajor (ix2 79 t) = (⟨79 * 16 + t.val, by omega⟩ : Fin 1536) from Fin.ext (Shape.rowMajor_val_two _), ones]
  pointwise

/-- and sixteen those after a position. -/
theorem decays_later (s t : Fin 16) : decays (ix2 ⟨80 + s.val, by omega⟩ t) = if s < t then 1 else 0 := by
  show FloatOps.ofBits (F := Ideal) .bf16 (lit0 (S96x16.rowMajor (ix2 ⟨80 + s.val, by omega⟩ t))) = _
  rw [show S96x16.rowMajor (ix2 ⟨80 + s.val, by omega⟩ t) = (⟨(80 + s.val) * 16 + t.val, by omega⟩ : Fin 1536) from Fin.ext (Shape.rowMajor_val_two _), laters]
  by_cases h : s < t
  · rw [if_pos h, if_pos h]
    pointwise
  · rw [if_neg h, if_neg h]
    pointwise

theorem idx3 {A B C : ℕ} (x : (⟨3, ![A, B, C]⟩ : Shape).Idx) (i : Fin A) (j : Fin B) (k : Fin C) (h0 : (x 0).val = i.val)
    (h1 : (x 1).val = j.val) (h2 : (x 2).val = k.val) : x = ix3 i j k := by
  funext a
  apply Fin.ext
  match a with
  | ⟨0, _⟩ => exact h0
  | ⟨1, _⟩ => exact h1
  | ⟨2, _⟩ => exact h2

theorem idx4 {A B C D : ℕ} (x : (⟨4, ![A, B, C, D]⟩ : Shape).Idx) (i : Fin A) (j : Fin B) (k : Fin C) (l : Fin D) (h0 : (x 0).val = i.val)
    (h1 : (x 1).val = j.val) (h2 : (x 2).val = k.val) (h3 : (x 3).val = l.val) : x = ix4 i j k l := by
  funext a
  apply Fin.ext
  match a with
  | ⟨0, _⟩ => exact h0
  | ⟨1, _⟩ => exact h1
  | ⟨2, _⟩ => exact h2
  | ⟨3, _⟩ => exact h3

/-- The half of the carried buffer a store writes. -/
abbrev half0 : Rect S2x128x256 := Rect.unit ![0, 0, 0] ![1, 128, 256] inb_S2x128x256_S1x128x256_0_0_0

abbrev half1 : Rect S2x128x256 := Rect.unit ![1, 0, 0] ![1, 128, 256] inb_S2x128x256_S1x128x256_1_0_0

abbrev both : Rect S2x128x256 := Rect.unit ![0, 0, 0] ![2, 128, 256] inb_S2x128x256_S2x128x256_0_0_0

/-- The carried buffer, filled once and then written a half at a time. -/
def filled (P Q : Vec Ideal S1x128x256 .f32) (Z : Vec Ideal S2x128x256 .f32) : Vec Ideal S2x128x256 .f32 :=
  (View.whole cc0_scratch0).readCov (Val := Elt Ideal) [⟨half1, Q⟩, ⟨half0, P⟩, ⟨both, Z⟩] both.toLoadRect

theorem both_idx (g : Fin 2) (a : Fin 128) (j : Fin 256) : both.toLoadRect.idx (ix3 g a j) = ix3 g a j :=
  idx3 _ g a j (by show 0 + 1 * g.val = _; omega) (by show 0 + 1 * a.val = _; omega) (by show 0 + 1 * j.val = _; omega)

theorem half0_idx (a : Fin 128) (j : Fin 256) : half0.emb (ix3 0 a j) = ix3 0 a j :=
  idx3 _ 0 a j rfl (by show 0 + 1 * a.val = _; omega) (by show 0 + 1 * j.val = _; omega)

theorem half1_idx (a : Fin 128) (j : Fin 256) : half1.emb (ix3 0 a j) = ix3 1 a j :=
  idx3 _ 1 a j rfl (by show 0 + 1 * a.val = _; omega) (by show 0 + 1 * j.val = _; omega)

/-- The second half holds what was written last, -/
theorem filled1 (P Q : Vec Ideal S1x128x256 .f32) (Z : Vec Ideal S2x128x256 .f32) (a : Fin 128) (j : Fin 256) :
    filled P Q Z (ix3 1 a j) = Q (ix3 0 a j) := by
  unfold filled
  rw [View.readCov_eq_canon']
  beta_reduce
  rw [both_idx, ← half1_idx]
  exact View.canon_cons_emb half1 Q _ (ix3 0 a j)

/-- and the first half what was written before. -/
theorem filled0 (P Q : Vec Ideal S1x128x256 .f32) (Z : Vec Ideal S2x128x256 .f32) (a : Fin 128) (j : Fin 256) :
    filled P Q Z (ix3 0 a j) = P (ix3 0 a j) := by
  unfold filled
  rw [View.readCov_eq_canon']
  beta_reduce
  rw [both_idx, View.canon_cons_of_not_mem, ← half0_idx]
  · exact View.canon_cons_emb half0 P _ (ix3 0 a j)
  · intro h
    obtain ⟨h, -⟩ := (Rect.mem_set_unit (inb := inb_S2x128x256_S1x128x256_1_0_0)).mp h 0
    exact absurd (show 1 ≤ 0 from h) (by decide)

theorem load0 (o : Vec Ideal S1x2x128x256 .f32) (a : Fin 128) (j : Fin 256) :
    View.ld (Val := Elt Ideal) (e' := .f32) (k0_pay4 o) half0 (ix3 0 a j) = o (ix4 0 0 a j) := by
  show k0_pay4 o (half0.emb (ix3 0 a j)) = _
  rw [half0_idx]
  pointwise [k0_pay4]

theorem load1 (o : Vec Ideal S1x2x128x256 .f32) (a : Fin 128) (j : Fin 256) :
    View.ld (Val := Elt Ideal) (e' := .f32) (k0_pay4 o) half1 (ix3 0 a j) = o (ix4 0 1 a j) := by
  show k0_pay4 o (half1.emb (ix3 0 a j)) = _
  rw [half1_idx]
  pointwise [k0_pay4]

theorem pay3 (x : Vec Ideal S2x128x256 .f32) (g : Fin 2) (a : Fin 128) (j : Fin 256) : k0_pay3 x (ix4 0 g a j) = x (ix3 g a j) := by
  pointwise [k0_pay3]

/-- An entry of the packed state after the positions: off the two squares on the diagonal nothing is added. -/
def packed (diag : Prop) [Decidable diag] (l k v : Fin 16 → EReal) (o : EReal) : EReal :=
  Ideal.exp (∑ t, l t) * o + if diag then Gla.added l k v else 0

/-- The block of the packed state a point writes, from the blocks it reads. -/
def result (k : Vec Ideal S1x16x256 .f32) (v : Vec Ideal S1x16x512 .bf16) (l : Vec Ideal S1x16x256 .f32) (w : Vec Ideal S96x16 .bf16)
    (o : Vec Ideal S1x2x128x256 .f32) : Vec Ideal S1x2x128x256 .f32 :=
  k0_pay3 (filled
    (k0_pay30 k0_pay6 (k0_pay10 v) (k0_pay18 (k0_pay9 k) (k0_pay12 l) (k0_pay13 l) (k0_pay14 l) w)
      (k0_pay19 (k0_pay12 l) (k0_pay13 l) (k0_pay14 l) w) (View.ld (Val := Elt Ideal) (k0_pay4 o) half0))
    (k0_pay45 k0_pay6 (k0_pay18 (k0_pay9 k) (k0_pay12 l) (k0_pay13 l) (k0_pay14 l) w)
      (k0_pay19 (k0_pay12 l) (k0_pay13 l) (k0_pay14 l) w) (k0_pay42 (k0_pay10 v)) (k0_pay43 (View.ld (Val := Elt Ideal) (k0_pay4 o) half1)))
    (k0_pay4 o))

theorem result_eq (k : Vec Ideal S1x16x256 .f32) (v : Vec Ideal S1x16x512 .bf16) (l : Vec Ideal S1x16x256 .f32)
    (o : Vec Ideal S1x2x128x256 .f32) (g : Fin 2) (a : Fin 128) (j : Fin 256) (p : Fin 256) (q : Fin 512)
    (hp : p.val = g.val * 128 + a.val) (hq : q.val = g.val * 256 + j.val) (fin : ∀ s, ∃ y : ℝ, l (ix3 0 s p) = y) :
    result k v l decays o (ix4 0 g a j) = packed (a.val < 64 ↔ j.val < 128) (fun s => l (ix3 0 s p)) (fun s => k (ix3 0 s p))
      (fun s => v (ix3 0 s q)) (o (ix4 0 g a j)) := by
  unfold result packed Gla.added
  rw [pay3]
  match g with
  | 0 =>
    rw [filled0, pay30 _ _ _ _ a j p q (by simpa using hp) (by simpa using hq), load0, pay19 _ _ p fin decays_last]
    simp only [fun s => pay18 k l decays s p fin (decays_later s)]
  | 1 =>
    rw [filled1, pay45 _ _ _ _ a j p q (by simpa using hp) (by simpa using hq), load1, pay19 _ _ p fin decays_last]
    simp only [fun s => pay18 k l decays s p fin (decays_later s)]

theorem stored (c : Dev nD) (t : Fin cfg0.N) :
    (outsAt0 m c t).2 = result (iblk m c 1 t) (iblk m c 2 t) (iblk m c 3 t) (iblk m c 5 t) (iblk m c 8 t) := by
  unfold outsAt0
  frame_out
  simp (disch := decide) only [View.readCov_skip, View.readCov_fill]
  rfl

theorem blocks : ∀ t : Fin cfg0.N,
    (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_5.index t (0 : Fin 2) = 0 ∧ win0_5.index t (1 : Fin 2) = 0)
    ∧ (win0_8.index t (0 : Fin 4) = t.val ∧ win0_8.index t (1 : Fin 4) = 0 ∧ win0_8.index t (2 : Fin 4) = 0 ∧ win0_8.index t (3 : Fin 4) = 0)
    ∧ (win0_10.index t (0 : Fin 4) = t.val ∧ win0_10.index t (1 : Fin 4) = 0 ∧ win0_10.index t (2 : Fin 4) = 0 ∧ win0_10.index t (3 : Fin 4) = 0) :=
  (by decide +kernel : ∀ t : Fin grid0.N, _)

theorem in1 (c : Dev nD) (t : Fin cfg0.N) (s : Fin 16) (p : Fin 256) :
    iblk m c 1 t (ix3 0 s p) = V m c main_arg1 (ix3 t s p) := by
  obtain ⟨⟨a, b, e⟩, -⟩ := blocks t
  refine congrArg (V m c main_arg1) (idx3 _ t s p ?_ ?_ ?_)
  · show win0_1.index t (0 : Fin 3) * 1 + 1 * 0 = t.val; rw [a]; omega
  · show win0_1.index t (1 : Fin 3) * 16 + 1 * s.val = s.val; rw [b]; omega
  · show win0_1.index t (2 : Fin 3) * 256 + 1 * p.val = p.val; rw [e]; omega

theorem in2 (c : Dev nD) (t : Fin cfg0.N) (s : Fin 16) (p : Fin 512) :
    iblk m c 2 t (ix3 0 s p) = V m c main_arg2 (ix3 t s p) := by
  obtain ⟨-, ⟨a, b, e⟩, -⟩ := blocks t
  refine congrArg (V m c main_arg2) (idx3 _ t s p ?_ ?_ ?_)
  · show win0_2.index t (0 : Fin 3) * 1 + 1 * 0 = t.val; rw [a]; omega
  · show win0_2.index t (1 : Fin 3) * 16 + 1 * s.val = s.val; rw [b]; omega
  · show win0_2.index t (2 : Fin 3) * 512 + 1 * p.val = p.val; rw [e]; omega

theorem in3 (c : Dev nD) (t : Fin cfg0.N) (s : Fin 16) (p : Fin 256) :
    iblk m c 3 t (ix3 0 s p) = V m c main_arg3 (ix3 t s p) := by
  obtain ⟨-, -, ⟨a, b, e⟩, -⟩ := blocks t
  refine congrArg (V m c main_arg3) (idx3 _ t s p ?_ ?_ ?_)
  · show win0_3.index t (0 : Fin 3) * 1 + 1 * 0 = t.val; rw [a]; omega
  · show win0_3.index t (1 : Fin 3) * 16 + 1 * s.val = s.val; rw [b]; omega
  · show win0_3.index t (2 : Fin 3) * 256 + 1 * p.val = p.val; rw [e]; omega

theorem in5 (c : Dev nD) (t : Fin cfg0.N) : iblk m c 5 t = decays := by
  obtain ⟨-, -, -, ⟨a, b⟩, -⟩ := blocks t
  rw [← weights m c]
  funext y
  obtain ⟨r, s, rfl⟩ : ∃ (r : Fin 96) (s : Fin 16), y = ix2 r s := ⟨y 0, y 1, eq_ix2 y⟩
  refine congrArg (V m c main_cst) (funext fun x => Fin.ext ?_)
  match x with
  | ⟨0, _⟩ => show win0_5.index t (0 : Fin 2) * 96 + 1 * r.val = r.val; rw [a]; omega
  | ⟨1, _⟩ => show win0_5.index t (1 : Fin 2) * 16 + 1 * s.val = s.val; rw [b]; omega

theorem in8 (c : Dev nD) (t : Fin cfg0.N) (g : Fin 2) (r : Fin 128) (j : Fin 256) :
    iblk m c 8 t (ix4 0 g r j) = V m c main_v11 (ix4 t g r j) := by
  obtain ⟨-, -, -, -, ⟨a, b, e, f⟩, -⟩ := blocks t
  refine congrArg (V m c main_v11) (idx4 _ t g r j ?_ ?_ ?_ ?_)
  · show win0_8.index t (0 : Fin 4) * 1 + 1 * 0 = t.val; rw [a]; omega
  · show win0_8.index t (1 : Fin 4) * 2 + 1 * g.val = g.val; rw [b]; omega
  · show win0_8.index t (2 : Fin 4) * 128 + 1 * r.val = r.val; rw [e]; omega
  · show win0_8.index t (3 : Fin 4) * 256 + 1 * j.val = j.val; rw [f]; omega

theorem arg1 (c : Dev nD) : V m c main_arg1 = m ((c.tc : Thread nD τ).loc main_arg1) := by
  show StableHlo.after (List.flatten [hostOps0]) _ _ = _
  simp only [hostOps0, List.flatten_cons, List.flatten_nil, List.append_nil]
  after_results <;> rfl

theorem arg2 (c : Dev nD) : V m c main_arg2 = m ((c.tc : Thread nD τ).loc main_arg2) := by
  show StableHlo.after (List.flatten [hostOps0]) _ _ = _
  simp only [hostOps0, List.flatten_cons, List.flatten_nil, List.append_nil]
  after_results <;> rfl

theorem arg3 (c : Dev nD) : V m c main_arg3 = m ((c.tc : Thread nD τ).loc main_arg3) := by
  show StableHlo.after (List.flatten [hostOps0]) _ _ = _
  simp only [hostOps0, List.flatten_cons, List.flatten_nil, List.append_nil]
  after_results <;> rfl

/-- Two heads' states, each on a square of the diagonal. -/
def pack (o : Vec Ideal S16x4x64x128 .f32) : Vec Ideal S16x2x128x256 .f32 :=
  concatenate S16x2x128x256 2
    [⟨S16x2x64x256, concatenate S16x2x64x256 3
      [⟨S16x2x64x128, shapeCast S16x2x64x128 (extractStridedSlice S16x2x1x64x128 ![0, 0, 0, 0, 0] (shapeCast S16x2x2x64x128 o shapeCasts_S16x4x64x128_S16x2x2x64x128) slices_S16x2x2x64x128_S16x2x1x64x128_0_0_0_0_0) shapeCasts_S16x2x1x64x128_S16x2x64x128⟩,
        ⟨S16x2x64x128, broadcastInDim S16x2x64x128 ![] bcast_S_S16x2x64x128 (constant (F := Ideal) S_ FTy.f32 0#32)⟩]
      concatenates_S16x2x64x128_S16x2x64x128_S16x2x64x256_d3⟩,
    ⟨S16x2x64x256, concatenate S16x2x64x256 3
      [⟨S16x2x64x128, broadcastInDim S16x2x64x128 ![] bcast_S_S16x2x64x128 (constant (F := Ideal) S_ FTy.f32 0#32)⟩,
        ⟨S16x2x64x128, shapeCast S16x2x64x128 (extractStridedSlice S16x2x1x64x128 ![0, 0, 1, 0, 0] (shapeCast S16x2x2x64x128 o shapeCasts_S16x4x64x128_S16x2x2x64x128) slices_S16x2x2x64x128_S16x2x1x64x128_0_0_1_0_0) shapeCasts_S16x2x1x64x128_S16x2x64x128⟩]
      concatenates_S16x2x64x128_S16x2x64x128_S16x2x64x256_d3⟩]
    concatenates_S16x2x64x256_S16x2x64x256_S16x2x128x256_d2

theorem packed_arg (c : Dev nD) : V m c main_v11 = pack (m ((c.tc : Thread nD τ).loc main_arg6)) := by
  show StableHlo.after (List.flatten [hostOps0]) _ _ = _
  simp only [hostOps0, List.flatten_cons, List.flatten_nil, List.append_nil]
  after_results <;> rfl

theorem pack_eq (o : Vec Ideal S16x4x64x128 .f32) (b : Fin 16) (h : Fin 4) (d : Fin 64) (j : Fin 128) (g : Fin 2) (r : Fin 128) (q : Fin 256)
    (hg : g.val = h.val / 2) (hr : r.val = h.val % 2 * 64 + d.val) (hq : q.val = h.val % 2 * 128 + j.val) :
    pack o (ix4 b g r q) = o (ix4 b h d j) := by
  have hh := h.isLt
  pointwise [pack]
  rcases Nat.mod_two_eq_zero_or_one h.val with e | e
  · rw [dif_pos (by omega), dif_pos (by omega)]
    exact congrArg o (idx4 _ b h d j rfl (by show g.val * 2 = _; omega) (by show r.val = _; omega) (by show q.val = _; omega))
  · rw [dif_neg (by omega), dif_neg (by omega)]
    exact congrArg o (idx4 _ b h d j rfl (by show g.val * 2 + 1 = _; omega) (by show r.val - 64 = _; omega) (by show q.val - 128 = _; omega))

/-- The heads' states taken out again. -/
def unpack (x : Vec Ideal S16x2x128x256 .f32) : Vec Ideal S16x4x64x128 .f32 :=
  shapeCast S16x4x64x128 (concatenate S16x2x2x64x128 2
    [⟨S16x2x1x64x128, broadcastInDim S16x2x1x64x128 ![0, 1, 3, 4] bcast_S16x2x64x128_S16x2x1x64x128_0_1_3_4
        (extractStridedSlice S16x2x64x128 ![0, 0, 0, 0] x slices_S16x2x128x256_S16x2x64x128_0_0_0_0)⟩,
      ⟨S16x2x1x64x128, broadcastInDim S16x2x1x64x128 ![0, 1, 3, 4] bcast_S16x2x64x128_S16x2x1x64x128_0_1_3_4
        (extractStridedSlice S16x2x64x128 ![0, 0, 64, 128] x slices_S16x2x128x256_S16x2x64x128_0_0_64_128)⟩]
    concatenates_S16x2x1x64x128_S16x2x1x64x128_S16x2x2x64x128_d2) shapeCasts_S16x2x2x64x128_S16x4x64x128

theorem unpack_eq (x : Vec Ideal S16x2x128x256 .f32) (b : Fin 16) (h : Fin 4) (d : Fin 64) (j : Fin 128) (g : Fin 2) (r : Fin 128) (q : Fin 256)
    (hg : g.val = h.val / 2) (hr : r.val = h.val % 2 * 64 + d.val) (hq : q.val = h.val % 2 * 128 + j.val) :
    unpack x (ix4 b h d j) = x (ix4 b g r q) := by
  pointwise [unpack]
  rcases Nat.mod_two_eq_zero_or_one h.val with e | e
  · rw [dif_pos (by omega)]
    exact congrArg x (idx4 _ b g r q rfl (by show h.val / 2 = _; omega) (by show d.val = _; omega) (by show j.val = _; omega))
  · rw [dif_neg (by omega)]
    exact congrArg x (idx4 _ b g r q rfl (by show h.val / 2 = _; omega) (by show 64 + d.val = _; omega) (by show 128 + j.val = _; omega))

/-- The channel of a row of a packed state, -/
def chan (g : Fin 2) (r : Fin 128) : Fin 256 := ⟨g.val * 128 + r.val, by omega⟩

/-- and the channel of a column. -/
def vchan (g : Fin 2) (q : Fin 256) : Fin 512 := ⟨g.val * 256 + q.val, by omega⟩

/-- The packed states after the run. -/
def states (k : Vec Ideal S16x16x256 .f32) (v : Vec Ideal S16x16x512 .bf16) (l : Vec Ideal S16x16x256 .f32) (o : Vec Ideal S16x2x128x256 .f32) :
    Vec Ideal S16x2x128x256 .f32 := fun i : S16x2x128x256.Idx =>
  packed ((i 2).val < 64 ↔ (i 3).val < 128) (fun s => l (ix3 (i 0) s (chan (i 1) (i 2)))) (fun s => k (ix3 (i 0) s (chan (i 1) (i 2))))
    (fun s => v (ix3 (i 0) s (vchan (i 1) (i 3)))) (o i)

/-- Decays that are numbers. -/
def Finite (l : Vec Ideal S16x16x256 .f32) : Prop := ∀ (b s : Fin 16) (p : Fin 256), ∃ y : ℝ, l (ix3 b s p) = y

theorem block (c : Dev nD) (fin : Finite (V m c main_arg3)) (t : Fin cfg0.N) (g : Fin 2) (r : Fin 128) (j : Fin 256) :
    (outsAt0 m c t).2 (ix4 0 g r j) = states (V m c main_arg1) (V m c main_arg2) (V m c main_arg3) (V m c main_v11) (ix4 t g r j) := by
  rw [stored, in5]
  refine (result_eq _ _ _ _ g r j (chan g r) (vchan g j) rfl rfl fun s => ?_).trans ?_
  · obtain ⟨y, hy⟩ := fin t s (chan g r)
    exact ⟨y, (in3 m c t s _).trans hy⟩
  · rw [in8, funext fun s => in1 m c t s (chan g r), funext fun s => in2 m c t s (vchan g j), funext fun s => in3 m c t s (chan g r)]
    rfl

theorem array (c : Dev nD) (fin : Finite (V m c main_arg3)) :
    (dats m 0 c).arrAt 10 cfg0.N = states (V m c main_arg1) (V m c main_arg2) (V m c main_arg3) (V m c main_v11) := by
  refine (dats m 0 c).arrAt_eq_of_covers 10 _ (by decide +kernel) fun t _ y => ?_
  obtain ⟨z, g, r, j, rfl⟩ : ∃ (z : Fin 1) (g : Fin 2) (r : Fin 128) (j : Fin 256), y = ix4 z g r j := ⟨y 0, y 1, y 2, y 3, eq_ix4 y⟩
  obtain rfl : z = 0 := Subsingleton.elim _ _
  obtain ⟨-, -, -, -, -, ⟨a, b, e, f⟩⟩ := blocks t
  have place : ((cfg0.win 10).blk t).view.emb (ix4 0 g r j) = ix4 t g r j := by
    refine idx4 _ t g r j ?_ ?_ ?_ ?_
    · show win0_10.index t (0 : Fin 4) * 1 + 1 * 0 = t.val; rw [a]; omega
    · show win0_10.index t (1 : Fin 4) * 2 + 1 * g.val = g.val; rw [b]; omega
    · show win0_10.index t (2 : Fin 4) * 128 + 1 * r.val = r.val; rw [e]; omega
    · show win0_10.index t (3 : Fin 4) * 256 + 1 * j.val = j.val; rw [f]; omega
  have key := block m c fin t g r j
  rw [after0_10]
  generalize (outsAt0 m c t).2 = f at key ⊢
  generalize states (V m c main_arg1) (V m c main_arg2) (V m c main_arg3) (V m c main_v11) = G at key ⊢
  exact key.trans (congrArg G place).symm

theorem after_region (c : Dev nD) : Pipeline.withArrays spec0 c (V0 m c) (fun w => (dats m 0 c).arrAt w cfg0.N) (Proc.devRef .tc main_v12_1)
    = (dats m 0 c).arrAt 10 cfg0.N :=
  Pipeline.withArrays_arr spec0 (by decide) c (V0 m c) _ 10

theorem tail (c : Dev nD) : Pipeline.afterTail₀ cfgs (dats m) 0 (V0 m) [hostOps1] c main_v18 = unpack ((dats m 0 c).arrAt 10 cfg0.N) := by
  show StableHlo.after hostOps1 _ _ = _
  simp only [hostOps1]
  after_results
  rw [after_region]
  rfl

end Cert.Kernel8Ideal.Hand

end
-- ==== Proof.GlaSampleRef.lean ====
module

public import proofs.«01_k».proof.Proof.Gen.Reference8Ideal.Run
public import proofs.«01_k».proof.Proof.GlaRow

@[expose] public section

set_option maxRecDepth 16384

noncomputable section

namespace Cert.Reference8Ideal.Hand

open Cert.Reference8Ideal Cert.Reference8Ideal.Gen
open Idealize.ShloMosaic

/-- The decays summed from the first position to each. -/
def sums (l : FVec Ideal S16x16x256 .f32) : FVec Ideal S16x16x4x64 .f32 :=
  transpose S16x16x4x64 [0, 3, 1, 2] (Host.dotGeneral dot_S16x16x4x64_S16x16_S16x4x64x16_1_1_023_0_n_n none (shapeCast S16x16x4x64 l shapeCasts_S16x16x256_S16x16x4x64) (uitofp .f32 (cmpi .sge (broadcastInDim S16x16 ![0, 1] bcast_S16x1_S16x16_0_1 (broadcastInDim S16x1 ![0] bcast_S16_S16x1_0 (iotaInDim S16 32 0))) (broadcastInDim S16x16 ![0, 1] bcast_S1x16_S16x16_0_1 (broadcastInDim S1x16 ![1] bcast_S16_S1x16_1 (iotaInDim S16 32 0)))))) transposes_S16x4x64x16_S16x16x4x64_0_3_1_2

/-- Their sum over all positions. -/
def last (l : FVec Ideal S16x16x256 .f32) : FVec Ideal S16x4x64 .f32 :=
  shapeCast S16x4x64 (extractStridedSlice S16x1x4x64 ![0, 15, 0, 0] (sums l) slices_S16x16x4x64_S16x1x4x64_0_15_0_0) shapeCasts_S16x1x4x64_S16x4x64

/-- The state after the last position. -/
def state (k : FVec Ideal S16x16x256 .f32) (v : FVec Ideal S16x16x512 .bf16) (l : FVec Ideal S16x16x256 .f32) (s : FVec Ideal S16x4x64x128 .f32) : FVec Ideal S16x4x64x128 .f32 :=
  addf (mulf (broadcastInDim S16x4x64x128 ![0, 1, 2, 3] bcast_S16x4x64x1_S16x4x64x128_0_1_2_3 (broadcastInDim S16x4x64x1 ![0, 1, 2] bcast_S16x4x64_S16x4x64x1_0_1_2 (Host.exp (last l)))) s) (Host.dotGeneral dot_S16x16x4x64_S16x16x4x128_S16x4x64x128_1_1_3_3_02_02 none (mulf (shapeCast S16x16x4x64 k shapeCasts_S16x16x256_S16x16x4x64) (Host.exp (subf (broadcastInDim S16x16x4x64 ![0, 1, 2, 3] bcast_S16x1x4x64_S16x16x4x64_0_1_2_3 (broadcastInDim S16x1x4x64 ![0, 2, 3] bcast_S16x4x64_S16x1x4x64_0_2_3 (last l))) (sums l)))) (shapeCast S16x16x4x128 (extf .f32 v bitsLt_bf16_f32) shapeCasts_S16x16x512_S16x16x4x128))

theorem ge : ∀ t x : Fin 16, IntOp.cmpi CmpIPredicate.sge (BitVec.ofNat 32 t.val) (BitVec.ofNat 32 x.val) = if x ≤ t then 1#1 else 0#1 := by
  decide +kernel

theorem sums_eq (l : FVec Ideal S16x16x256 .f32) (b t : Fin 16) (h : Fin 4) (d : Fin 64) (e : Fin 256) (he : e.val = h.val * 64 + d.val) :
    sums l (ix4 b t h d) = ∑ x : Fin 16, if x ≤ t then l (ix3 b x e) else 0 := by
  pointwise [sums]
  refine Finset.sum_congr rfl fun x _ => ?_
  obtain ⟨e, _⟩ := e
  obtain rfl : e = h.val * 64 + d.val := he
  rw [ge]
  by_cases c : x ≤ t
  · rw [if_pos c, if_pos c]
    simp [FloatOps.uitofp]
  · rw [if_neg c, if_neg c]
    simp [FloatOps.uitofp]

theorem last_eq (l : FVec Ideal S16x16x256 .f32) (b : Fin 16) (h : Fin 4) (d : Fin 64) :
    last l (ix3 b h d) = sums l (ix4 b 15 h d) := by
  pointwise [last]

theorem state_eq (k : FVec Ideal S16x16x256 .f32) (v : FVec Ideal S16x16x512 .bf16) (l : FVec Ideal S16x16x256 .f32)
    (o : FVec Ideal S16x4x64x128 .f32) (b : Fin 16) (h : Fin 4) (d : Fin 64) (j : Fin 128) (e : Fin 256) (f : Fin 512)
    (he : e.val = h.val * 64 + d.val) (hf : f.val = h.val * 128 + j.val) (fin : ∀ t, ∃ r : ℝ, l (ix3 b t e) = r) :
    state k v l o (ix4 b h d j) = Gla.state (fun t => l (ix3 b t e)) (fun t => k (ix3 b t e)) (fun t => v (ix3 b t f)) (o (ix4 b h d j)) := by
  have whole : last l (ix3 b h d) = ∑ t, l (ix3 b t e) := by
    rw [last_eq, sums_eq l b 15 h d e he]
    exact Finset.sum_congr rfl fun x _ => if_pos (by omega)
  pointwise [state]
  obtain ⟨e, _⟩ := e
  obtain ⟨f, _⟩ := f
  obtain rfl : e = h.val * 64 + d.val := he
  obtain rfl : f = h.val * 128 + j.val := hf
  unfold Gla.state Gla.added
  rw [whole]
  congr 1
  refine Finset.sum_congr rfl fun x _ => ?_
  rw [sums_eq l b x h d ⟨h.val * 64 + d.val, by omega⟩ rfl, ← Gla.later_eq _ fin x]

end Cert.Reference8Ideal.Hand

end
-- ==== Proof.GlaSampleEq.lean ====
module

public import proofs.«01_k».proof.Proof.Gen.Pre_decays_finite
public import proofs.«01_k».proof.Proof.GlaSample
public import proofs.«01_k».proof.Proof.GlaSampleRef
public import Idealize.ShloMosaic.Lib.ReduceAll

@[expose] public section

set_option maxRecDepth 16384

/-! # The recurrent states of the sample rows: the kernel's result is the reference's -/

noncomputable section

namespace Cert.Kernel8Ideal.Hand

open Cert.Kernel8Ideal Cert.Kernel8Ideal.Gen
open Idealize.ShloMosaic Idealize.ShloMosaic.TcCoe Idealize.SL.Sem

/-- The precondition says that the decays are numbers. -/
theorem finite (q k : FVec Ideal S16x16x256 .f32) (v : FVec Ideal S16x16x512 .bf16) (l : FVec Ideal S16x16x256 .f32) (e : FVec Ideal S16x16x512 .f32)
    (g : FVec Ideal S128 .f32) (o : FVec Ideal S16x4x64x128 .f32)
    (h : Cert.Pre_decays_finite.fn (F := Ideal) q k v l e g o = fun _ => 1#1) : Finite l := by
  intro b s p
  have z := congrFun h ix0
  simp only [Cert.Pre_decays_finite.fn] at z
  haveI : Subsingleton Cert.Pre_decays_finite.S_.Idx := ⟨fun x y => funext fun a => a.elim0⟩
  have w := Host.reduce_andi_all _ _ _ _ _ z (ix3 b s p)
  replace w : Ideal.cmp .olt (max (l (ix3 b s p) : EReal) (-(l (ix3 b s p) : EReal))) (Ideal.ofBits .f32 0x7F800000#32) = 1#1 := w
  have top : Ideal.ofBits .f32 0x7F800000#32 = ⊤ := by simp [Ideal.ofBits, Ideal.ieee]
  rw [top] at w
  generalize (l (ix3 b s p) : EReal) = x at w ⊢
  have hx : x ≠ ⊤ := by rintro rfl; simp [Ideal.cmp] at w
  have hy : x ≠ ⊥ := by rintro rfl; simp [Ideal.cmp] at w
  exact ⟨x.toReal, (EReal.coe_toReal hx hy).symm⟩

theorem unpacked (k : Vec Ideal S16x16x256 .f32) (v : Vec Ideal S16x16x512 .bf16) (l : Vec Ideal S16x16x256 .f32) (o : Vec Ideal S16x4x64x128 .f32)
    (fin : Finite l) : unpack (states k v l (pack o)) = Cert.Reference8Ideal.Hand.state k v l o := by
  funext i
  obtain ⟨b, h, d, j, rfl⟩ : ∃ (b : Fin 16) (h : Fin 4) (d : Fin 64) (j : Fin 128), i = ix4 b h d j := ⟨i 0, i 1, i 2, i 3, eq_ix4 i⟩
  have hh := h.isLt
  have hm : h.val % 2 < 2 := Nat.mod_lt _ (by decide)
  have u := unpack_eq (states k v l (pack o)) b h d j ⟨h.val / 2, by omega⟩ ⟨h.val % 2 * 64 + d.val, by omega⟩ ⟨h.val % 2 * 128 + j.val, by omega⟩ rfl rfl rfl
  refine u.trans ?_
  have he : (chan ⟨h.val / 2, by omega⟩ ⟨h.val % 2 * 64 + d.val, by omega⟩).val = h.val * 64 + d.val := by
    show h.val / 2 * 128 + (h.val % 2 * 64 + d.val) = _; omega
  have hf : (vchan ⟨h.val / 2, by omega⟩ ⟨h.val % 2 * 128 + j.val, by omega⟩).val = h.val * 128 + j.val := by
    show h.val / 2 * 256 + (h.val % 2 * 128 + j.val) = _; omega
  rw [Cert.Reference8Ideal.Hand.state_eq k v l o b h d j _ _ he hf fun t => fin b t _]
  show packed _ _ _ _ (pack o (ix4 b _ _ _)) = _
  rw [pack_eq o b h d j _ _ _ rfl rfl rfl]
  unfold packed Gla.state
  rw [if_pos]
  rfl
  show h.val % 2 * 64 + d.val < 64 ↔ h.val % 2 * 128 + j.val < 128
  have := d.isLt
  have := j.isLt
  omega

variable (m : (ℓ : Loc nD τ sig) → Buf (Elt Ideal) ℓ) (ρ : Dev nD → PrngReg)

theorem value (c : Dev nD) (fin : Finite (m ((c.tc : Thread nD τ).loc main_arg3))) :
    unpack ((dats m 0 c).arrAt 10 cfg0.N) = Cert.Reference8Ideal.Hand.state (m ((c.tc : Thread nD τ).loc main_arg1)) (m ((c.tc : Thread nD τ).loc main_arg2))
      (m ((c.tc : Thread nD τ).loc main_arg3)) (m ((c.tc : Thread nD τ).loc main_arg6)) := by
  rw [array m c (by rw [arg3]; exact fin), arg1, arg2, arg3, packed_arg]
  exact unpacked _ _ _ _ fin

/-- The run: the result is the states taken out of the packed array, and the arguments are unchanged. -/
theorem run : θ_run defs (onTc (τ := τ) (main (F := Ideal))) ⟨m, fun _ => 0, ρ⟩ fun r => ∀ c : Dev nD,
      r.2.mem ((c.tc : Thread nD τ).loc main_v18) = unpack ((dats m 0 c).arrAt 10 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h.1 c).2 main_v18 (Pipeline.mem_restRefs_of main_v18 (by decide) (by decide))).trans (tail m c), h.2 c⟩)
    (θ_run_and (run_main m ρ) (unchanged m ρ))

end Cert.Kernel8Ideal.Hand

end
-- ==== Proof.FfnTile.lean ====
/- The gated feed-forward layer at the ideal instance, free of any program: what one grid point's tile adds to an entry of
   the output (`tile_apply`), and the eleven tiles of one row block folded into the whole layer (`fold_eq`): the sum over
   5632 hidden units, cut in eleven pieces of 512. The number of rows in a block and in the array are variables, so
   the prompt batch and the sample batch share it. -/
module

public import Idealize.ShloMosaic.Lib.MatmulPlain
public import Idealize.ShloMosaic.Lib.StackMember
public import Idealize.ShloMosaic.Lib.ValueIdx
public import Idealize.ShloMosaic.Lib.Pointwise.Sums
public import Idealize.ShloMosaic.Lib.Pipeline.Value

@[expose] public section

noncomputable section

namespace Cert.Ffn

open Idealize.ShloMosaic hiding ix2 eq_ix2
open Idealize.ShloMosaic.ValueIdx
open scoped BigOperators

/-- A matrix of extended reals. -/
abbrev Mat (R C : ℕ) := (⟨2, ![R, C]⟩ : Shape).Idx → EReal

/-- An index with coordinates `i` and `j` is `ix2 i j`. -/
theorem idx_eq {R C : ℕ} (x : (⟨2, ![R, C]⟩ : Shape).Idx) (i : Fin R) (j : Fin C) (h0 : (x 0).val = i.val) (h1 : (x 1).val = j.val) :
    x = ix2 i j := by
  funext a
  apply Fin.ext
  match a with
  | ⟨0, _⟩ => exact h0
  | ⟨1, _⟩ => exact h1

/-- The gated unit: `g · 1 / (1 + exp (−g)) · u`. -/
def gated (g u : EReal) : EReal := g * Ideal.div 1 (1 + Ideal.exp (-g)) * u

/-- Hidden unit `k` of row `r`. -/
def hidden {R C : ℕ} (x : Mat R 2048) (wg wu : Mat 2048 C) (r : Fin R) (k : Fin C) : EReal :=
  gated (∑ d : Fin 2048, x (ix2 r d) * wg (ix2 d k)) (∑ d : Fin 2048, x (ix2 r d) * wu (ix2 d k))

/-- The layer at row `r`, column `c`. -/
def layer {R : ℕ} (h x : Mat R 2048) (wg wu : Mat 2048 5632) (wd : Mat 5632 2048) (r : Fin R) (c : Fin 2048) : EReal :=
  h (ix2 r c) + ∑ k : Fin 5632, hidden x wg wu r k * wd (ix2 k c)

theorem one_f32 : Ideal.ofBits .f32 0x3F800000#32 = 1 := by
  show _ = ((1 : ℝ) : EReal)
  simp [Ideal.ofBits, Ideal.ieee, -EReal.coe_mul, -EReal.coe_one]
  norm_num

theorem zero_f32 : Ideal.ofBits .f32 0x00000000#32 = 0 := by simp [Ideal.ofBits, Ideal.ieee]

variable {R : ℕ}

/-- The gated product of two blocks, as the vector unit computes it. -/
def act {S : Shape} (g u : FVec Ideal S .f32) (hb : FTy.bf16.bits < FTy.f32.bits) : FVec Ideal S .bf16 :=
  truncf .bf16 (mulf (mulf g (divf (broadcast S (Scalar.ofBits .f32 0x3F800000#32)) (addf (broadcast S (Scalar.ofBits .f32 0x3F800000#32))
    (exp (subf (broadcast S (Scalar.ofBits .f32 0x00000000#32)) g))))) u) hb

theorem act_apply {S : Shape} (g u : FVec Ideal S .f32) (hb : FTy.bf16.bits < FTy.f32.bits) (j : S.Idx) :
    act g u hb j = gated (g j) (u j) := by
  show g j * Ideal.div (Ideal.ofBits .f32 0x3F800000#32) (Ideal.ofBits .f32 0x3F800000#32
      + Ideal.exp (Ideal.ofBits .f32 0x00000000#32 - g j)) * u j = _
  rw [one_f32, zero_f32, zero_sub]
  rfl

/-- One grid point's arithmetic on its blocks. -/
def tile (x : FVec Ideal ⟨2, ![R, 2048]⟩ .bf16) (wg wu : FVec Ideal ⟨2, ![2048, 512]⟩ .bf16)
    (acc : FVec Ideal ⟨2, ![R, 2048]⟩ .f32) (wd : FVec Ideal ⟨2, ![512, 2048]⟩ .bf16) (hb : FTy.bf16.bits < FTy.f32.bits) :
    FVec Ideal ⟨2, ![R, 2048]⟩ .f32 :=
  addf acc (matmul (DotDims.plain R 512 2048) none
    (act (matmul (DotDims.plain R 2048 512) none x wg (constant _ .f32 0x00000000#32))
      (matmul (DotDims.plain R 2048 512) none x wu (constant _ .f32 0x00000000#32)) hb) wd (constant _ .f32 0x00000000#32))

/-- A block product over a zero accumulator, at an entry. -/
theorem dot_apply {K C : ℕ} {φ₁ φ₂ : FTy} (a : FVec Ideal ⟨2, ![R, K]⟩ φ₁) (b : FVec Ideal ⟨2, ![K, C]⟩ φ₂) (r : Fin R) (c : Fin C) :
    matmul (DotDims.plain R K C) none a b (constant (F := Ideal) _ .f32 0x00000000#32) (ix2 r c)
      = ∑ k : Fin K, a (ix2 r k) * b (ix2 k c) := by
  refine (Ideal.matmul_plain_apply none a b _ r c).trans ?_
  show Ideal.ofBits .f32 0x00000000#32 + _ = _
  rw [zero_f32, zero_add]

theorem tile_apply (x : FVec Ideal ⟨2, ![R, 2048]⟩ .bf16) (wg wu : FVec Ideal ⟨2, ![2048, 512]⟩ .bf16)
    (acc : FVec Ideal ⟨2, ![R, 2048]⟩ .f32) (wd : FVec Ideal ⟨2, ![512, 2048]⟩ .bf16) (hb : FTy.bf16.bits < FTy.f32.bits)
    (r : Fin R) (c : Fin 2048) :
    tile x wg wu acc wd hb (ix2 r c) = acc (ix2 r c) + ∑ k : Fin 512, hidden x wg wu r k * wd (ix2 k c) := by
  unfold tile
  rw [addf_apply, dot_apply]
  refine congrArg (acc (ix2 r c) + ·) (Finset.sum_congr rfl fun k _ => ?_)
  rw [act_apply, dot_apply, dot_apply]
  rfl

/-- The eleven tiles of one row block, folded: block `q`'s row `r` is the array's row `i`. -/
theorem fold_eq {N T : ℕ} (h x : Mat T 2048) (wg wu : Mat 2048 5632) (wd : Mat 5632 2048) (hb : FTy.bf16.bits < FTy.f32.bits)
    (H : (n : ℕ) → n < N → FVec Ideal ⟨2, ![R, 2048]⟩ .f32) (X : (n : ℕ) → n < N → FVec Ideal ⟨2, ![R, 2048]⟩ .bf16)
    (G U : (n : ℕ) → n < N → FVec Ideal ⟨2, ![2048, 512]⟩ .bf16) (D : (n : ℕ) → n < N → FVec Ideal ⟨2, ![512, 2048]⟩ .bf16)
    (hH : ∀ n hn r c (i : Fin T), i.val = n / 11 * R + r.val → H n hn (ix2 r c) = h (ix2 i c))
    (hX : ∀ n hn r c (i : Fin T), i.val = n / 11 * R + r.val → X n hn (ix2 r c) = x (ix2 i c))
    (hG : ∀ n hn d k (i : Fin 5632), i.val = n % 11 * 512 + k.val → G n hn (ix2 d k) = wg (ix2 d i))
    (hU : ∀ n hn d k (i : Fin 5632), i.val = n % 11 * 512 + k.val → U n hn (ix2 d k) = wu (ix2 d i))
    (hD : ∀ n hn k c (i : Fin 5632), i.val = n % 11 * 512 + k.val → D n hn (ix2 k c) = wd (ix2 i c))
    (q : ℕ) (hq : 11 * q + 10 < N) (r : Fin R) (c : Fin 2048) (i : Fin T) (hi : i.val = q * R + r.val) :
    Pipeline.accAt (fun n hn => tile (X n hn) (G n hn) (U n hn) (H n hn) (D n hn) hb)
        (fun n hn acc => tile (X n hn) (G n hn) (U n hn) acc (D n hn) hb) (11 * q) 10 hq (ix2 r c)
      = layer h x wg wu wd i c := by
  rw [Pipeline.accAt_add_apply _ _ (fun j => H (11 * q) (by omega) j)
    (fun n j => if hn : n < N then ∑ k : Fin 512, hidden (X n hn) (G n hn) (U n hn) (j 0) k * D n hn (ix2 k (j 1)) else 0)
    (11 * q) 10 ?_ ?_ 10 le_rfl hq (ix2 r c)]
  · refine congrArg₂ (· + ·) (hH _ _ r c i (by rw [hi, Nat.mul_div_cancel_left q (by decide)])) ?_
    rw [Finset.sum_range, Fin.sum_univ_tiles 11 512 rfl]
    refine Finset.sum_congr rfl fun s _ => ?_
    have hs := s.isLt
    have hn : 11 * q + s.val < N := by omega
    have e1 : (11 * q + s.val) / 11 = q := by omega
    have e2 : (11 * q + s.val) % 11 = s.val := by omega
    rw [dif_pos hn]
    refine Finset.sum_congr rfl fun k _ => ?_
    have hk : ∀ d, G _ hn (ix2 d k) = wg (ix2 d ⟨s.val * 512 + k.val, by omega⟩) := fun d => hG _ hn d k _ (by rw [e2])
    have hu : ∀ d, U _ hn (ix2 d k) = wu (ix2 d ⟨s.val * 512 + k.val, by omega⟩) := fun d => hU _ hn d k _ (by rw [e2])
    have hx : ∀ d, X _ hn (ix2 r d) = x (ix2 i d) := fun d => hX _ hn r d i (by rw [e1, hi])
    have hd := hD _ hn k c ⟨s.val * 512 + k.val, by omega⟩ (by rw [e2])
    show hidden _ _ _ r k * D _ hn (ix2 k c) = _
    rw [hd]
    unfold hidden
    simp only [hk, hu, hx]
  · intro hn j
    rw [eq_ix2 j, dif_pos hn]
    exact tile_apply ..
  · intro n hn acc j _ _
    rw [eq_ix2 j, dif_pos hn]
    exact tile_apply ..

/-- The plain reference: three whole products, the gate between them, and the residual. -/
theorem plain_eq {T : ℕ} (h x : FVec Ideal ⟨2, ![T, 2048]⟩ .f32) (wg wu : FVec Ideal ⟨2, ![2048, 5632]⟩ .f32)
    (wd : FVec Ideal ⟨2, ![5632, 2048]⟩ .f32) (one : FVec Ideal ⟨2, ![T, 5632]⟩ .f32) (hone : ∀ j, one j = Ideal.ofBits .f32 0x3F800000#32) :
    addf h (Host.dotGeneral (DotDims.plain T 5632 2048) none
        (mulf (mulf (Host.dotGeneral (DotDims.plain T 2048 5632) none x wg)
            (Host.divf one (addf one (Host.exp (Host.negf (Host.dotGeneral (DotDims.plain T 2048 5632) none x wg))))))
          (Host.dotGeneral (DotDims.plain T 2048 5632) none x wu)) wd)
      = fun i => layer h x wg wu wd (i 0) (i 1) := by
  funext i
  obtain ⟨r, c, rfl⟩ : ∃ (r : Fin T) (c : Fin 2048), i = ix2 r c := ⟨i 0, i 1, eq_ix2 i⟩
  rw [addf_apply, Idealize.ShloMosaic.StackMember.dotGeneral_plain_apply]
  refine congrArg (h _ + ·) (Finset.sum_congr rfl fun k _ => congrArg (· * wd _) ?_)
  have e : ∀ (g u : FVec Ideal ⟨2, ![T, 5632]⟩ .f32) (j), mulf (mulf g (Host.divf one (addf one (Host.exp (Host.negf g))))) u j
      = gated (g j) (u j) := fun g u j => by
    show g j * Ideal.div (one j) (one j + Ideal.exp (-g j)) * u j = _
    rw [hone, one_f32]
    rfl
  rw [e, Idealize.ShloMosaic.StackMember.dotGeneral_plain_apply, Idealize.ShloMosaic.StackMember.dotGeneral_plain_apply]
  rfl

end Cert.Ffn

end
-- ==== Proof.FfnPrompt.lean ====
/- The feed-forward call on the prompt batch (32768 rows in 32 blocks of 1024): which rows and hidden units each grid point's
   blocks are, and so the array after the run as the whole layer (`result`). -/
module

public import proofs.«01_k».proof.Proof.Gen.Kernel2Ideal.Value
public import proofs.«01_k».proof.Proof.FfnTile

@[expose] public section

noncomputable section

namespace Cert.Kernel2Ideal.Hand

open Cert.Kernel2Ideal Cert.Kernel2Ideal.Gen Cert.Kernel2Ideal.Value
open Idealize.ShloMosaic hiding ix2 eq_ix2
open Idealize.ShloMosaic.ValueIdx Idealize.ShloMosaic.TcCoe Idealize.SL.Sem

variable (m : (ℓ : Loc nD τ sig) → Buf (Elt Ideal) ℓ)

theorem pay (v3 : Vec Ideal S1024x2048 .bf16) (v4 v7 : Vec Ideal S2048x512 .bf16) (v20 : Vec Ideal S1024x2048 .f32)
    (v22 : Vec Ideal S512x2048 .bf16) : k0_pay1 v3 v4 v7 v20 v22 = Ffn.tile v3 v4 v7 v20 v22 bitsLt_bf16_f32 := by
  unfold k0_pay1
  simp only [shapeCast_self]
  rfl

/-- The block each window reads at point `t`: row block `t / 11`, hidden block `t % 11`. -/
theorem blocks : ∀ t : Fin cfg0.N,
    (win0_0.index t (0 : Fin 2) = t.val / 11 ∧ win0_0.index t (1 : Fin 2) = 0)
    ∧ (win0_1.index t (0 : Fin 2) = t.val / 11 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = t.val % 11)
    ∧ (win0_4.index t (0 : Fin 2) = t.val % 11 ∧ win0_4.index t (1 : Fin 2) = 0) :=
  (by decide +kernel : ∀ t : Fin grid0.N, _)

/-! The arrays the region starts on: the residual as given, the others rounded copies, which at the ideal instance are the same. -/

theorem arr1 (c : Dev nD) : V m c main_v3 = m ((c : Thread nD τ).loc main_arg1) := by
  show StableHlo.after hostOps0 _ _ = _; simp only [hostOps0]; after_results; rfl
theorem arr2 (c : Dev nD) : V m c main_v0 = m ((c : Thread nD τ).loc main_arg2) := by
  show StableHlo.after hostOps0 _ _ = _; simp only [hostOps0]; after_results; rfl
theorem arr3 (c : Dev nD) : V m c main_v1 = m ((c : Thread nD τ).loc main_arg3) := by
  show StableHlo.after hostOps0 _ _ = _; simp only [hostOps0]; after_results; rfl
theorem arr4 (c : Dev nD) : V m c main_v2 = m ((c : Thread nD τ).loc main_arg4) := by
  show StableHlo.after hostOps0 _ _ = _; simp only [hostOps0]; after_results; rfl

/-- The array after the run is the whole layer. -/
theorem result (c : Dev nD) : G5 m c = fun i : S32768x2048.Idx => Ffn.layer (m ((c : Thread nD τ).loc main_arg0))
    (m ((c : Thread nD τ).loc main_arg1)) (m ((c : Thread nD τ).loc main_arg2)) (m ((c : Thread nD τ).loc main_arg3))
    (m ((c : Thread nD τ).loc main_arg4)) (i 0) (i 1) := by
  funext i
  obtain ⟨p, q, rfl⟩ : ∃ (p : Fin 32768) (q : Fin 2048), i = ix2 p q := ⟨i 0, i 1, eq_ix2 i⟩
  have hp := p.isLt
  have hq := q.isLt
  have hr : run5Of (ix2 p q) = p.val / 1024 := by show 1 * (p.val / 1024 - 0) + 1 * (q.val / 2048 - 0) = _; omega
  have hl : loc5Of (ix2 p q) = ix2 (⟨p.val % 1024, Nat.mod_lt _ (by decide)⟩ : Fin 1024) q :=
    Ffn.idx_eq (R := 1024) (C := 2048) _ _ _ rfl (Nat.mod_eq_of_lt hq)
  have hN : cfg0.N = 352 := N_0
  unfold G5
  rw [dif_pos (by rw [hr, hN]; omega), hl]
  have e1 : reset5 m c = fun n hn => Ffn.tile (iblk m c 1 ⟨n, hn⟩) (iblk m c 2 ⟨n, hn⟩) (iblk m c 3 ⟨n, hn⟩) (iblk m c 0 ⟨n, hn⟩)
      (iblk m c 4 ⟨n, hn⟩) bitsLt_bf16_f32 := funext fun n => funext fun hn => pay ..
  have e2 : step5 m c = fun n hn acc => Ffn.tile (iblk m c 1 ⟨n, hn⟩) (iblk m c 2 ⟨n, hn⟩) (iblk m c 3 ⟨n, hn⟩) acc
      (iblk m c 4 ⟨n, hn⟩) bitsLt_bf16_f32 := funext fun n => funext fun hn => funext fun acc => pay ..
  rw [e1, e2]
  refine Ffn.fold_eq _ _ _ _ _ bitsLt_bf16_f32 (fun n hn => iblk m c 0 ⟨n, hn⟩) (fun n hn => iblk m c 1 ⟨n, hn⟩)
    (fun n hn => iblk m c 2 ⟨n, hn⟩) (fun n hn => iblk m c 3 ⟨n, hn⟩) (fun n hn => iblk m c 4 ⟨n, hn⟩)
    (fun n hn r d j hj => ?_) (fun n hn r d j hj => ?_) (fun n hn d k j hj => ?_) (fun n hn d k j hj => ?_) (fun n hn k d j hj => ?_)
    (run5Of (ix2 p q)) _ _ q p (by rw [hr]; show _ = _ * 1024 + p.val % 1024; omega)
    <;> obtain ⟨⟨a0, b0⟩, ⟨a1, b1⟩, ⟨a2, b2⟩, ⟨a3, b3⟩, a4, b4⟩ := blocks ⟨n, hn⟩
  · refine (congrArg (V m c main_arg0) (Ffn.idx_eq _ j d ?_ ?_)).trans (congrFun (V_main_arg0 m c) _)
    · show win0_0.index ⟨n, hn⟩ (0 : Fin 2) * 1024 + 1 * r.val = j.val; rw [a0, hj, Nat.one_mul]
    · show win0_0.index ⟨n, hn⟩ (1 : Fin 2) * 2048 + 1 * d.val = d.val; rw [b0]; omega
  · refine (congrArg (V m c main_v3) (Ffn.idx_eq _ j d ?_ ?_)).trans (congrFun (arr1 m c) _)
    · show win0_1.index ⟨n, hn⟩ (0 : Fin 2) * 1024 + 1 * r.val = j.val; rw [a1, hj, Nat.one_mul]
    · show win0_1.index ⟨n, hn⟩ (1 : Fin 2) * 2048 + 1 * d.val = d.val; rw [b1]; omega
  · refine (congrArg (V m c main_v0) (Ffn.idx_eq _ d j ?_ ?_)).trans (congrFun (arr2 m c) _)
    · show win0_2.index ⟨n, hn⟩ (0 : Fin 2) * 2048 + 1 * d.val = d.val; rw [a2]; omega
    · show win0_2.index ⟨n, hn⟩ (1 : Fin 2) * 512 + 1 * k.val = j.val; rw [b2, hj, Nat.one_mul]
  · refine (congrArg (V m c main_v1) (Ffn.idx_eq _ d j ?_ ?_)).trans (congrFun (arr3 m c) _)
    · show win0_3.index ⟨n, hn⟩ (0 : Fin 2) * 2048 + 1 * d.val = d.val; rw [a3]; omega
    · show win0_3.index ⟨n, hn⟩ (1 : Fin 2) * 512 + 1 * k.val = j.val; rw [b3, hj, Nat.one_mul]
  · refine (congrArg (V m c main_v2) (Ffn.idx_eq _ j d ?_ ?_)).trans (congrFun (arr4 m c) _)
    · show win0_4.index ⟨n, hn⟩ (0 : Fin 2) * 512 + 1 * k.val = j.val; rw [a4, hj, Nat.one_mul]
    · show win0_4.index ⟨n, hn⟩ (1 : Fin 2) * 2048 + 1 * d.val = d.val; rw [b4]; omega

end Cert.Kernel2Ideal.Hand

end
-- ==== Proof.FfnSample.lean ====
/- The feed-forward call on the sample batch (256 rows, one block): which rows and hidden units each grid point's
   blocks are, and so the array after the run as the whole layer (`result`). -/
module

public import proofs.«01_k».proof.Proof.Gen.Kernel3Ideal.Value
public import proofs.«01_k».proof.Proof.FfnTile

@[expose] public section

noncomputable section

namespace Cert.Kernel3Ideal.Hand

open Cert.Kernel3Ideal Cert.Kernel3Ideal.Gen Cert.Kernel3Ideal.Value
open Idealize.ShloMosaic hiding ix2 eq_ix2
open Idealize.ShloMosaic.ValueIdx Idealize.ShloMosaic.TcCoe Idealize.SL.Sem

variable (m : (ℓ : Loc nD τ sig) → Buf (Elt Ideal) ℓ)

theorem pay (v3 : Vec Ideal S256x2048 .bf16) (v4 v7 : Vec Ideal S2048x512 .bf16) (v20 : Vec Ideal S256x2048 .f32)
    (v22 : Vec Ideal S512x2048 .bf16) : k0_pay1 v3 v4 v7 v20 v22 = Ffn.tile v3 v4 v7 v20 v22 bitsLt_bf16_f32 := by
  unfold k0_pay1
  simp only [shapeCast_self]
  rfl

/-- The block each window reads at point `t`: the one row block, hidden block `t % 11`. -/
theorem blocks : ∀ t : Fin cfg0.N,
    (win0_0.index t (0 : Fin 2) = t.val / 11 ∧ win0_0.index t (1 : Fin 2) = 0)
    ∧ (win0_1.index t (0 : Fin 2) = t.val / 11 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = t.val % 11)
    ∧ (win0_4.index t (0 : Fin 2) = t.val % 11 ∧ win0_4.index t (1 : Fin 2) = 0) :=
  (by decide +kernel : ∀ t : Fin grid0.N, _)

/-! The arrays the region starts on: the residual as given, the others rounded copies, which at the ideal instance are the same. -/

theorem arr1 (c : Dev nD) : V m c main_v3 = m ((c : Thread nD τ).loc main_arg1) := by
  show StableHlo.after hostOps0 _ _ = _; simp only [hostOps0]; after_results; rfl
theorem arr2 (c : Dev nD) : V m c main_v0 = m ((c : Thread nD τ).loc main_arg2) := by
  show StableHlo.after hostOps0 _ _ = _; simp only [hostOps0]; after_results; rfl
theorem arr3 (c : Dev nD) : V m c main_v1 = m ((c : Thread nD τ).loc main_arg3) := by
  show StableHlo.after hostOps0 _ _ = _; simp only [hostOps0]; after_results; rfl
theorem arr4 (c : Dev nD) : V m c main_v2 = m ((c : Thread nD τ).loc main_arg4) := by
  show StableHlo.after hostOps0 _ _ = _; simp only [hostOps0]; after_results; rfl

/-- The array after the run is the whole layer. -/
theorem result (c : Dev nD) : G5 m c = fun i : S256x2048.Idx => Ffn.layer (m ((c : Thread nD τ).loc main_arg0))
    (m ((c : Thread nD τ).loc main_arg1)) (m ((c : Thread nD τ).loc main_arg2)) (m ((c : Thread nD τ).loc main_arg3))
    (m ((c : Thread nD τ).loc main_arg4)) (i 0) (i 1) := by
  funext i
  obtain ⟨p, q, rfl⟩ : ∃ (p : Fin 256) (q : Fin 2048), i = ix2 p q := ⟨i 0, i 1, eq_ix2 i⟩
  have hp := p.isLt
  have hq := q.isLt
  have hr : run5Of (ix2 p q) = p.val / 256 := by show 1 * (p.val / 256 - 0) + 1 * (q.val / 2048 - 0) = _; omega
  have hl : loc5Of (ix2 p q) = ix2 (⟨p.val % 256, Nat.mod_lt _ (by decide)⟩ : Fin 256) q :=
    Ffn.idx_eq (R := 256) (C := 2048) _ _ _ rfl (Nat.mod_eq_of_lt hq)
  have hN : cfg0.N = 11 := N_0
  unfold G5
  rw [dif_pos (by rw [hr, hN]; omega), hl]
  have e1 : reset5 m c = fun n hn => Ffn.tile (iblk m c 1 ⟨n, hn⟩) (iblk m c 2 ⟨n, hn⟩) (iblk m c 3 ⟨n, hn⟩) (iblk m c 0 ⟨n, hn⟩)
      (iblk m c 4 ⟨n, hn⟩) bitsLt_bf16_f32 := funext fun n => funext fun hn => pay ..
  have e2 : step5 m c = fun n hn acc => Ffn.tile (iblk m c 1 ⟨n, hn⟩) (iblk m c 2 ⟨n, hn⟩) (iblk m c 3 ⟨n, hn⟩) acc
      (iblk m c 4 ⟨n, hn⟩) bitsLt_bf16_f32 := funext fun n => funext fun hn => funext fun acc => pay ..
  rw [e1, e2]
  refine Ffn.fold_eq _ _ _ _ _ bitsLt_bf16_f32 (fun n hn => iblk m c 0 ⟨n, hn⟩) (fun n hn => iblk m c 1 ⟨n, hn⟩)
    (fun n hn => iblk m c 2 ⟨n, hn⟩) (fun n hn => iblk m c 3 ⟨n, hn⟩) (fun n hn => iblk m c 4 ⟨n, hn⟩)
    (fun n hn r d j hj => ?_) (fun n hn r d j hj => ?_) (fun n hn d k j hj => ?_) (fun n hn d k j hj => ?_) (fun n hn k d j hj => ?_)
    (run5Of (ix2 p q)) _ _ q p (by rw [hr]; show _ = _ * 256 + p.val % 256; omega)
    <;> obtain ⟨⟨a0, b0⟩, ⟨a1, b1⟩, ⟨a2, b2⟩, ⟨a3, b3⟩, a4, b4⟩ := blocks ⟨n, hn⟩
  · refine (congrArg (V m c main_arg0) (Ffn.idx_eq _ j d ?_ ?_)).trans (congrFun (V_main_arg0 m c) _)
    · show win0_0.index ⟨n, hn⟩ (0 : Fin 2) * 256 + 1 * r.val = j.val; rw [a0, hj, Nat.one_mul]
    · show win0_0.index ⟨n, hn⟩ (1 : Fin 2) * 2048 + 1 * d.val = d.val; rw [b0]; omega
  · refine (congrArg (V m c main_v3) (Ffn.idx_eq _ j d ?_ ?_)).trans (congrFun (arr1 m c) _)
    · show win0_1.index ⟨n, hn⟩ (0 : Fin 2) * 256 + 1 * r.val = j.val; rw [a1, hj, Nat.one_mul]
    · show win0_1.index ⟨n, hn⟩ (1 : Fin 2) * 2048 + 1 * d.val = d.val; rw [b1]; omega
  · refine (congrArg (V m c main_v0) (Ffn.idx_eq _ d j ?_ ?_)).trans (congrFun (arr2 m c) _)
    · show win0_2.index ⟨n, hn⟩ (0 : Fin 2) * 2048 + 1 * d.val = d.val; rw [a2]; omega
    · show win0_2.index ⟨n, hn⟩ (1 : Fin 2) * 512 + 1 * k.val = j.val; rw [b2, hj, Nat.one_mul]
  · refine (congrArg (V m c main_v1) (Ffn.idx_eq _ d j ?_ ?_)).trans (congrFun (arr3 m c) _)
    · show win0_3.index ⟨n, hn⟩ (0 : Fin 2) * 2048 + 1 * d.val = d.val; rw [a3]; omega
    · show win0_3.index ⟨n, hn⟩ (1 : Fin 2) * 512 + 1 * k.val = j.val; rw [b3, hj, Nat.one_mul]
  · refine (congrArg (V m c main_v2) (Ffn.idx_eq _ j d ?_ ?_)).trans (congrFun (arr4 m c) _)
    · show win0_4.index ⟨n, hn⟩ (0 : Fin 2) * 512 + 1 * k.val = j.val; rw [a4, hj, Nat.one_mul]
    · show win0_4.index ⟨n, hn⟩ (1 : Fin 2) * 2048 + 1 * d.val = d.val; rw [b4]; omega

end Cert.Kernel3Ideal.Hand

end
-- ==== Proof.lean ====
/- The certificate's claims: the frame of the attention call, and for the feed-forward call, the input projection, the output
   projection (each on the prompt batch and on the sample batch) and the recurrence on the sample batch the five claims up to
   the equality with the plain layer. -/
module

public import proofs.«01_k».proof.Defs
public import proofs.«01_k».proof.Proof.Gen.Kernel
public import proofs.«01_k».proof.Proof.AttnFrame
public import proofs.«01_k».proof.Proof.Gen.Kernel2.Frame
public import proofs.«01_k».proof.Proof.Gen.Kernel2Ideal.Value
public import proofs.«01_k».proof.Proof.Gen.Kernel3.Frame
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.ProjPromptEq
public import proofs.«01_k».proof.Proof.ProjSampleEq
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.OutPrompt
public import proofs.«01_k».proof.Proof.OutPromptRef
public import proofs.«01_k».proof.Proof.OutSample
public import proofs.«01_k».proof.Proof.OutSampleRef
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Pre_decays_finite
public import proofs.«01_k».proof.Proof.GlaSampleEq
public import Idealize.ShloMosaic.Adequacy
public import Idealize.ShloMosaic.Init
public import Idealize.ShloMosaic.Lib.Quiescent
public import proofs.«01_k».proof.Proof.FfnPrompt
public import proofs.«01_k».proof.Proof.FfnSample

@[expose] public section

noncomputable section

namespace Cert.Proof

open Idealize.ShloMosaic Idealize.SL.Sem

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2.2.2.2.2.2.2.2.2.2.2.2.2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2.2.2.2.2.2.2.2.2.2.2.2.2, sem_eq_zero_of_no_sems (by decide) r.2⟩)
    (Cert.Reference5Ideal.Value.run (F := Ideal) m ρ)

theorem quiescent_Reference6Ideal : quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem quiescent_Reference7Ideal : quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  rw [Cert.Kernel2Ideal.Hand.result]
  simp only [hagree c]
  exact Cert.Ffn.plain_eq _ _ _ _ _ _ (fun _ => rfl)

theorem algebraic_Kernel3Ideal_Reference3Ideal : algebraic_Kernel3Ideal_Reference3Ideal := by
  intro m ρ m' ρ' _ hagree
  refine ⟨_, Cert.Kernel3Ideal.Value.run (F := Ideal) m ρ, ?_⟩
  refine (θ_run Cert.Reference3Ideal.defs _ _).mono (fun _ h c => ⟨?_, (h c).2⟩) (Cert.Reference3Ideal.Value.run (F := Ideal) m' ρ')
  rw [(h c).1]
  rw [Cert.Kernel3Ideal.Hand.result]
  simp only [hagree c]
  exact Cert.Ffn.plain_eq _ _ _ _ _ _ (fun _ => rfl)

theorem algebraic_Kernel4Ideal_Reference4Ideal : Cert.algebraic_Kernel4Ideal_Reference4Ideal := by
  intro m ρ m' ρ' _ hagree
  refine ⟨_, _, _, _, _, _, _, _, _, _, _, _, _, Cert.Kernel4Ideal.Hand.run m ρ, ?_⟩
  refine (θ_run Cert.Reference4Ideal.defs _ _).mono (fun _ h c => ?_) (Cert.Reference4Ideal.Value.run (F := Ideal) m' ρ')
  obtain ⟨h1, h2, h3, h4, h5, h6, h7, h8, h9, h10, h11, h12, h13, hk⟩ := h c
  obtain ⟨e1, e2, e3, e4, e5, e6, e7, e8, e9, e10, e11, e12, e13⟩ := Cert.Kernel4Ideal.Hand.agree
    (Cert.Kernel4Ideal.Hand.cols m c) (Cert.Reference4Ideal.Hand.cols
      (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2)))
    (fun b t k j hj => by
      rw [Cert.Reference4Ideal.Hand.cols_eq, (hagree c).1, (hagree c).2.1, (hagree c).2.2]
      exact Cert.Kernel4Ideal.Hand.value m c b t k j hj)
  exact ⟨h1.trans e1.symm, h2.trans e2.symm, h3.trans e3.symm, h4.trans e4.symm, h5.trans e5.symm, h6.trans e6.symm,
    h7.trans e7.symm, h8.trans e8.symm, h9.trans e9.symm, h10.trans e10.symm, h11.trans e11.symm, h12.trans e12.symm,
    h13.trans e13.symm, hk⟩

theorem algebraic_Kernel5Ideal_Reference5Ideal : Cert.algebraic_Kernel5Ideal_Reference5Ideal := by
  intro m ρ m' ρ' _ hagree
  refine ⟨_, _, _, _, _, _, _, _, _, _, _, _, _, Cert.Kernel5Ideal.Hand.run m ρ, ?_⟩
  refine (θ_run Cert.Reference5Ideal.defs _ _).mono (fun _ h c => ?_) (Cert.Reference5Ideal.Value.run (F := Ideal) m' ρ')
  obtain ⟨h1, h2, h3, h4, h5, h6, h7, h8, h9, h10, h11, h12, h13, hk⟩ := h c
  obtain ⟨e1, e2, e3, e4, e5, e6, e7, e8, e9, e10, e11, e12, e13⟩ := Cert.Kernel5Ideal.Hand.agree
    (m' ((c.tc : Thread Cert.Reference5Ideal.nD Cert.Reference5Ideal.τ).loc Cert.Reference5Ideal.main_arg1))
    (Cert.Kernel5Ideal.Hand.cols m c) (Cert.Reference5Ideal.Hand.cols
      (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg2))
      (m' ((c.tc : Thread Cert.Reference5Ideal.nD Cert.Reference5Ideal.τ).loc Cert.Reference5Ideal.main_arg3)))
    (fun b t k j hj => by
      rw [Cert.Reference5Ideal.Hand.cols_eq, (hagree c).1, (hagree c).2.2.1, (hagree c).2.2.2]
      exact Cert.Kernel5Ideal.Hand.value m c b t k j hj)
  exact ⟨h1.trans e1.symm, h2.trans e2.symm, h3.trans e3.symm, h4.trans e4.symm, h5.trans e5.symm, h6.trans e6.symm,
    h7.trans e7.symm, h8.trans e8.symm, h9.trans e9.symm, h10.trans e10.symm, h11.trans e11.symm, h12.trans e12.symm,
    h13.trans e13.symm, hk⟩

theorem algebraic_Kernel6Ideal_Reference6Ideal : Cert.algebraic_Kernel6Ideal_Reference6Ideal := by
  intro m ρ m' ρ' _ hagree
  refine ⟨_, _, Cert.Kernel6Ideal.Value.run_blocks (F := Ideal) m ρ, ?_⟩
  refine (θ_run Cert.Reference6Ideal.defs _ _).mono (fun _ h c => ?_) (Cert.Reference6Ideal.Value.run (F := Ideal) m' ρ')
  have key : ∀ (p : Fin 32768) (d : Fin 2048), _ = Cert.Kernel6Ideal.Hand.res m c p d := fun p d =>
    (Cert.Reference6Ideal.Hand.resid_eq
      (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1))
      (m' ((c.tc : Thread Cert.Reference6Ideal.nD Cert.Reference6Ideal.τ).loc Cert.Reference6Ideal.main_arg2))
      (m' ((c.tc : Thread Cert.Reference6Ideal.nD Cert.Reference6Ideal.τ).loc Cert.Reference6Ideal.main_arg3))
      (m' ((c.tc : Thread Cert.Reference6Ideal.nD Cert.Reference6Ideal.τ).loc Cert.Reference6Ideal.main_arg4)) p d).trans (by
      simp only [hagree c]
      rfl)
  refine ⟨(h c).1.trans ?_, (h c).2.1.trans ?_, (h c).2.2⟩
  · rw [Cert.Kernel6Ideal.Hand.array6]
    funext i
    obtain ⟨p, d, rfl⟩ : ∃ (p : Fin 32768) (d : Fin 2048), i = ix2 p d := ⟨i 0, i 1, eq_ix2 i⟩
    exact key p d
  · rw [Cert.Kernel6Ideal.Hand.array7]
    funext i
    obtain ⟨p, d, rfl⟩ : ∃ (p : Fin 32768) (d : Fin 2048), i = ix2 p d := ⟨i 0, i 1, eq_ix2 i⟩
    refine (Cert.Reference6Ideal.Hand.norm_eq _ _ p d).trans (Cert.Out.normed_congr (key p) (fun e => ?_) rfl)
    rw [(hagree c).2.2.2.2.2]

theorem algebraic_Kernel7Ideal_Reference7Ideal : Cert.algebraic_Kernel7Ideal_Reference7Ideal := by
  intro m ρ m' ρ' _ hagree
  refine ⟨_, _, Cert.Kernel7Ideal.Value.run_blocks (F := Ideal) m ρ, ?_⟩
  refine (θ_run Cert.Reference7Ideal.defs _ _).mono (fun _ h c => ?_) (Cert.Reference7Ideal.Value.run (F := Ideal) m' ρ')
  have key : ∀ (p : Fin 256) (d : Fin 2048), _ = Cert.Kernel7Ideal.Hand.res m c p d := fun p d =>
    (Cert.Reference7Ideal.Hand.resid_eq
      (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2))
      (m' ((c.tc : Thread Cert.Reference7Ideal.nD Cert.Reference7Ideal.τ).loc Cert.Reference7Ideal.main_arg3))
      (m' ((c.tc : Thread Cert.Reference7Ideal.nD Cert.Reference7Ideal.τ).loc Cert.Reference7Ideal.main_arg4)) p d).trans (by
      simp only [hagree c]
      rfl)
  refine ⟨(h c).1.trans ?_, (h c).2.1.trans ?_, (h c).2.2⟩
  · rw [Cert.Kernel7Ideal.Hand.array6]
    funext i
    obtain ⟨p, d, rfl⟩ : ∃ (p : Fin 256) (d : Fin 2048), i = ix2 p d := ⟨i 0, i 1, eq_ix2 i⟩
    exact key p d
  · rw [Cert.Kernel7Ideal.Hand.array7]
    funext i
    obtain ⟨p, d, rfl⟩ : ∃ (p : Fin 256) (d : Fin 2048), i = ix2 p d := ⟨i 0, i 1, eq_ix2 i⟩
    refine (Cert.Reference7Ideal.Hand.norm_eq _ _ p d).trans (Cert.Out.normed_congr (key p) (fun e => ?_) rfl)
    rw [(hagree c).2.2.2.2.2]

theorem quiescent_Reference8Ideal : quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem algebraic_Kernel8Ideal_Reference8Ideal_pre_decays_finite : Cert.algebraic_Kernel8Ideal_Reference8Ideal_pre_decays_finite := by
  intro m ρ m' ρ' pre hagree
  refine ⟨_, Cert.Kernel8Ideal.Hand.run m ρ, ?_⟩
  refine (θ_run Cert.Reference8Ideal.defs _ _).mono (fun _ h c => ⟨(h c).1.trans ?_, (h c).2⟩) (Cert.Reference8Ideal.Value.run (F := Ideal) m' ρ')
  rw [Cert.Kernel8Ideal.Hand.value m c (Cert.Kernel8Ideal.Hand.finite _ _ _ _ _ _ _ (pre c))]
  simp only [hagree c]
  rfl

theorem claim : Cert.Claim := ⟨Cert.Kernel.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_decays_finite.Gen.facts,
  fun m ρ _ => Cert.Kernel.Hand.frame_attn m ρ, fun m ρ _ => Cert.Kernel2.Gen.frame m ρ, fun m ρ _ => Cert.Kernel2Ideal.Gen.frame m ρ, quiescent_Reference2Ideal, fun m ρ _ => Cert.Kernel3.Gen.frame m ρ, fun m ρ _ => Cert.Kernel3Ideal.Gen.frame m ρ, quiescent_Reference3Ideal, fun m ρ _ => Cert.Kernel4.Gen.frame m ρ, fun m ρ _ => Cert.Kernel4Ideal.Gen.frame m ρ, quiescent_Reference4Ideal, fun m ρ _ => Cert.Kernel5.Gen.frame m ρ, fun m ρ _ => Cert.Kernel5Ideal.Gen.frame m ρ, quiescent_Reference5Ideal, fun m ρ _ => Cert.Kernel6.Gen.frame m ρ, fun m ρ _ => Cert.Kernel6Ideal.Gen.frame m ρ, quiescent_Reference6Ideal, fun m ρ _ => Cert.Kernel7.Gen.frame m ρ, fun m ρ _ => Cert.Kernel7Ideal.Gen.frame m ρ, quiescent_Reference7Ideal, fun m ρ _ => Cert.Kernel8.Gen.frame m ρ, fun m ρ _ => Cert.Kernel8Ideal.Gen.frame m ρ, fun m ρ _ => Cert.Kernel8Ideal.Gen.frame m ρ, quiescent_Reference8Ideal, fun m ρ _ => quiescent_Reference8Ideal m ρ trivial,
  (trivial : preserves_Kernel2_Kernel2Ideal), algebraic_Kernel2Ideal_Reference2Ideal, (trivial : preserves_Kernel3_Kernel3Ideal), algebraic_Kernel3Ideal_Reference3Ideal, (trivial : preserves_Kernel4_Kernel4Ideal), algebraic_Kernel4Ideal_Reference4Ideal, (trivial : preserves_Kernel5_Kernel5Ideal), algebraic_Kernel5Ideal_Reference5Ideal, (trivial : preserves_Kernel6_Kernel6Ideal), algebraic_Kernel6Ideal_Reference6Ideal, (trivial : preserves_Kernel7_Kernel7Ideal), algebraic_Kernel7Ideal_Reference7Ideal, (trivial : preserves_Kernel8_Kernel8Ideal), algebraic_Kernel8Ideal_Reference8Ideal_pre_decays_finite⟩

end Cert.Proof

end
